-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_real_gain [hPre_real_gain : Cert.Pre_real_gain.Facts] (m : (ℓ : Loc Cert.GqaIdeal.nD Cert.GqaIdeal.τ Cert.GqaIdeal.sig) → Buf (Elt Ideal) ℓ) : Prop :=
  ∀ c : Dev Cert.GqaIdeal.nD,
    (Cert.Pre_real_gain.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_real_gain [hPre_real_gain : Cert.Pre_real_gain.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_real_gain.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1))) = (fun _ => 1#1)

def Pre_InAtt (m : (ℓ : Loc Cert.InAtt.nD Cert.InAtt.τ Cert.InAtt.sig) → Buf (Elt Bits) ℓ) : Prop :=
  True

def Pre_InAttIdeal (m : (ℓ : Loc Cert.InAttIdeal.nD Cert.InAttIdeal.τ Cert.InAttIdeal.sig) → Buf (Elt Ideal) ℓ) : Prop :=
  True

def Pre_InAttRefIdeal (m : (ℓ : Loc Cert.InAttRefIdeal.nD Cert.InAttRefIdeal.τ Cert.InAttRefIdeal.sig) → Buf (Elt Ideal) ℓ) : Prop :=
  True

def Pre_InRec (m : (ℓ : Loc Cert.InRec.nD Cert.InRec.τ Cert.InRec.sig) → Buf (Elt Bits) ℓ) : Prop :=
  True

def Pre_InRecIdeal (m : (ℓ : Loc Cert.InRecIdeal.nD Cert.InRecIdeal.τ Cert.InRecIdeal.sig) → Buf (Elt Ideal) ℓ) : Prop :=
  True

def Pre_InRecRefIdeal (m : (ℓ : Loc Cert.InRecRefIdeal.nD Cert.InRecRefIdeal.τ Cert.InRecRefIdeal.sig) → Buf (Elt Ideal) ℓ) : Prop :=
  True

def Pre_OutMix (m : (ℓ : Loc Cert.OutMix.nD Cert.OutMix.τ Cert.OutMix.sig) → Buf (Elt Bits) ℓ) : Prop :=
  True

def Pre_OutMixIdeal (m : (ℓ : Loc Cert.OutMixIdeal.nD Cert.OutMixIdeal.τ Cert.OutMixIdeal.sig) → Buf (Elt Ideal) ℓ) : Prop :=
  True

def Pre_OutMixRefIdeal (m : (ℓ : Loc Cert.OutMixRefIdeal.nD Cert.OutMixRefIdeal.τ Cert.OutMixRefIdeal.sig) → Buf (Elt Ideal) ℓ) : Prop :=
  True

def Pre_Experts [hPre_in_range : Cert.Pre_in_range.Facts] (m : (ℓ : Loc Cert.Experts.nD Cert.Experts.τ Cert.Experts.sig) → Buf (Elt Bits) ℓ) : Prop :=
  ∀ c : Dev Cert.Experts.nD,
    (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_in_range : Cert.Pre_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_in_range [hPre_in_range : Cert.Pre_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1))
      ∧ r.2.sem = fun _ => 0)

def quiescent_GqaIdeal_pre_real_gain [hGqaIdeal : Cert.GqaIdeal.Facts] [hPre_real_gain : Cert.Pre_real_gain.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_real_gain m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1))
      ∧ r.2.sem = fun _ => 0)

def quiescent_GqaRefIdeal_pre_real_gain [hGqaRefIdeal : Cert.GqaRefIdeal.Facts] [hPre_real_gain : Cert.Pre_real_gain.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_real_gain m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1))
      ∧ r.2.sem = fun _ => 0)

def quiescent_InAtt [hInAtt : Cert.InAtt.Facts] : Prop :=
  ∀ (m : (ℓ : Loc Cert.InAtt.nD Cert.InAtt.τ Cert.InAtt.sig) → Buf (Elt Bits) ℓ) (g : Dev Cert.InAtt.nD → PrngReg), Pre_InAtt m →
    θ_run (Cert.InAtt.defs (F := Bits)) (onTc (τ := Cert.InAtt.τ) (Cert.InAtt.main (F := Bits))) ⟨m, fun _ => 0, g⟩ (fun r => (∀ c : Dev Cert.InAtt.nD,
      r.2.mem ((c.tc : Thread Cert.InAtt.nD Cert.InAtt.τ).loc Cert.InAtt.main_arg0) = m ((c.tc : Thread Cert.InAtt.nD Cert.InAtt.τ).loc Cert.InAtt.main_arg0)
      ∧ r.2.mem ((c.tc : Thread Cert.InAtt.nD Cert.InAtt.τ).loc Cert.InAtt.main_arg1) = m ((c.tc : Thread Cert.InAtt.nD Cert.InAtt.τ).loc Cert.InAtt.main_arg1)
      ∧ r.2.mem ((c.tc : Thread Cert.InAtt.nD Cert.InAtt.τ).loc Cert.InAtt.main_arg2) = m ((c.tc : Thread Cert.InAtt.nD Cert.InAtt.τ).loc Cert.InAtt.main_arg2)
      ∧ r.2.mem ((c.tc : Thread Cert.InAtt.nD Cert.InAtt.τ).loc Cert.InAtt.main_arg3) = m ((c.tc : Thread Cert.InAtt.nD Cert.InAtt.τ).loc Cert.InAtt.main_arg3)
      ∧ r.2.mem ((c.tc : Thread Cert.InAtt.nD Cert.InAtt.τ).loc Cert.InAtt.main_arg4) = m ((c.tc : Thread Cert.InAtt.nD Cert.InAtt.τ).loc Cert.InAtt.main_arg4))
      ∧ r.2.sem = fun _ => 0)

def quiescent_InAttIdeal [hInAttIdeal : Cert.InAttIdeal.Facts] : Prop :=
  ∀ (m : (ℓ : Loc Cert.InAttIdeal.nD Cert.InAttIdeal.τ Cert.InAttIdeal.sig) → Buf (Elt Ideal) ℓ) (g : Dev Cert.InAttIdeal.nD → PrngReg), Pre_InAttIdeal m →
    θ_run (Cert.InAttIdeal.defs (F := Ideal)) (onTc (τ := Cert.InAttIdeal.τ) (Cert.InAttIdeal.main (F := Ideal))) ⟨m, fun _ => 0, g⟩ (fun r => (∀ c : Dev Cert.InAttIdeal.nD,
      r.2.mem ((c.tc : Thread Cert.InAttIdeal.nD Cert.InAttIdeal.τ).loc Cert.InAttIdeal.main_arg0) = m ((c.tc : Thread Cert.InAttIdeal.nD Cert.InAttIdeal.τ).loc Cert.InAttIdeal.main_arg0)
      ∧ r.2.mem ((c.tc : Thread Cert.InAttIdeal.nD Cert.InAttIdeal.τ).loc Cert.InAttIdeal.main_arg1) = m ((c.tc : Thread Cert.InAttIdeal.nD Cert.InAttIdeal.τ).loc Cert.InAttIdeal.main_arg1)
      ∧ r.2.mem ((c.tc : Thread Cert.InAttIdeal.nD Cert.InAttIdeal.τ).loc Cert.InAttIdeal.main_arg2) = m ((c.tc : Thread Cert.InAttIdeal.nD Cert.InAttIdeal.τ).loc Cert.InAttIdeal.main_arg2)
      ∧ r.2.mem ((c.tc : Thread Cert.InAttIdeal.nD Cert.InAttIdeal.τ).loc Cert.InAttIdeal.main_arg3) = m ((c.tc : Thread Cert.InAttIdeal.nD Cert.InAttIdeal.τ).loc Cert.InAttIdeal.main_arg3)
      ∧ r.2.mem ((c.tc : Thread Cert.InAttIdeal.nD Cert.InAttIdeal.τ).loc Cert.InAttIdeal.main_arg4) = m ((c.tc : Thread Cert.InAttIdeal.nD Cert.InAttIdeal.τ).loc Cert.InAttIdeal.main_arg4))
      ∧ r.2.sem = fun _ => 0)

def quiescent_InAttRefIdeal [hInAttRefIdeal : Cert.InAttRefIdeal.Facts] : Prop :=
  ∀ (m : (ℓ : Loc Cert.InAttRefIdeal.nD Cert.InAttRefIdeal.τ Cert.InAttRefIdeal.sig) → Buf (Elt Ideal) ℓ) (g : Dev Cert.InAttRefIdeal.nD → PrngReg), Pre_InAttRefIdeal m →
    θ_run (Cert.InAttRefIdeal.defs (F := Ideal)) (onTc (τ := Cert.InAttRefIdeal.τ) (Cert.InAttRefIdeal.main (F := Ideal))) ⟨m, fun _ => 0, g⟩ (fun r => (∀ c : Dev Cert.InAttRefIdeal.nD,
      r.2.mem ((c.tc : Thread Cert.InAttRefIdeal.nD Cert.InAttRefIdeal.τ).loc Cert.InAttRefIdeal.main_arg0) = m ((c.tc : Thread Cert.InAttRefIdeal.nD Cert.InAttRefIdeal.τ).loc Cert.InAttRefIdeal.main_arg0)
      ∧ r.2.mem ((c.tc : Thread Cert.InAttRefIdeal.nD Cert.InAttRefIdeal.τ).loc Cert.InAttRefIdeal.main_arg1) = m ((c.tc : Thread Cert.InAttRefIdeal.nD Cert.InAttRefIdeal.τ).loc Cert.InAttRefIdeal.main_arg1)
      ∧ r.2.mem ((c.tc : Thread Cert.InAttRefIdeal.nD Cert.InAttRefIdeal.τ).loc Cert.InAttRefIdeal.main_arg2) = m ((c.tc : Thread Cert.InAttRefIdeal.nD Cert.InAttRefIdeal.τ).loc Cert.InAttRefIdeal.main_arg2)
      ∧ r.2.mem ((c.tc : Thread Cert.InAttRefIdeal.nD Cert.InAttRefIdeal.τ).loc Cert.InAttRefIdeal.main_arg3) = m ((c.tc : Thread Cert.InAttRefIdeal.nD Cert.InAttRefIdeal.τ).loc Cert.InAttRefIdeal.main_arg3)
      ∧ r.2.mem ((c.tc : Thread Cert.InAttRefIdeal.nD Cert.InAttRefIdeal.τ).loc Cert.InAttRefIdeal.main_arg4) = m ((c.tc : Thread Cert.InAttRefIdeal.nD Cert.InAttRefIdeal.τ).loc Cert.InAttRefIdeal.main_arg4))
      ∧ r.2.sem = fun _ => 0)

def quiescent_InRec [hInRec : Cert.InRec.Facts] : Prop :=
  ∀ (m : (ℓ : Loc Cert.InRec.nD Cert.InRec.τ Cert.InRec.sig) → Buf (Elt Bits) ℓ) (g : Dev Cert.InRec.nD → PrngReg), Pre_InRec m →
    θ_run (Cert.InRec.defs (F := Bits)) (onTc (τ := Cert.InRec.τ) (Cert.InRec.main (F := Bits))) ⟨m, fun _ => 0, g⟩ (fun r => (∀ c : Dev Cert.InRec.nD,
      r.2.mem ((c.tc : Thread Cert.InRec.nD Cert.InRec.τ).loc Cert.InRec.main_arg0) = m ((c.tc : Thread Cert.InRec.nD Cert.InRec.τ).loc Cert.InRec.main_arg0)
      ∧ r.2.mem ((c.tc : Thread Cert.InRec.nD Cert.InRec.τ).loc Cert.InRec.main_arg1) = m ((c.tc : Thread Cert.InRec.nD Cert.InRec.τ).loc Cert.InRec.main_arg1)
      ∧ r.2.mem ((c.tc : Thread Cert.InRec.nD Cert.InRec.τ).loc Cert.InRec.main_arg2) = m ((c.tc : Thread Cert.InRec.nD Cert.InRec.τ).loc Cert.InRec.main_arg2)
      ∧ r.2.mem ((c.tc : Thread Cert.InRec.nD Cert.InRec.τ).loc Cert.InRec.main_arg3) = m ((c.tc : Thread Cert.InRec.nD Cert.InRec.τ).loc Cert.InRec.main_arg3)
      ∧ r.2.mem ((c.tc : Thread Cert.InRec.nD Cert.InRec.τ).loc Cert.InRec.main_arg4) = m ((c.tc : Thread Cert.InRec.nD Cert.InRec.τ).loc Cert.InRec.main_arg4))
      ∧ r.2.sem = fun _ => 0)

def quiescent_InRecIdeal [hInRecIdeal : Cert.InRecIdeal.Facts] : Prop :=
  ∀ (m : (ℓ : Loc Cert.InRecIdeal.nD Cert.InRecIdeal.τ Cert.InRecIdeal.sig) → Buf (Elt Ideal) ℓ) (g : Dev Cert.InRecIdeal.nD → PrngReg), Pre_InRecIdeal m →
    θ_run (Cert.InRecIdeal.defs (F := Ideal)) (onTc (τ := Cert.InRecIdeal.τ) (Cert.InRecIdeal.main (F := Ideal))) ⟨m, fun _ => 0, g⟩ (fun r => (∀ c : Dev Cert.InRecIdeal.nD,
      r.2.mem ((c.tc : Thread Cert.InRecIdeal.nD Cert.InRecIdeal.τ).loc Cert.InRecIdeal.main_arg0) = m ((c.tc : Thread Cert.InRecIdeal.nD Cert.InRecIdeal.τ).loc Cert.InRecIdeal.main_arg0)
      ∧ r.2.mem ((c.tc : Thread Cert.InRecIdeal.nD Cert.InRecIdeal.τ).loc Cert.InRecIdeal.main_arg1) = m ((c.tc : Thread Cert.InRecIdeal.nD Cert.InRecIdeal.τ).loc Cert.InRecIdeal.main_arg1)
      ∧ r.2.mem ((c.tc : Thread Cert.InRecIdeal.nD Cert.InRecIdeal.τ).loc Cert.InRecIdeal.main_arg2) = m ((c.tc : Thread Cert.InRecIdeal.nD Cert.InRecIdeal.τ).loc Cert.InRecIdeal.main_arg2)
      ∧ r.2.mem ((c.tc : Thread Cert.InRecIdeal.nD Cert.InRecIdeal.τ).loc Cert.InRecIdeal.main_arg3) = m ((c.tc : Thread Cert.InRecIdeal.nD Cert.InRecIdeal.τ).loc Cert.InRecIdeal.main_arg3)
      ∧ r.2.mem ((c.tc : Thread Cert.InRecIdeal.nD Cert.InRecIdeal.τ).loc Cert.InRecIdeal.main_arg4) = m ((c.tc : Thread Cert.InRecIdeal.nD Cert.InRecIdeal.τ).loc Cert.InRecIdeal.main_arg4))
      ∧ r.2.sem = fun _ => 0)

def quiescent_InRecRefIdeal [hInRecRefIdeal : Cert.InRecRefIdeal.Facts] : Prop :=
  ∀ (m : (ℓ : Loc Cert.InRecRefIdeal.nD Cert.InRecRefIdeal.τ Cert.InRecRefIdeal.sig) → Buf (Elt Ideal) ℓ) (g : Dev Cert.InRecRefIdeal.nD → PrngReg), Pre_InRecRefIdeal m →
    θ_run (Cert.InRecRefIdeal.defs (F := Ideal)) (onTc (τ := Cert.InRecRefIdeal.τ) (Cert.InRecRefIdeal.main (F := Ideal))) ⟨m, fun _ => 0, g⟩ (fun r => (∀ c : Dev Cert.InRecRefIdeal.nD,
      r.2.mem ((c.tc : Thread Cert.InRecRefIdeal.nD Cert.InRecRefIdeal.τ).loc Cert.InRecRefIdeal.main_arg0) = m ((c.tc : Thread Cert.InRecRefIdeal.nD Cert.InRecRefIdeal.τ).loc Cert.InRecRefIdeal.main_arg0)
      ∧ r.2.mem ((c.tc : Thread Cert.InRecRefIdeal.nD Cert.InRecRefIdeal.τ).loc Cert.InRecRefIdeal.main_arg1) = m ((c.tc : Thread Cert.InRecRefIdeal.nD Cert.InRecRefIdeal.τ).loc Cert.InRecRefIdeal.main_arg1)
      ∧ r.2.mem ((c.tc : Thread Cert.InRecRefIdeal.nD Cert.InRecRefIdeal.τ).loc Cert.InRecRefIdeal.main_arg2) = m ((c.tc : Thread Cert.InRecRefIdeal.nD Cert.InRecRefIdeal.τ).loc Cert.InRecRefIdeal.main_arg2)
      ∧ r.2.mem ((c.tc : Thread Cert.InRecRefIdeal.nD Cert.InRecRefIdeal.τ).loc Cert.InRecRefIdeal.main_arg3) = m ((c.tc : Thread Cert.InRecRefIdeal.nD Cert.InRecRefIdeal.τ).loc Cert.InRecRefIdeal.main_arg3)
      ∧ r.2.mem ((c.tc : Thread Cert.InRecRefIdeal.nD Cert.InRecRefIdeal.τ).loc Cert.InRecRefIdeal.main_arg4) = m ((c.tc : Thread Cert.InRecRefIdeal.nD Cert.InRecRefIdeal.τ).loc Cert.InRecRefIdeal.main_arg4))
      ∧ r.2.sem = fun _ => 0)

def quiescent_OutMix [hOutMix : Cert.OutMix.Facts] : Prop :=
  ∀ (m : (ℓ : Loc Cert.OutMix.nD Cert.OutMix.τ Cert.OutMix.sig) → Buf (Elt Bits) ℓ) (g : Dev Cert.OutMix.nD → PrngReg), Pre_OutMix m →
    θ_run (Cert.OutMix.defs (F := Bits)) (onTc (τ := Cert.OutMix.τ) (Cert.OutMix.main (F := Bits))) ⟨m, fun _ => 0, g⟩ (fun r => (∀ c : Dev Cert.OutMix.nD,
      r.2.mem ((c.tc : Thread Cert.OutMix.nD Cert.OutMix.τ).loc Cert.OutMix.main_arg0) = m ((c.tc : Thread Cert.OutMix.nD Cert.OutMix.τ).loc Cert.OutMix.main_arg0)
      ∧ r.2.mem ((c.tc : Thread Cert.OutMix.nD Cert.OutMix.τ).loc Cert.OutMix.main_arg1) = m ((c.tc : Thread Cert.OutMix.nD Cert.OutMix.τ).loc Cert.OutMix.main_arg1)
      ∧ r.2.mem ((c.tc : Thread Cert.OutMix.nD Cert.OutMix.τ).loc Cert.OutMix.main_arg2) = m ((c.tc : Thread Cert.OutMix.nD Cert.OutMix.τ).loc Cert.OutMix.main_arg2)
      ∧ r.2.mem ((c.tc : Thread Cert.OutMix.nD Cert.OutMix.τ).loc Cert.OutMix.main_arg3) = m ((c.tc : Thread Cert.OutMix.nD Cert.OutMix.τ).loc Cert.OutMix.main_arg3)
      ∧ r.2.mem ((c.tc : Thread Cert.OutMix.nD Cert.OutMix.τ).loc Cert.OutMix.main_arg4) = m ((c.tc : Thread Cert.OutMix.nD Cert.OutMix.τ).loc Cert.OutMix.main_arg4)
      ∧ r.2.mem ((c.tc : Thread Cert.OutMix.nD Cert.OutMix.τ).loc Cert.OutMix.main_arg5) = m ((c.tc : Thread Cert.OutMix.nD Cert.OutMix.τ).loc Cert.OutMix.main_arg5)
      ∧ r.2.mem ((c.tc : Thread Cert.OutMix.nD Cert.OutMix.τ).loc Cert.OutMix.main_arg6) = m ((c.tc : Thread Cert.OutMix.nD Cert.OutMix.τ).loc Cert.OutMix.main_arg6)
      ∧ r.2.mem ((c.tc : Thread Cert.OutMix.nD Cert.OutMix.τ).loc Cert.OutMix.main_arg7) = m ((c.tc : Thread Cert.OutMix.nD Cert.OutMix.τ).loc Cert.OutMix.main_arg7))
      ∧ r.2.sem = fun _ => 0)

def quiescent_OutMixIdeal [hOutMixIdeal : Cert.OutMixIdeal.Facts] : Prop :=
  ∀ (m : (ℓ : Loc Cert.OutMixIdeal.nD Cert.OutMixIdeal.τ Cert.OutMixIdeal.sig) → Buf (Elt Ideal) ℓ) (g : Dev Cert.OutMixIdeal.nD → PrngReg), Pre_OutMixIdeal m →
    θ_run (Cert.OutMixIdeal.defs (F := Ideal)) (onTc (τ := Cert.OutMixIdeal.τ) (Cert.OutMixIdeal.main (F := Ideal))) ⟨m, fun _ => 0, g⟩ (fun r => (∀ c : Dev Cert.OutMixIdeal.nD,
      r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
      ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1)
      ∧ r.2.mem ((c.tc : Thread Cert.OutMixIdeal.nD Cert.OutMixIdeal.τ).loc Cert.OutMixIdeal.main_arg2) = m ((c.tc : Thread Cert.OutMixIdeal.nD Cert.OutMixIdeal.τ).loc Cert.OutMixIdeal.main_arg2)
      ∧ r.2.mem ((c.tc : Thread Cert.OutMixIdeal.nD Cert.OutMixIdeal.τ).loc Cert.OutMixIdeal.main_arg3) = m ((c.tc : Thread Cert.OutMixIdeal.nD Cert.OutMixIdeal.τ).loc Cert.OutMixIdeal.main_arg3)
      ∧ r.2.mem ((c.tc : Thread Cert.OutMixIdeal.nD Cert.OutMixIdeal.τ).loc Cert.OutMixIdeal.main_arg4) = m ((c.tc : Thread Cert.OutMixIdeal.nD Cert.OutMixIdeal.τ).loc Cert.OutMixIdeal.main_arg4)
      ∧ r.2.mem ((c.tc : Thread Cert.OutMixIdeal.nD Cert.OutMixIdeal.τ).loc Cert.OutMixIdeal.main_arg5) = m ((c.tc : Thread Cert.OutMixIdeal.nD Cert.OutMixIdeal.τ).loc Cert.OutMixIdeal.main_arg5)
      ∧ r.2.mem ((c.tc : Thread Cert.OutMixIdeal.nD Cert.OutMixIdeal.τ).loc Cert.OutMixIdeal.main_arg6) = m ((c.tc : Thread Cert.OutMixIdeal.nD Cert.OutMixIdeal.τ).loc Cert.OutMixIdeal.main_arg6)
      ∧ r.2.mem ((c.tc : Thread Cert.OutMixIdeal.nD Cert.OutMixIdeal.τ).loc Cert.OutMixIdeal.main_arg7) = m ((c.tc : Thread Cert.OutMixIdeal.nD Cert.OutMixIdeal.τ).loc Cert.OutMixIdeal.main_arg7))
      ∧ r.2.sem = fun _ => 0)

def quiescent_OutMixRefIdeal [hOutMixRefIdeal : Cert.OutMixRefIdeal.Facts] : Prop :=
  ∀ (m : (ℓ : Loc Cert.OutMixRefIdeal.nD Cert.OutMixRefIdeal.τ Cert.OutMixRefIdeal.sig) → Buf (Elt Ideal) ℓ) (g : Dev Cert.OutMixRefIdeal.nD → PrngReg), Pre_OutMixRefIdeal m →
    θ_run (Cert.OutMixRefIdeal.defs (F := Ideal)) (onTc (τ := Cert.OutMixRefIdeal.τ) (Cert.OutMixRefIdeal.main (F := Ideal))) ⟨m, fun _ => 0, g⟩ (fun r => (∀ c : Dev Cert.OutMixRefIdeal.nD,
      r.2.mem ((c.tc : Thread Cert.OutMixRefIdeal.nD Cert.OutMixRefIdeal.τ).loc Cert.OutMixRefIdeal.main_arg0) = m ((c.tc : Thread Cert.OutMixRefIdeal.nD Cert.OutMixRefIdeal.τ).loc Cert.OutMixRefIdeal.main_arg0)
      ∧ r.2.mem ((c.tc : Thread Cert.OutMixRefIdeal.nD Cert.OutMixRefIdeal.τ).loc Cert.OutMixRefIdeal.main_arg1) = m ((c.tc : Thread Cert.OutMixRefIdeal.nD Cert.OutMixRefIdeal.τ).loc Cert.OutMixRefIdeal.main_arg1)
      ∧ r.2.mem ((c.tc : Thread Cert.OutMixRefIdeal.nD Cert.OutMixRefIdeal.τ).loc Cert.OutMixRefIdeal.main_arg2) = m ((c.tc : Thread Cert.OutMixRefIdeal.nD Cert.OutMixRefIdeal.τ).loc Cert.OutMixRefIdeal.main_arg2)
      ∧ r.2.mem ((c.tc : Thread Cert.OutMixRefIdeal.nD Cert.OutMixRefIdeal.τ).loc Cert.OutMixRefIdeal.main_arg3) = m ((c.tc : Thread Cert.OutMixRefIdeal.nD Cert.OutMixRefIdeal.τ).loc Cert.OutMixRefIdeal.main_arg3)
      ∧ r.2.mem ((c.tc : Thread Cert.OutMixRefIdeal.nD Cert.OutMixRefIdeal.τ).loc Cert.OutMixRefIdeal.main_arg4) = m ((c.tc : Thread Cert.OutMixRefIdeal.nD Cert.OutMixRefIdeal.τ).loc Cert.OutMixRefIdeal.main_arg4)
      ∧ r.2.mem ((c.tc : Thread Cert.OutMixRefIdeal.nD Cert.OutMixRefIdeal.τ).loc Cert.OutMixRefIdeal.main_arg5) = m ((c.tc : Thread Cert.OutMixRefIdeal.nD Cert.OutMixRefIdeal.τ).loc Cert.OutMixRefIdeal.main_arg5)
      ∧ r.2.mem ((c.tc : Thread Cert.OutMixRefIdeal.nD Cert.OutMixRefIdeal.τ).loc Cert.OutMixRefIdeal.main_arg6) = m ((c.tc : Thread Cert.OutMixRefIdeal.nD Cert.OutMixRefIdeal.τ).loc Cert.OutMixRefIdeal.main_arg6)
      ∧ r.2.mem ((c.tc : Thread Cert.OutMixRefIdeal.nD Cert.OutMixRefIdeal.τ).loc Cert.OutMixRefIdeal.main_arg7) = m ((c.tc : Thread Cert.OutMixRefIdeal.nD Cert.OutMixRefIdeal.τ).loc Cert.OutMixRefIdeal.main_arg7))
      ∧ r.2.sem = fun _ => 0)

def quiescent_Experts [hExperts : Cert.Experts.Facts] [hPre_in_range : Cert.Pre_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_in_range [hExpertsRefIdeal : Cert.ExpertsRefIdeal.Facts] [hPre_in_range : Cert.Pre_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def preserves_Gqa_GqaIdeal : Prop :=
  True

def algebraic_GqaIdeal_GqaRefIdeal_pre_real_gain [hGqaIdeal : Cert.GqaIdeal.Facts] [hGqaRefIdeal : Cert.GqaRefIdeal.Facts] [hPre_real_gain : Cert.Pre_real_gain.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_real_gain m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)) →
    ∃ (v0 : (c : Dev Cert.GqaIdeal.nD) → Buf (Elt Ideal) ((c.tc : Thread Cert.GqaIdeal.nD Cert.GqaIdeal.τ).loc Cert.GqaIdeal.main_v51)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v51) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v193) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1))

def preserves_InAtt_InAttIdeal : Prop :=
  True

def algebraic_InAttIdeal_InAttRefIdeal [hInAttIdeal : Cert.InAttIdeal.Facts] [hInAttRefIdeal : Cert.InAttRefIdeal.Facts] : Prop :=
  ∀ (m : (ℓ : Loc Cert.InAttIdeal.nD Cert.InAttIdeal.τ Cert.InAttIdeal.sig) → Buf (Elt Ideal) ℓ) (g : Dev Cert.InAttIdeal.nD → PrngReg)
    (m' : (ℓ : Loc Cert.InAttRefIdeal.nD Cert.InAttRefIdeal.τ Cert.InAttRefIdeal.sig) → Buf (Elt Ideal) ℓ) (g' : Dev Cert.InAttRefIdeal.nD → PrngReg), Pre_InAttIdeal m →
    (∀ c : Dev Cert.InAttIdeal.nD,
      m' ((c.tc : Thread Cert.InAttRefIdeal.nD Cert.InAttRefIdeal.τ).loc Cert.InAttRefIdeal.main_arg0) = m ((c.tc : Thread Cert.InAttIdeal.nD Cert.InAttIdeal.τ).loc Cert.InAttIdeal.main_arg0)
      ∧ m' ((c.tc : Thread Cert.InAttRefIdeal.nD Cert.InAttRefIdeal.τ).loc Cert.InAttRefIdeal.main_arg1) = m ((c.tc : Thread Cert.InAttIdeal.nD Cert.InAttIdeal.τ).loc Cert.InAttIdeal.main_arg1)
      ∧ m' ((c.tc : Thread Cert.InAttRefIdeal.nD Cert.InAttRefIdeal.τ).loc Cert.InAttRefIdeal.main_arg2) = m ((c.tc : Thread Cert.InAttIdeal.nD Cert.InAttIdeal.τ).loc Cert.InAttIdeal.main_arg2)
      ∧ m' ((c.tc : Thread Cert.InAttRefIdeal.nD Cert.InAttRefIdeal.τ).loc Cert.InAttRefIdeal.main_arg3) = m ((c.tc : Thread Cert.InAttIdeal.nD Cert.InAttIdeal.τ).loc Cert.InAttIdeal.main_arg3)
      ∧ m' ((c.tc : Thread Cert.InAttRefIdeal.nD Cert.InAttRefIdeal.τ).loc Cert.InAttRefIdeal.main_arg4) = m ((c.tc : Thread Cert.InAttIdeal.nD Cert.InAttIdeal.τ).loc Cert.InAttIdeal.main_arg4)) →
    ∃ (v0 : (c : Dev Cert.InAttIdeal.nD) → Buf (Elt Ideal) ((c.tc : Thread Cert.InAttIdeal.nD Cert.InAttIdeal.τ).loc Cert.InAttIdeal.main_v9_0)) (v1 : (c : Dev Cert.InAttIdeal.nD) → Buf (Elt Ideal) ((c.tc : Thread Cert.InAttIdeal.nD Cert.InAttIdeal.τ).loc Cert.InAttIdeal.main_v9_1)),
      θ_run (Cert.InAttIdeal.defs (F := Ideal)) (onTc (τ := Cert.InAttIdeal.τ) (Cert.InAttIdeal.main (F := Ideal))) ⟨m, fun _ => 0, g⟩ (fun r => ∀ c : Dev Cert.InAttIdeal.nD,
          r.2.mem ((c.tc : Thread Cert.InAttIdeal.nD Cert.InAttIdeal.τ).loc Cert.InAttIdeal.main_v9_0) = v0 c
          ∧ r.2.mem ((c.tc : Thread Cert.InAttIdeal.nD Cert.InAttIdeal.τ).loc Cert.InAttIdeal.main_v9_1) = v1 c
          ∧ r.2.mem ((c.tc : Thread Cert.InAttIdeal.nD Cert.InAttIdeal.τ).loc Cert.InAttIdeal.main_arg0) = m ((c.tc : Thread Cert.InAttIdeal.nD Cert.InAttIdeal.τ).loc Cert.InAttIdeal.main_arg0)
          ∧ r.2.mem ((c.tc : Thread Cert.InAttIdeal.nD Cert.InAttIdeal.τ).loc Cert.InAttIdeal.main_arg1) = m ((c.tc : Thread Cert.InAttIdeal.nD Cert.InAttIdeal.τ).loc Cert.InAttIdeal.main_arg1)
          ∧ r.2.mem ((c.tc : Thread Cert.InAttIdeal.nD Cert.InAttIdeal.τ).loc Cert.InAttIdeal.main_arg2) = m ((c.tc : Thread Cert.InAttIdeal.nD Cert.InAttIdeal.τ).loc Cert.InAttIdeal.main_arg2)
          ∧ r.2.mem ((c.tc : Thread Cert.InAttIdeal.nD Cert.InAttIdeal.τ).loc Cert.InAttIdeal.main_arg3) = m ((c.tc : Thread Cert.InAttIdeal.nD Cert.InAttIdeal.τ).loc Cert.InAttIdeal.main_arg3)
          ∧ r.2.mem ((c.tc : Thread Cert.InAttIdeal.nD Cert.InAttIdeal.τ).loc Cert.InAttIdeal.main_arg4) = m ((c.tc : Thread Cert.InAttIdeal.nD Cert.InAttIdeal.τ).loc Cert.InAttIdeal.main_arg4))
      ∧ θ_run (Cert.InAttRefIdeal.defs (F := Ideal)) (onTc (τ := Cert.InAttRefIdeal.τ) (Cert.InAttRefIdeal.main (F := Ideal))) ⟨m', fun _ => 0, g'⟩ (fun r => ∀ c : Dev Cert.InAttRefIdeal.nD,
          r.2.mem ((c.tc : Thread Cert.InAttRefIdeal.nD Cert.InAttRefIdeal.τ).loc Cert.InAttRefIdeal.main_v24) = v0 c
          ∧ r.2.mem ((c.tc : Thread Cert.InAttRefIdeal.nD Cert.InAttRefIdeal.τ).loc Cert.InAttRefIdeal.main_v25) = v1 c
          ∧ r.2.mem ((c.tc : Thread Cert.InAttRefIdeal.nD Cert.InAttRefIdeal.τ).loc Cert.InAttRefIdeal.main_arg0) = m' ((c.tc : Thread Cert.InAttRefIdeal.nD Cert.InAttRefIdeal.τ).loc Cert.InAttRefIdeal.main_arg0)
          ∧ r.2.mem ((c.tc : Thread Cert.InAttRefIdeal.nD Cert.InAttRefIdeal.τ).loc Cert.InAttRefIdeal.main_arg1) = m' ((c.tc : Thread Cert.InAttRefIdeal.nD Cert.InAttRefIdeal.τ).loc Cert.InAttRefIdeal.main_arg1)
          ∧ r.2.mem ((c.tc : Thread Cert.InAttRefIdeal.nD Cert.InAttRefIdeal.τ).loc Cert.InAttRefIdeal.main_arg2) = m' ((c.tc : Thread Cert.InAttRefIdeal.nD Cert.InAttRefIdeal.τ).loc Cert.InAttRefIdeal.main_arg2)
          ∧ r.2.mem ((c.tc : Thread Cert.InAttRefIdeal.nD Cert.InAttRefIdeal.τ).loc Cert.InAttRefIdeal.main_arg3) = m' ((c.tc : Thread Cert.InAttRefIdeal.nD Cert.InAttRefIdeal.τ).loc Cert.InAttRefIdeal.main_arg3)
          ∧ r.2.mem ((c.tc : Thread Cert.InAttRefIdeal.nD Cert.InAttRefIdeal.τ).loc Cert.InAttRefIdeal.main_arg4) = m' ((c.tc : Thread Cert.InAttRefIdeal.nD Cert.InAttRefIdeal.τ).loc Cert.InAttRefIdeal.main_arg4))

def preserves_InRec_InRecIdeal : Prop :=
  True

def algebraic_InRecIdeal_InRecRefIdeal [hInRecIdeal : Cert.InRecIdeal.Facts] [hInRecRefIdeal : Cert.InRecRefIdeal.Facts] : Prop :=
  ∀ (m : (ℓ : Loc Cert.InRecIdeal.nD Cert.InRecIdeal.τ Cert.InRecIdeal.sig) → Buf (Elt Ideal) ℓ) (g : Dev Cert.InRecIdeal.nD → PrngReg)
    (m' : (ℓ : Loc Cert.InRecRefIdeal.nD Cert.InRecRefIdeal.τ Cert.InRecRefIdeal.sig) → Buf (Elt Ideal) ℓ) (g' : Dev Cert.InRecRefIdeal.nD → PrngReg), Pre_InRecIdeal m →
    (∀ c : Dev Cert.InRecIdeal.nD,
      m' ((c.tc : Thread Cert.InRecRefIdeal.nD Cert.InRecRefIdeal.τ).loc Cert.InRecRefIdeal.main_arg0) = m ((c.tc : Thread Cert.InRecIdeal.nD Cert.InRecIdeal.τ).loc Cert.InRecIdeal.main_arg0)
      ∧ m' ((c.tc : Thread Cert.InRecRefIdeal.nD Cert.InRecRefIdeal.τ).loc Cert.InRecRefIdeal.main_arg1) = m ((c.tc : Thread Cert.InRecIdeal.nD Cert.InRecIdeal.τ).loc Cert.InRecIdeal.main_arg1)
      ∧ m' ((c.tc : Thread Cert.InRecRefIdeal.nD Cert.InRecRefIdeal.τ).loc Cert.InRecRefIdeal.main_arg2) = m ((c.tc : Thread Cert.InRecIdeal.nD Cert.InRecIdeal.τ).loc Cert.InRecIdeal.main_arg2)
      ∧ m' ((c.tc : Thread Cert.InRecRefIdeal.nD Cert.InRecRefIdeal.τ).loc Cert.InRecRefIdeal.main_arg3) = m ((c.tc : Thread Cert.InRecIdeal.nD Cert.InRecIdeal.τ).loc Cert.InRecIdeal.main_arg3)
      ∧ m' ((c.tc : Thread Cert.InRecRefIdeal.nD Cert.InRecRefIdeal.τ).loc Cert.InRecRefIdeal.main_arg4) = m ((c.tc : Thread Cert.InRecIdeal.nD Cert.InRecIdeal.τ).loc Cert.InRecIdeal.main_arg4)) →
    ∃ (v0 : (c : Dev Cert.InRecIdeal.nD) → Buf (Elt Ideal) ((c.tc : Thread Cert.InRecIdeal.nD Cert.InRecIdeal.τ).loc Cert.InRecIdeal.main_v10_0)) (v1 : (c : Dev Cert.InRecIdeal.nD) → Buf (Elt Ideal) ((c.tc : Thread Cert.InRecIdeal.nD Cert.InRecIdeal.τ).loc Cert.InRecIdeal.main_v10_1)) (v2 : (c : Dev Cert.InRecIdeal.nD) → Buf (Elt Ideal) ((c.tc : Thread Cert.InRecIdeal.nD Cert.InRecIdeal.τ).loc Cert.InRecIdeal.main_v10_2)),
      θ_run (Cert.InRecIdeal.defs (F := Ideal)) (onTc (τ := Cert.InRecIdeal.τ) (Cert.InRecIdeal.main (F := Ideal))) ⟨m, fun _ => 0, g⟩ (fun r => ∀ c : Dev Cert.InRecIdeal.nD,
          r.2.mem ((c.tc : Thread Cert.InRecIdeal.nD Cert.InRecIdeal.τ).loc Cert.InRecIdeal.main_v10_0) = v0 c
          ∧ r.2.mem ((c.tc : Thread Cert.InRecIdeal.nD Cert.InRecIdeal.τ).loc Cert.InRecIdeal.main_v10_1) = v1 c
          ∧ r.2.mem ((c.tc : Thread Cert.InRecIdeal.nD Cert.InRecIdeal.τ).loc Cert.InRecIdeal.main_v10_2) = v2 c
          ∧ r.2.mem ((c.tc : Thread Cert.InRecIdeal.nD Cert.InRecIdeal.τ).loc Cert.InRecIdeal.main_arg0) = m ((c.tc : Thread Cert.InRecIdeal.nD Cert.InRecIdeal.τ).loc Cert.InRecIdeal.main_arg0)
          ∧ r.2.mem ((c.tc : Thread Cert.InRecIdeal.nD Cert.InRecIdeal.τ).loc Cert.InRecIdeal.main_arg1) = m ((c.tc : Thread Cert.InRecIdeal.nD Cert.InRecIdeal.τ).loc Cert.InRecIdeal.main_arg1)
          ∧ r.2.mem ((c.tc : Thread Cert.InRecIdeal.nD Cert.InRecIdeal.τ).loc Cert.InRecIdeal.main_arg2) = m ((c.tc : Thread Cert.InRecIdeal.nD Cert.InRecIdeal.τ).loc Cert.InRecIdeal.main_arg2)
          ∧ r.2.mem ((c.tc : Thread Cert.InRecIdeal.nD Cert.InRecIdeal.τ).loc Cert.InRecIdeal.main_arg3) = m ((c.tc : Thread Cert.InRecIdeal.nD Cert.InRecIdeal.τ).loc Cert.InRecIdeal.main_arg3)
          ∧ r.2.mem ((c.tc : Thread Cert.InRecIdeal.nD Cert.InRecIdeal.τ).loc Cert.InRecIdeal.main_arg4) = m ((c.tc : Thread Cert.InRecIdeal.nD Cert.InRecIdeal.τ).loc Cert.InRecIdeal.main_arg4))
      ∧ θ_run (Cert.InRecRefIdeal.defs (F := Ideal)) (onTc (τ := Cert.InRecRefIdeal.τ) (Cert.InRecRefIdeal.main (F := Ideal))) ⟨m', fun _ => 0, g'⟩ (fun r => ∀ c : Dev Cert.InRecRefIdeal.nD,
          r.2.mem ((c.tc : Thread Cert.InRecRefIdeal.nD Cert.InRecRefIdeal.τ).loc Cert.InRecRefIdeal.main_v25) = v0 c
          ∧ r.2.mem ((c.tc : Thread Cert.InRecRefIdeal.nD Cert.InRecRefIdeal.τ).loc Cert.InRecRefIdeal.main_v26) = v1 c
          ∧ r.2.mem ((c.tc : Thread Cert.InRecRefIdeal.nD Cert.InRecRefIdeal.τ).loc Cert.InRecRefIdeal.main_v24) = v2 c
          ∧ r.2.mem ((c.tc : Thread Cert.InRecRefIdeal.nD Cert.InRecRefIdeal.τ).loc Cert.InRecRefIdeal.main_arg0) = m' ((c.tc : Thread Cert.InRecRefIdeal.nD Cert.InRecRefIdeal.τ).loc Cert.InRecRefIdeal.main_arg0)
          ∧ r.2.mem ((c.tc : Thread Cert.InRecRefIdeal.nD Cert.InRecRefIdeal.τ).loc Cert.InRecRefIdeal.main_arg1) = m' ((c.tc : Thread Cert.InRecRefIdeal.nD Cert.InRecRefIdeal.τ).loc Cert.InRecRefIdeal.main_arg1)
          ∧ r.2.mem ((c.tc : Thread Cert.InRecRefIdeal.nD Cert.InRecRefIdeal.τ).loc Cert.InRecRefIdeal.main_arg2) = m' ((c.tc : Thread Cert.InRecRefIdeal.nD Cert.InRecRefIdeal.τ).loc Cert.InRecRefIdeal.main_arg2)
          ∧ r.2.mem ((c.tc : Thread Cert.InRecRefIdeal.nD Cert.InRecRefIdeal.τ).loc Cert.InRecRefIdeal.main_arg3) = m' ((c.tc : Thread Cert.InRecRefIdeal.nD Cert.InRecRefIdeal.τ).loc Cert.InRecRefIdeal.main_arg3)
          ∧ r.2.mem ((c.tc : Thread Cert.InRecRefIdeal.nD Cert.InRecRefIdeal.τ).loc Cert.InRecRefIdeal.main_arg4) = m' ((c.tc : Thread Cert.InRecRefIdeal.nD Cert.InRecRefIdeal.τ).loc Cert.InRecRefIdeal.main_arg4))

def preserves_OutMix_OutMixIdeal : Prop :=
  True

def algebraic_OutMixIdeal_OutMixRefIdeal [hOutMixIdeal : Cert.OutMixIdeal.Facts] [hOutMixRefIdeal : Cert.OutMixRefIdeal.Facts] : Prop :=
  ∀ (m : (ℓ : Loc Cert.OutMixIdeal.nD Cert.OutMixIdeal.τ Cert.OutMixIdeal.sig) → Buf (Elt Ideal) ℓ) (g : Dev Cert.OutMixIdeal.nD → PrngReg)
    (m' : (ℓ : Loc Cert.OutMixRefIdeal.nD Cert.OutMixRefIdeal.τ Cert.OutMixRefIdeal.sig) → Buf (Elt Ideal) ℓ) (g' : Dev Cert.OutMixRefIdeal.nD → PrngReg), Pre_OutMixIdeal m →
    (∀ c : Dev Cert.OutMixIdeal.nD,
      m' ((c.tc : Thread Cert.OutMixRefIdeal.nD Cert.OutMixRefIdeal.τ).loc Cert.OutMixRefIdeal.main_arg0) = m ((c.tc : Thread Cert.OutMixIdeal.nD Cert.OutMixIdeal.τ).loc Cert.OutMixIdeal.main_arg0)
      ∧ m' ((c.tc : Thread Cert.OutMixRefIdeal.nD Cert.OutMixRefIdeal.τ).loc Cert.OutMixRefIdeal.main_arg1) = m ((c.tc : Thread Cert.OutMixIdeal.nD Cert.OutMixIdeal.τ).loc Cert.OutMixIdeal.main_arg1)
      ∧ m' ((c.tc : Thread Cert.OutMixRefIdeal.nD Cert.OutMixRefIdeal.τ).loc Cert.OutMixRefIdeal.main_arg2) = m ((c.tc : Thread Cert.OutMixIdeal.nD Cert.OutMixIdeal.τ).loc Cert.OutMixIdeal.main_arg2)
      ∧ m' ((c.tc : Thread Cert.OutMixRefIdeal.nD Cert.OutMixRefIdeal.τ).loc Cert.OutMixRefIdeal.main_arg3) = m ((c.tc : Thread Cert.OutMixIdeal.nD Cert.OutMixIdeal.τ).loc Cert.OutMixIdeal.main_arg3)
      ∧ m' ((c.tc : Thread Cert.OutMixRefIdeal.nD Cert.OutMixRefIdeal.τ).loc Cert.OutMixRefIdeal.main_arg4) = m ((c.tc : Thread Cert.OutMixIdeal.nD Cert.OutMixIdeal.τ).loc Cert.OutMixIdeal.main_arg4)
      ∧ m' ((c.tc : Thread Cert.OutMixRefIdeal.nD Cert.OutMixRefIdeal.τ).loc Cert.OutMixRefIdeal.main_arg5) = m ((c.tc : Thread Cert.OutMixIdeal.nD Cert.OutMixIdeal.τ).loc Cert.OutMixIdeal.main_arg5)
      ∧ m' ((c.tc : Thread Cert.OutMixRefIdeal.nD Cert.OutMixRefIdeal.τ).loc Cert.OutMixRefIdeal.main_arg6) = m ((c.tc : Thread Cert.OutMixIdeal.nD Cert.OutMixIdeal.τ).loc Cert.OutMixIdeal.main_arg6)
      ∧ m' ((c.tc : Thread Cert.OutMixRefIdeal.nD Cert.OutMixRefIdeal.τ).loc Cert.OutMixRefIdeal.main_arg7) = m ((c.tc : Thread Cert.OutMixIdeal.nD Cert.OutMixIdeal.τ).loc Cert.OutMixIdeal.main_arg7)) →
    ∃ (v0 : (c : Dev Cert.OutMixIdeal.nD) → Buf (Elt Ideal) ((c.tc : Thread Cert.OutMixIdeal.nD Cert.OutMixIdeal.τ).loc Cert.OutMixIdeal.main_v12_0)) (v1 : (c : Dev Cert.OutMixIdeal.nD) → Buf (Elt Ideal) ((c.tc : Thread Cert.OutMixIdeal.nD Cert.OutMixIdeal.τ).loc Cert.OutMixIdeal.main_v12_1)),
      θ_run (Cert.OutMixIdeal.defs (F := Ideal)) (onTc (τ := Cert.OutMixIdeal.τ) (Cert.OutMixIdeal.main (F := Ideal))) ⟨m, fun _ => 0, g⟩ (fun r => ∀ c : Dev Cert.OutMixIdeal.nD,
          r.2.mem ((c.tc : Thread Cert.OutMixIdeal.nD Cert.OutMixIdeal.τ).loc Cert.OutMixIdeal.main_v12_0) = v0 c
          ∧ r.2.mem ((c.tc : Thread Cert.OutMixIdeal.nD Cert.OutMixIdeal.τ).loc Cert.OutMixIdeal.main_v12_1) = v1 c
          ∧ r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
          ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1)
          ∧ r.2.mem ((c.tc : Thread Cert.OutMixIdeal.nD Cert.OutMixIdeal.τ).loc Cert.OutMixIdeal.main_arg2) = m ((c.tc : Thread Cert.OutMixIdeal.nD Cert.OutMixIdeal.τ).loc Cert.OutMixIdeal.main_arg2)
          ∧ r.2.mem ((c.tc : Thread Cert.OutMixIdeal.nD Cert.OutMixIdeal.τ).loc Cert.OutMixIdeal.main_arg3) = m ((c.tc : Thread Cert.OutMixIdeal.nD Cert.OutMixIdeal.τ).loc Cert.OutMixIdeal.main_arg3)
          ∧ r.2.mem ((c.tc : Thread Cert.OutMixIdeal.nD Cert.OutMixIdeal.τ).loc Cert.OutMixIdeal.main_arg4) = m ((c.tc : Thread Cert.OutMixIdeal.nD Cert.OutMixIdeal.τ).loc Cert.OutMixIdeal.main_arg4)
          ∧ r.2.mem ((c.tc : Thread Cert.OutMixIdeal.nD Cert.OutMixIdeal.τ).loc Cert.OutMixIdeal.main_arg5) = m ((c.tc : Thread Cert.OutMixIdeal.nD Cert.OutMixIdeal.τ).loc Cert.OutMixIdeal.main_arg5)
          ∧ r.2.mem ((c.tc : Thread Cert.OutMixIdeal.nD Cert.OutMixIdeal.τ).loc Cert.OutMixIdeal.main_arg6) = m ((c.tc : Thread Cert.OutMixIdeal.nD Cert.OutMixIdeal.τ).loc Cert.OutMixIdeal.main_arg6)
          ∧ r.2.mem ((c.tc : Thread Cert.OutMixIdeal.nD Cert.OutMixIdeal.τ).loc Cert.OutMixIdeal.main_arg7) = m ((c.tc : Thread Cert.OutMixIdeal.nD Cert.OutMixIdeal.τ).loc Cert.OutMixIdeal.main_arg7))
      ∧ θ_run (Cert.OutMixRefIdeal.defs (F := Ideal)) (onTc (τ := Cert.OutMixRefIdeal.τ) (Cert.OutMixRefIdeal.main (F := Ideal))) ⟨m', fun _ => 0, g'⟩ (fun r => ∀ c : Dev Cert.OutMixRefIdeal.nD,
          r.2.mem ((c.tc : Thread Cert.OutMixRefIdeal.nD Cert.OutMixRefIdeal.τ).loc Cert.OutMixRefIdeal.main_v87) = v0 c
          ∧ r.2.mem ((c.tc : Thread Cert.OutMixRefIdeal.nD Cert.OutMixRefIdeal.τ).loc Cert.OutMixRefIdeal.main_v88) = v1 c
          ∧ r.2.mem ((c.tc : Thread Cert.OutMixRefIdeal.nD Cert.OutMixRefIdeal.τ).loc Cert.OutMixRefIdeal.main_arg0) = m' ((c.tc : Thread Cert.OutMixRefIdeal.nD Cert.OutMixRefIdeal.τ).loc Cert.OutMixRefIdeal.main_arg0)
          ∧ r.2.mem ((c.tc : Thread Cert.OutMixRefIdeal.nD Cert.OutMixRefIdeal.τ).loc Cert.OutMixRefIdeal.main_arg1) = m' ((c.tc : Thread Cert.OutMixRefIdeal.nD Cert.OutMixRefIdeal.τ).loc Cert.OutMixRefIdeal.main_arg1)
          ∧ r.2.mem ((c.tc : Thread Cert.OutMixRefIdeal.nD Cert.OutMixRefIdeal.τ).loc Cert.OutMixRefIdeal.main_arg2) = m' ((c.tc : Thread Cert.OutMixRefIdeal.nD Cert.OutMixRefIdeal.τ).loc Cert.OutMixRefIdeal.main_arg2)
          ∧ r.2.mem ((c.tc : Thread Cert.OutMixRefIdeal.nD Cert.OutMixRefIdeal.τ).loc Cert.OutMixRefIdeal.main_arg3) = m' ((c.tc : Thread Cert.OutMixRefIdeal.nD Cert.OutMixRefIdeal.τ).loc Cert.OutMixRefIdeal.main_arg3)
          ∧ r.2.mem ((c.tc : Thread Cert.OutMixRefIdeal.nD Cert.OutMixRefIdeal.τ).loc Cert.OutMixRefIdeal.main_arg4) = m' ((c.tc : Thread Cert.OutMixRefIdeal.nD Cert.OutMixRefIdeal.τ).loc Cert.OutMixRefIdeal.main_arg4)
          ∧ r.2.mem ((c.tc : Thread Cert.OutMixRefIdeal.nD Cert.OutMixRefIdeal.τ).loc Cert.OutMixRefIdeal.main_arg5) = m' ((c.tc : Thread Cert.OutMixRefIdeal.nD Cert.OutMixRefIdeal.τ).loc Cert.OutMixRefIdeal.main_arg5)
          ∧ r.2.mem ((c.tc : Thread Cert.OutMixRefIdeal.nD Cert.OutMixRefIdeal.τ).loc Cert.OutMixRefIdeal.main_arg6) = m' ((c.tc : Thread Cert.OutMixRefIdeal.nD Cert.OutMixRefIdeal.τ).loc Cert.OutMixRefIdeal.main_arg6)
          ∧ r.2.mem ((c.tc : Thread Cert.OutMixRefIdeal.nD Cert.OutMixRefIdeal.τ).loc Cert.OutMixRefIdeal.main_arg7) = m' ((c.tc : Thread Cert.OutMixRefIdeal.nD Cert.OutMixRefIdeal.τ).loc Cert.OutMixRefIdeal.main_arg7))

def preserves_Experts_ExpertsIdeal : Prop :=
  True

def algebraic_ExpertsIdeal_ExpertsRefIdeal [hExpertsIdeal : Cert.ExpertsIdeal.Facts] [hExpertsRefIdeal : Cert.ExpertsRefIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v45) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def Claim : Prop :=
  ∃ (hGqa : Cert.Gqa.Facts) (hGqaIdeal : Cert.GqaIdeal.Facts) (hGqaRefIdeal : Cert.GqaRefIdeal.Facts) (hInAtt : Cert.InAtt.Facts) (hInAttIdeal : Cert.InAttIdeal.Facts) (hInAttRefIdeal : Cert.InAttRefIdeal.Facts) (hInRec : Cert.InRec.Facts) (hInRecIdeal : Cert.InRecIdeal.Facts) (hInRecRefIdeal : Cert.InRecRefIdeal.Facts) (hOutMix : Cert.OutMix.Facts) (hOutMixIdeal : Cert.OutMixIdeal.Facts) (hOutMixRefIdeal : Cert.OutMixRefIdeal.Facts) (hExperts : Cert.Experts.Facts) (hExpertsIdeal : Cert.ExpertsIdeal.Facts) (hExpertsRefIdeal : Cert.ExpertsRefIdeal.Facts) (hPre_real_gain : Cert.Pre_real_gain.Facts) (hPre_in_range : Cert.Pre_in_range.Facts),
    quiescent_Gqa (hGqa := hGqa)
    ∧ quiescent_GqaIdeal (hGqaIdeal := hGqaIdeal)
    ∧ quiescent_GqaIdeal_pre_real_gain (hGqaIdeal := hGqaIdeal) (hPre_real_gain := hPre_real_gain)
    ∧ quiescent_GqaRefIdeal (hGqaRefIdeal := hGqaRefIdeal)
    ∧ quiescent_GqaRefIdeal_pre_real_gain (hGqaRefIdeal := hGqaRefIdeal) (hPre_real_gain := hPre_real_gain)
    ∧ quiescent_InAtt (hInAtt := hInAtt)
    ∧ quiescent_InAttIdeal (hInAttIdeal := hInAttIdeal)
    ∧ quiescent_InAttRefIdeal (hInAttRefIdeal := hInAttRefIdeal)
    ∧ quiescent_InRec (hInRec := hInRec)
    ∧ quiescent_InRecIdeal (hInRecIdeal := hInRecIdeal)
    ∧ quiescent_InRecRefIdeal (hInRecRefIdeal := hInRecRefIdeal)
    ∧ quiescent_OutMix (hOutMix := hOutMix)
    ∧ quiescent_OutMixIdeal (hOutMixIdeal := hOutMixIdeal)
    ∧ quiescent_OutMixRefIdeal (hOutMixRefIdeal := hOutMixRefIdeal)
    ∧ quiescent_Experts (hExperts := hExperts) (hPre_in_range := hPre_in_range)
    ∧ quiescent_ExpertsIdeal (hExpertsIdeal := hExpertsIdeal) (hPre_in_range := hPre_in_range)
    ∧ quiescent_ExpertsRefIdeal (hExpertsRefIdeal := hExpertsRefIdeal)
    ∧ quiescent_ExpertsRefIdeal_pre_in_range (hExpertsRefIdeal := hExpertsRefIdeal) (hPre_in_range := hPre_in_range)
    ∧ preserves_Gqa_GqaIdeal
    ∧ algebraic_GqaIdeal_GqaRefIdeal_pre_real_gain (hGqaIdeal := hGqaIdeal) (hGqaRefIdeal := hGqaRefIdeal) (hPre_real_gain := hPre_real_gain)
    ∧ preserves_InAtt_InAttIdeal
    ∧ algebraic_InAttIdeal_InAttRefIdeal (hInAttIdeal := hInAttIdeal) (hInAttRefIdeal := hInAttRefIdeal)
    ∧ preserves_InRec_InRecIdeal
    ∧ algebraic_InRecIdeal_InRecRefIdeal (hInRecIdeal := hInRecIdeal) (hInRecRefIdeal := hInRecRefIdeal)
    ∧ preserves_OutMix_OutMixIdeal
    ∧ algebraic_OutMixIdeal_OutMixRefIdeal (hOutMixIdeal := hOutMixIdeal) (hOutMixRefIdeal := hOutMixRefIdeal)
    ∧ preserves_Experts_ExpertsIdeal
    ∧ algebraic_ExpertsIdeal_ExpertsRefIdeal (hExpertsIdeal := hExpertsIdeal) (hExpertsRefIdeal := hExpertsRefIdeal) (hPre_in_range := hPre_in_range)
-- ==== Pre_in_range.lean ====
abbrev S158208x512 : Shape := ⟨2, ![158208, 512]⟩
abbrev S309 : Shape := ⟨1, ![309]⟩
abbrev S4x64x1024x256 : Shape := ⟨4, ![4, 64, 1024, 256]⟩
abbrev S4x64x256x1024 : Shape := ⟨4, ![4, 64, 256, 1024]⟩
abbrev S_ : Shape := ⟨0, ![]⟩

class Facts : Prop where
  bcast_S_S309 : S_.BroadcastsInDim S309 (![] : Fin 0 → Fin S309.rank)

variable [Facts]

def fn {F : FTy → Type} [FloatOps F] (main_arg0 : IVec S158208x512 32) (main_arg1 : IVec S309 32) (main_arg2 : IVec S309 32) (main_arg3 : FVec F S4x64x1024x256 .f32) (main_arg4 : FVec F S4x64x1024x256 .f32) (main_arg5 : FVec F S4x64x256x1024 .f32) : IVec S309 1 :=
  let main_c : IVec S_ 32 := constantI S_ 32 0#32
  let main_v0 : IVec S309 32 := broadcastInDim S309 ![] bcast_S_S309 main_c
  let main_v1 : IVec S309 1 := cmpi .sge main_arg1 main_v0
  let main_c_0 : IVec S_ 32 := constantI S_ 32 64#32
  let main_v2 : IVec S309 32 := broadcastInDim S309 ![] bcast_S_S309 main_c_0
  let main_v3 : IVec S309 1 := cmpi .slt main_arg1 main_v2
  let main_v4 : IVec S309 1 := andi main_v1 main_v3
  main_v4
-- ==== Pre_real_gain.lean ====
abbrev S8x2304x768 : Shape := ⟨3, ![8, 2304, 768]⟩
abbrev S2x64 : Shape := ⟨2, ![2, 64]⟩
abbrev S_ : Shape := ⟨0, ![]⟩

class Facts : Prop where
  bcast_S_S2x64 : S_.BroadcastsInDim S2x64 (![] : Fin 0 → Fin S2x64.rank)
  reducesTo_S2x64_S_d0_1 : S2x64.ReducesTo [0, 1] S_
  h_S_ : 0 < S_.numel

variable [Facts]

def fn {F : FTy → Type} [FloatOps F] (main_arg0 : FVec F S8x2304x768 .f32) (main_arg1 : FVec F S2x64 .f32) : IVec S_ 1 :=
  let main_v0 : FVec F S2x64 .f32 := Host.absf main_arg1
  let main_cst : FVec F S_ .f32 := constant S_ .f32 0x7F800000#32
  let main_v1 : FVec F S2x64 .f32 := broadcastInDim S2x64 ![] bcast_S_S2x64 main_cst
  let main_v2 : IVec S2x64 1 := cmpf .olt main_v0 main_v1
  let main_c : IVec S_ 1 := constantI S_ 1 1#1
  let main_v3 : IVec S_ 1 := (fun x v => Host.reduce IntOp.andi x v reducesTo_S2x64_S_d0_1 h_S_) main_v2 main_c
  main_v3
-- ==== Gqa.lean ====
abbrev S8x2304x768 : Shape := ⟨3, ![8, 2304, 768]⟩
abbrev S2x64 : Shape := ⟨2, ![2, 64]⟩
abbrev S2 : Shape := ⟨1, ![2]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S256x32 : Shape := ⟨2, ![256, 32]⟩
abbrev S2304x32 : Shape := ⟨2, ![2304, 32]⟩
abbrev S2304x32x2 : Shape := ⟨3, ![2304, 32, 2]⟩
abbrev S2304x64 : Shape := ⟨2, ![2304, 64]⟩
abbrev S1x2304x1x64 : Shape := ⟨4, ![1, 2304, 1, 64]⟩
abbrev S1x2304x2x64 : Shape := ⟨4, ![1, 2304, 2, 64]⟩
abbrev S2304x128 : Shape := ⟨2, ![2304, 128]⟩
abbrev S1x2 : Shape := ⟨2, ![1, 2]⟩
abbrev S64x2 : Shape := ⟨2, ![64, 2]⟩
abbrev S128 : Shape := ⟨1, ![128]⟩
abbrev S1x128 : Shape := ⟨2, ![1, 128]⟩
abbrev S1x2x1x64 : Shape := ⟨4, ![1, 2, 1, 64]⟩
abbrev S1x2x2x64 : Shape := ⟨4, ![1, 2, 2, 64]⟩
abbrev S2x128 : Shape := ⟨2, ![2, 128]⟩
abbrev S8x2304x512 : Shape := ⟨3, ![8, 2304, 512]⟩
abbrev S1x256x512 : Shape := ⟨3, ![1, 256, 512]⟩
abbrev S1x2304x128 : Shape := ⟨3, ![1, 2304, 128]⟩
abbrev S256x128 : Shape := ⟨2, ![256, 128]⟩
abbrev S2x2304x128 : Shape := ⟨3, ![2, 2304, 128]⟩
abbrev S2304 : Shape := ⟨1, ![2304]⟩
abbrev S2304x1 : Shape := ⟨2, ![2304, 1]⟩
abbrev S1x256x128 : Shape := ⟨3, ![1, 256, 128]⟩
abbrev S256 : Shape := ⟨1, ![256]⟩
abbrev S256x1 : Shape := ⟨2, ![256, 1]⟩
abbrev S256x256 : Shape := ⟨2, ![256, 256]⟩
abbrev S256x2304 : Shape := ⟨2, ![256, 2304]⟩

abbrev nBuf : Space → Nat
  | .hbm => 99
  | .vmem => 17
  | .smem => 0
  | _ => 0

abbrev bufTy : (tb : Table) → Fin (tcTables nBuf tb) → BufTy
  | .hbm, ⟨0, _⟩ => ⟨S8x2304x768, .f32⟩
  | .hbm, ⟨1, _⟩ => ⟨S2x64, .f32⟩
  | .hbm, ⟨2, _⟩ => ⟨S2, .f32⟩
  | .hbm, ⟨3, _⟩ => ⟨S2048, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S_, .i1⟩
  | .hbm, ⟨39, _⟩ => ⟨S2048, .i1⟩
  | .hbm, ⟨40, _⟩ => ⟨S2048, .i1⟩
  | .hbm, ⟨41, _⟩ => ⟨S2048, .i1⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S2048x1, .f32⟩
  | .hbm, ⟨61, _⟩ => ⟨S1x16, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S2048x1, .f32⟩
  | .hbm, ⟨66, _⟩ => ⟨S1x16, .f32⟩
  | .hbm, ⟨67, _⟩ => ⟨S2048x16, .f32⟩
  | .hbm, ⟨68, _⟩ => ⟨S2048x16, .f32⟩
  | .hbm, ⟨69, _⟩ => ⟨S2048x16, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S_, .f32⟩
  | .hbm, ⟨74, _⟩ => ⟨S256x32, .f32⟩
  | .hbm, ⟨75, _⟩ => ⟨S2304x32, .f32⟩
  | .hbm, ⟨76, _⟩ => ⟨S_, .f32⟩
  | .hbm, ⟨77, _⟩ => ⟨S256x32, .f32⟩
  | .hbm, ⟨78, _⟩ => ⟨S2304x32, .f32⟩
  | .hbm, ⟨79, _⟩ => ⟨S2304x32x2, .f32⟩
  | .hbm, ⟨80, _⟩ => ⟨S2304x64, .f32⟩
  | .hbm, ⟨81, _⟩ => ⟨S1x2304x1x64, .f32⟩
  | .hbm, ⟨82, _⟩ => ⟨S1x2304x2x64, .f32⟩
  | .hbm, ⟨83, _⟩ => ⟨S2304x128, .f32⟩
  | .hbm, ⟨84, _⟩ => ⟨S1x2, .f32⟩
  | .hbm, ⟨85, _⟩ => ⟨S64x2, .f32⟩
  | .hbm, ⟨86, _⟩ => ⟨S128, .f32⟩
  | .hbm, ⟨87, _⟩ => ⟨S2304x32x2, .f32⟩
  | .hbm, ⟨88, _⟩ => ⟨S2304x64, .f32⟩
  | .hbm, ⟨89, _⟩ => ⟨S1x2304x1x64, .f32⟩
  | .hbm, ⟨90, _⟩ => ⟨S1x2304x2x64, .f32⟩
  | .hbm, ⟨91, _⟩ => ⟨S2304x128, .f32⟩
  | .hbm, ⟨92, _⟩ => ⟨S1x128, .f32⟩
  | .hbm, ⟨93, _⟩ => ⟨S2304x128, .f32⟩
  | .hbm, ⟨94, _⟩ => ⟨S2304x128, .f32⟩
  | .hbm, ⟨95, _⟩ => ⟨S1x2x1x64, .f32⟩
  | .hbm, ⟨96, _⟩ => ⟨S1x2x2x64, .f32⟩
  | .hbm, ⟨97, _⟩ => ⟨S2x128, .f32⟩
  | .hbm, ⟨98, _⟩ => ⟨S8x2304x512, .bf16⟩
  | .local _ .vmem, ⟨0, _⟩ => ⟨S1x256x512, .f32⟩
  | .local _ .vmem, ⟨1, _⟩ => ⟨S1x256x512, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2304x128, .f32⟩
  | .local _ .vmem, ⟨11, _⟩ => ⟨S2304x128, .f32⟩
  | .local _ .vmem, ⟨12, _⟩ => ⟨S2x128, .f32⟩
  | .local _ .vmem, ⟨13, _⟩ => ⟨S1x256x512, .bf16⟩
  | .local _ .vmem, ⟨14, _⟩ => ⟨S1x256x512, .bf16⟩
  | .local _ .vmem, ⟨15, _⟩ => ⟨S2x2304x128, .bf16⟩
  | .local _ .vmem, ⟨16, _⟩ => ⟨S2x2304x128, .bf16⟩
  | _, _ => ⟨S8x2304x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_cst_1 : Ref sig .tc := ⟨.hbm, 47, rfl⟩
abbrev main_v6 : Ref sig .tc := ⟨.hbm, 48, rfl⟩
abbrev main_v7 : Ref sig .tc := ⟨.hbm, 49, rfl⟩
abbrev main_cst_2 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_3 : Ref sig .tc := ⟨.hbm, 54, rfl⟩
abbrev main_v11 : Ref sig .tc := ⟨.hbm, 55, rfl⟩
abbrev main_v12 : Ref sig .tc := ⟨.hbm, 56, rfl⟩
abbrev main_cst_4 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_5 : Ref sig .tc := ⟨.hbm, 73, rfl⟩
abbrev main_v28 : Ref sig .tc := ⟨.hbm, 74, rfl⟩
abbrev main_v29 : Ref sig .tc := ⟨.hbm, 75, rfl⟩
abbrev main_cst_6 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c1_i32 : BitVec 32 := 1#32
  let v3 : BitVec 1 := Scalar.cmpi .slt arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c1_i32_2 : BitVec 32 := 1#32
  let v6 : BitVec 1 := Scalar.cmpi .sge arg1 c1_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2304x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GqaRefIdeal.lean ====
abbrev S8x2304x768 : Shape := ⟨3, ![8, 2304, 768]⟩
abbrev S2x64 : Shape := ⟨2, ![2, 64]⟩
abbrev S8x256x768 : Shape := ⟨3, ![8, 256, 768]⟩
abbrev S8x256x512 : Shape := ⟨3, ![8, 256, 512]⟩
abbrev S8x256x128 : Shape := ⟨3, ![8, 256, 128]⟩
abbrev S8x256x8x64 : Shape := ⟨4, ![8, 256, 8, 64]⟩
abbrev S1x64 : Shape := ⟨2, ![1, 64]⟩
abbrev S64 : Shape := ⟨1, ![64]⟩
abbrev S_ : Shape := ⟨0, ![]⟩
abbrev S8x256x8 : Shape := ⟨3, ![8, 256, 8]⟩
abbrev S8x256x8x1 : Shape := ⟨4, ![8, 256, 8, 1]⟩
abbrev S1x1x1x64 : Shape := ⟨4, ![1, 1, 1, 64]⟩
abbrev S8x256x2x64 : Shape := ⟨4, ![8, 256, 2, 64]⟩
abbrev S8x256x2 : Shape := ⟨3, ![8, 256, 2]⟩
abbrev S8x256x2x1 : Shape := ⟨4, ![8, 256, 2, 1]⟩
abbrev S8x2048x768 : Shape := ⟨3, ![8, 2048, 768]⟩
abbrev S8x2048x512 : Shape := ⟨3, ![8, 2048, 512]⟩
abbrev S8x2048x128 : Shape := ⟨3, ![8, 2048, 128]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S8x2048x8x32x2 : Shape := ⟨5, ![8, 2048, 8, 32, 2]⟩
abbrev S8x2048x8x32x1 : Shape := ⟨5, ![8, 2048, 8, 32, 1]⟩
abbrev S8x2048x8x32 : Shape := ⟨4, ![8, 2048, 8, 32]⟩
abbrev S2048x1x32 : Shape := ⟨3, ![2048, 1, 32]⟩
abbrev S1x2048x1x32 : Shape := ⟨4, ![1, 2048, 1, 32]⟩
abbrev S8x2048x2x32x2 : Shape := ⟨5, ![8, 2048, 2, 32, 2]⟩
abbrev S8x2048x2x32x1 : Shape := ⟨5, ![8, 2048, 2, 32, 1]⟩
abbrev S8x2048x2x32 : Shape := ⟨4, ![8, 2048, 2, 32]⟩
abbrev S8x2304x2x64 : Shape := ⟨4, ![8, 2304, 2, 64]⟩
abbrev S8x2048x2x4x64 : Shape := ⟨5, ![8, 2048, 2, 4, 64]⟩
abbrev S8x2x2304x2048x4 : Shape := ⟨5, ![8, 2, 2304, 2048, 4]⟩
abbrev S8x2x4x2048x2304 : Shape := ⟨5, ![8, 2, 4, 2048, 2304]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S8x256x2x4x64 : Shape := ⟨5, ![8, 256, 2, 4, 64]⟩
abbrev S8x2x256x256x4 : Shape := ⟨5, ![8, 2, 256, 256, 4]⟩
abbrev S8x2x4x256x256 : Shape := ⟨5, ![8, 2, 4, 256, 256]⟩
abbrev S8x2x4x256 : Shape := ⟨4, ![8, 2, 4, 256]⟩
abbrev S8x2x4x256x1 : Shape := ⟨5, ![8, 2, 4, 256, 1]⟩
abbrev S8x2x64x4x256 : Shape := ⟨5, ![8, 2, 64, 4, 256]⟩
abbrev S8x2304x512 : Shape := ⟨3, ![8, 2304, 512]⟩

abbrev nBuf : Space → Nat
  | .hbm => 258
  | .vmem => 0
  | .smem => 0
  | _ => 0

abbrev hbmTy0_0 (i : Nat) : BufTy := match i % 128 with
  | 0 => ⟨S8x2304x768, .f32⟩
  | 1 => ⟨S2x64, .f32⟩
  | 2 => ⟨S8x256x768, .f32⟩
  | 3 => ⟨S8x256x512, .f32⟩
  | 4 => ⟨S8x256x128, .f32⟩
  | 5 => ⟨S8x256x128, .f32⟩
  | 6 => ⟨S8x256x8x64, .f32⟩
  | 7 => ⟨S1x64, .f32⟩
  | 8 => ⟨S64, .f32⟩
  | 9 => ⟨S8x256x8x64, .f32⟩
  | 10 => ⟨S_, .f32⟩
  | 11 => ⟨S8x256x8, .f32⟩
  | 12 => ⟨S8x256x8x1, .f32⟩
  | 13 => ⟨S_, .f32⟩
  | 14 => ⟨S8x256x8x1, .f32⟩
  | 15 => ⟨S8x256x8x1, .f32⟩
  | 16 => ⟨S_, .f32⟩
  | 17 => ⟨S8x256x8x1, .f32⟩
  | 18 => ⟨S8x256x8x1, .f32⟩
  | 19 => ⟨S8x256x8x1, .f32⟩
  | 20 => ⟨S8x256x8x64, .f32⟩
  | 21 => ⟨S8x256x8x64, .f32⟩
  | 22 => ⟨S1x1x1x64, .f32⟩
  | 23 => ⟨S8x256x8x64, .f32⟩
  | 24 => ⟨S8x256x8x64, .f32⟩
  | 25 => ⟨S8x256x2x64, .f32⟩
  | 26 => ⟨S1x64, .f32⟩
  | 27 => ⟨S64, .f32⟩
  | 28 => ⟨S8x256x2x64, .f32⟩
  | 29 => ⟨S_, .f32⟩
  | 30 => ⟨S8x256x2, .f32⟩
  | 31 => ⟨S8x256x2x1, .f32⟩
  | 32 => ⟨S_, .f32⟩
  | 33 => ⟨S8x256x2x1, .f32⟩
  | 34 => ⟨S8x256x2x1, .f32⟩
  | 35 => ⟨S_, .f32⟩
  | 36 => ⟨S8x256x2x1, .f32⟩
  | 37 => ⟨S8x256x2x1, .f32⟩
  | 38 => ⟨S8x256x2x1, .f32⟩
  | 39 => ⟨S8x256x2x64, .f32⟩
  | 40 => ⟨S8x256x2x64, .f32⟩
  | 41 => ⟨S1x1x1x64, .f32⟩
  | 42 => ⟨S8x256x2x64, .f32⟩
  | 43 => ⟨S8x256x2x64, .f32⟩
  | 44 => ⟨S8x256x2x64, .f32⟩
  | 45 => ⟨S8x2048x768, .f32⟩
  | 46 => ⟨S8x2048x512, .f32⟩
  | 47 => ⟨S8x2048x128, .f32⟩
  | 48 => ⟨S8x2048x128, .f32⟩
  | 49 => ⟨S8x2048x8x64, .f32⟩
  | 50 => ⟨S1x64, .f32⟩
  | 51 => ⟨S64, .f32⟩
  | 52 => ⟨S8x2048x8x64, .f32⟩
  | 53 => ⟨S_, .f32⟩
  | 54 => ⟨S8x2048x8, .f32⟩
  | 55 => ⟨S8x2048x8x1, .f32⟩
  | 56 => ⟨S_, .f32⟩
  | 57 => ⟨S8x2048x8x1, .f32⟩
  | 58 => ⟨S8x2048x8x1, .f32⟩
  | 59 => ⟨S_, .f32⟩
  | 60 => ⟨S8x2048x8x1, .f32⟩
  | 61 => ⟨S8x2048x8x1, .f32⟩
  | 62 => ⟨S8x2048x8x1, .f32⟩
  | 63 => ⟨S8x2048x8x64, .f32⟩
  | 64 => ⟨S8x2048x8x64, .f32⟩
  | 65 => ⟨S1x1x1x64, .f32⟩
  | 66 => ⟨S8x2048x8x64, .f32⟩
  | 67 => ⟨S8x2048x8x64, .f32⟩
  | 68 => ⟨S8x2048x2x64, .f32⟩
  | 69 => ⟨S1x64, .f32⟩
  | 70 => ⟨S64, .f32⟩
  | 71 => ⟨S8x2048x2x64, .f32⟩
  | 72 => ⟨S_, .f32⟩
  | 73 => ⟨S8x2048x2, .f32⟩
  | 74 => ⟨S8x2048x2x1, .f32⟩
  | 75 => ⟨S_, .f32⟩
  | 76 => ⟨S8x2048x2x1, .f32⟩
  | 77 => ⟨S8x2048x2x1, .f32⟩
  | 78 => ⟨S_, .f32⟩
  | 79 => ⟨S8x2048x2x1, .f32⟩
  | 80 => ⟨S8x2048x2x1, .f32⟩
  | 81 => ⟨S8x2048x2x1, .f32⟩
  | 82 => ⟨S8x2048x2x64, .f32⟩
  | 83 => ⟨S8x2048x2x64, .f32⟩
  | 84 => ⟨S1x1x1x64, .f32⟩
  | 85 => ⟨S8x2048x2x64, .f32⟩
  | 86 => ⟨S8x2048x2x64, .f32⟩
  | 87 => ⟨S8x2048x2x64, .f32⟩
  | 88 => ⟨S2048, .i32⟩
  | 89 => ⟨S_, .i32⟩
  | 90 => ⟨S_, .i32⟩
  | 91 => ⟨S2048, .i32⟩
  | 92 => ⟨S2048, .i32⟩
  | 93 => ⟨S2048, .i32⟩
  | 94 => ⟨S_, .i32⟩
  | 95 => ⟨S2048, .i32⟩
  | 96 => ⟨S2048, .i1⟩
  | 97 => ⟨S2048, .i32⟩
  | 98 => ⟨S2048, .i32⟩
  | 99 => ⟨S_, .i32⟩
  | 100 => ⟨S2048, .i32⟩
  | 101 => ⟨S2048, .i1⟩
  | 102 => ⟨S2048, .i1⟩
  | 103 => ⟨S_, .i32⟩
  | 104 => ⟨S2048, .i32⟩
  | 105 => ⟨S2048, .i32⟩
  | 106 => ⟨S2048, .i32⟩
  | 107 => ⟨S2048, .f32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S2048, .i32⟩
  | 115 => ⟨S2048, .i32⟩
  | 116 => ⟨S_, .i32⟩
  | 117 => ⟨S2048, .i32⟩
  | 118 => ⟨S2048, .i1⟩
  | 119 => ⟨S_, .i32⟩
  | 120 => ⟨S2048, .i32⟩
  | 121 => ⟨S2048, .i1⟩
  | 122 => ⟨S_, .i32⟩
  | 123 => ⟨S_, .i1⟩
  | 124 => ⟨S2048, .i1⟩
  | 125 => ⟨S2048, .i1⟩
  | 126 => ⟨S2048, .i1⟩
  | 127 => ⟨S2048, .i32⟩
  | _ => ⟨S8x2304x768, .f32⟩

abbrev hbmTy0_1 (i : Nat) : BufTy := match i % 128 with
  | 0 => ⟨S2048, .i32⟩
  | 1 => ⟨S2048, .i32⟩
  | 2 => ⟨S2048, .f32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S2048x1, .f32⟩
  | 18 => ⟨S1x16, .f32⟩
  | 19 => ⟨S2048x16, .f32⟩
  | 20 => ⟨S2048x16, .f32⟩
  | 21 => ⟨S2048x16, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x32, .f32⟩
  | 28 => ⟨S2048x32, .f32⟩
  | 29 => ⟨S2048x32, .f32⟩
  | 30 => ⟨S8x2048x8x32x2, .f32⟩
  | 31 => ⟨S8x2048x8x32x1, .f32⟩
  | 32 => ⟨S8x2048x8x32, .f32⟩
  | 33 => ⟨S8x2048x8x32x1, .f32⟩
  | 34 => ⟨S8x2048x8x32, .f32⟩
  | 35 => ⟨S2048x1x32, .f32⟩
  | 36 => ⟨S2048x1x32, .f32⟩
  | 37 => ⟨S1x2048x1x32, .f32⟩
  | 38 => ⟨S8x2048x8x32, .f32⟩
  | 39 => ⟨S8x2048x8x32, .f32⟩
  | 40 => ⟨S1x2048x1x32, .f32⟩
  | 41 => ⟨S8x2048x8x32, .f32⟩
  | 42 => ⟨S8x2048x8x32, .f32⟩
  | 43 => ⟨S8x2048x8x32, .f32⟩
  | 44 => ⟨S1x2048x1x32, .f32⟩
  | 45 => ⟨S8x2048x8x32, .f32⟩
  | 46 => ⟨S8x2048x8x32, .f32⟩
  | 47 => ⟨S1x2048x1x32, .f32⟩
  | 48 => ⟨S8x2048x8x32, .f32⟩
  | 49 => ⟨S8x2048x8x32, .f32⟩
  | 50 => ⟨S8x2048x8x32, .f32⟩
  | 51 => ⟨S8x2048x8x32x1, .f32⟩
  | 52 => ⟨S8x2048x8x32x1, .f32⟩
  | 53 => ⟨S8x2048x8x32x2, .f32⟩
  | 54 => ⟨S8x2048x8x64, .f32⟩
  | 55 => ⟨S8x2048x2x32x2, .f32⟩
  | 56 => ⟨S8x2048x2x32x1, .f32⟩
  | 57 => ⟨S8x2048x2x32, .f32⟩
  | 58 => ⟨S8x2048x2x32x1, .f32⟩
  | 59 => ⟨S8x2048x2x32, .f32⟩
  | 60 => ⟨S2048x1x32, .f32⟩
  | 61 => ⟨S2048x1x32, .f32⟩
  | 62 => ⟨S1x2048x1x32, .f32⟩
  | 63 => ⟨S8x2048x2x32, .f32⟩
  | 64 => ⟨S8x2048x2x32, .f32⟩
  | 65 => ⟨S1x2048x1x32, .f32⟩
  | 66 => ⟨S8x2048x2x32, .f32⟩
  | 67 => ⟨S8x2048x2x32, .f32⟩
  | 68 => ⟨S8x2048x2x32, .f32⟩
  | 69 => ⟨S1x2048x1x32, .f32⟩
  | 70 => ⟨S8x2048x2x32, .f32⟩
  | 71 => ⟨S8x2048x2x32, .f32⟩
  | 72 => ⟨S1x2048x1x32, .f32⟩
  | 73 => ⟨S8x2048x2x32, .f32⟩
  | 74 => ⟨S8x2048x2x32, .f32⟩
  | 75 => ⟨S8x2048x2x32, .f32⟩
  | 76 => ⟨S8x2048x2x32x1, .f32⟩
  | 77 => ⟨S8x2048x2x32x1, .f32⟩
  | 78 => ⟨S8x2048x2x32x2, .f32⟩
  | 79 => ⟨S8x2048x2x64, .f32⟩
  | 80 => ⟨S8x2304x2x64, .f32⟩
  | 81 => ⟨S8x2304x2x64, .f32⟩
  | 82 => ⟨S8x2048x2x4x64, .f32⟩
  | 83 => ⟨S8x2x2304x2048x4, .f32⟩
  | 84 => ⟨S8x2x4x2048x2304, .f32⟩
  | 85 => ⟨S_, .f32⟩
  | 86 => ⟨S8x2x4x2048x2304, .f32⟩
  | 87 => ⟨S8x2x4x2048x2304, .f32⟩
  | 88 => ⟨S_, .f32⟩
  | 89 => ⟨S8x2x4x2048, .f32⟩
  | 90 => ⟨S_, .f32⟩
  | 91 => ⟨S8x2x4x2048, .f32⟩
  | 92 => ⟨S8x2x4x2048, .f32⟩
  | 93 => ⟨S8x2x4x2048x1, .f32⟩
  | 94 => ⟨S8x2x4x2048x2304, .f32⟩
  | 95 => ⟨S8x2x4x2048x2304, .f32⟩
  | 96 => ⟨S8x2x4x2048x2304, .f32⟩
  | 97 => ⟨S_, .f32⟩
  | 98 => ⟨S8x2x4x2048, .f32⟩
  | 99 => ⟨S8x2x4x2048x1, .f32⟩
  | 100 => ⟨S8x2x4x2048x2304, .f32⟩
  | 101 => ⟨S8x2x4x2048x2304, .f32⟩
  | 102 => ⟨S8x2x64x4x2048, .f32⟩
  | 103 => ⟨S8x2048x2x4x64, .f32⟩
  | 104 => ⟨S8x2048x512, .f32⟩
  | 105 => ⟨S8x256x2x4x64, .f32⟩
  | 106 => ⟨S8x2x256x256x4, .f32⟩
  | 107 => ⟨S8x2x4x256x256, .f32⟩
  | 108 => ⟨S_, .f32⟩
  | 109 => ⟨S8x2x4x256x256, .f32⟩
  | 110 => ⟨S8x2x4x256x256, .f32⟩
  | 111 => ⟨S_, .f32⟩
  | 112 => ⟨S8x2x4x256, .f32⟩
  | 113 => ⟨S_, .f32⟩
  | 114 => ⟨S8x2x4x256, .f32⟩
  | 115 => ⟨S8x2x4x256, .f32⟩
  | 116 => ⟨S8x2x4x256x1, .f32⟩
  | 117 => ⟨S8x2x4x256x256, .f32⟩
  | 118 => ⟨S8x2x4x256x256, .f32⟩
  | 119 => ⟨S8x2x4x256x256, .f32⟩
  | 120 => ⟨S_, .f32⟩
  | 121 => ⟨S8x2x4x256, .f32⟩
  | 122 => ⟨S8x2x4x256x1, .f32⟩
  | 123 => ⟨S8x2x4x256x256, .f32⟩
  | 124 => ⟨S8x2x4x256x256, .f32⟩
  | 125 => ⟨S8x2x64x4x256, .f32⟩
  | 126 => ⟨S8x256x2x4x64, .f32⟩
  | 127 => ⟨S8x256x512, .f32⟩
  | _ => ⟨S8x2304x768, .f32⟩

abbrev hbmTy0_2 (i : Nat) : BufTy := match i % 128 with
  | 0 => ⟨S8x2304x512, .f32⟩
  | 1 => ⟨S8x2304x512, .bf16⟩
  | _ => ⟨S8x2304x768, .f32⟩

abbrev hbmTy (i : Nat) : BufTy := match i / 128 with
  | 0 => hbmTy0_0 i
  | 1 => hbmTy0_1 i
  | 2 => hbmTy0_2 i
  | _ => ⟨S8x2304x768, .f32⟩

abbrev bufTy : (tb : Table) → Fin (tcTables nBuf tb) → BufTy
  | .hbm, ⟨i, _⟩ => hbmTy i
  | _, _ => ⟨S8x2304x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_cst_6 : Ref sig .tc := ⟨.hbm, 56, rfl⟩
abbrev main_v47 : Ref sig .tc := ⟨.hbm, 57, rfl⟩
abbrev main_v48 : Ref sig .tc := ⟨.hbm, 58, rfl⟩
abbrev main_cst_7 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_8 : Ref sig .tc := ⟨.hbm, 72, rfl⟩
abbrev main_v61 : Ref sig .tc := ⟨.hbm, 73, rfl⟩
abbrev main_v62 : Ref sig .tc := ⟨.hbm, 74, rfl⟩
abbrev main_cst_9 : Ref sig .tc := ⟨.hbm, 75, rfl⟩
abbrev main_v63 : Ref sig .tc := ⟨.hbm, 76, rfl⟩
abbrev main_v64 : Ref sig .tc := ⟨.hbm, 77, rfl⟩
abbrev main_cst_10 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_c : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_v8 : Ref sig .tc := ⟨.hbm, 98, rfl⟩
abbrev main_call0_c : Ref sig .tc := ⟨.hbm, 99, rfl⟩
abbrev main_call0_v9 : Ref sig .tc := ⟨.hbm, 100, rfl⟩
abbrev main_call0_v10 : Ref sig .tc := ⟨.hbm, 101, rfl⟩
abbrev main_call0_v11 : Ref sig .tc := ⟨.hbm, 102, rfl⟩
abbrev main_call0_c_0 : Ref sig .tc := ⟨.hbm, 103, rfl⟩
abbrev main_call0_v12 : Ref sig .tc := ⟨.hbm, 104, rfl⟩
abbrev main_call0_v13 : Ref sig .tc := ⟨.hbm, 105, rfl⟩
abbrev main_v75 : Ref sig .tc := ⟨.hbm, 106, rfl⟩
abbrev main_v76 : Ref sig .tc := ⟨.hbm, 107, rfl⟩
abbrev main_c_11 : Ref sig .tc := ⟨.hbm, 108, rfl⟩
abbrev main_call1_v0 : Ref sig .tc := ⟨.hbm, 109, rfl⟩
abbrev main_call1_c : Ref sig .tc := ⟨.hbm, 110, rfl⟩
abbrev main_call1_v1 : Ref sig .tc := ⟨.hbm, 111, rfl⟩
abbrev main_call1_c_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_c_1 : Ref sig .tc := ⟨.hbm, 116, rfl⟩
abbrev main_call1_v5 : Ref sig .tc := ⟨.hbm, 117, rfl⟩
abbrev main_call1_v6 : Ref sig .tc := ⟨.hbm, 118, rfl⟩
abbrev main_call1_c_2 : Ref sig .tc := ⟨.hbm, 119, rfl⟩
abbrev main_call1_v7 : Ref sig .tc := ⟨.hbm, 120, rfl⟩
abbrev main_call1_v8 : Ref sig .tc := ⟨.hbm, 121, rfl⟩
abbrev main_call1_c_3 : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_call1_v12 : Ref sig .tc := ⟨.hbm, 126, rfl⟩
abbrev main_call1_v13 : Ref sig .tc := ⟨.hbm, 127, rfl⟩
abbrev main_call1_v14 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_12 : Ref sig .tc := ⟨.hbm, 132, rfl⟩
abbrev main_v80 : Ref sig .tc := ⟨.hbm, 133, rfl⟩
abbrev main_v81 : Ref sig .tc := ⟨.hbm, 134, rfl⟩
abbrev main_cst_13 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_14 : Ref sig .tc := ⟨.hbm, 139, rfl⟩
abbrev main_v85 : Ref sig .tc := ⟨.hbm, 140, rfl⟩
abbrev main_v86 : Ref sig .tc := ⟨.hbm, 141, rfl⟩
abbrev main_cst_15 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_16 : Ref sig .tc := ⟨.hbm, 213, rfl⟩
abbrev main_v157 : Ref sig .tc := ⟨.hbm, 214, rfl⟩
abbrev main_v158 : Ref sig .tc := ⟨.hbm, 215, rfl⟩
abbrev main_cst_17 : Ref sig .tc := ⟨.hbm, 216, rfl⟩
abbrev main_v159 : Ref sig .tc := ⟨.hbm, 217, rfl⟩
abbrev main_cst_18 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_19 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_cst_20 : Ref sig .tc := ⟨.hbm, 236, rfl⟩
abbrev main_v176 : Ref sig .tc := ⟨.hbm, 237, rfl⟩
abbrev main_v177 : Ref sig .tc := ⟨.hbm, 238, rfl⟩
abbrev main_cst_21 : Ref sig .tc := ⟨.hbm, 239, rfl⟩
abbrev main_v178 : Ref sig .tc := ⟨.hbm, 240, rfl⟩
abbrev main_cst_22 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_cst_23 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩

abbrev nD : Nat := 1
abbrev τ : Topo := Topo.v7x

variable {F : FTy → Type} [FloatOps F]
-- ==== InAtt.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S1024x2304 : Shape := ⟨2, ![1024, 2304]⟩
abbrev S8x2304x1024 : Shape := ⟨3, ![8, 2304, 1024]⟩
abbrev S8x6x1024 : Shape := ⟨3, ![8, 6, 1024]⟩
abbrev S1x6x1024 : Shape := ⟨3, ![1, 6, 1024]⟩
abbrev S8x1x6x1024 : Shape := ⟨4, ![8, 1, 6, 1024]⟩
abbrev S8x2x6x1024 : Shape := ⟨4, ![8, 2, 6, 1024]⟩
abbrev S_ : Shape := ⟨0, ![]⟩
abbrev S8x2x8x1024 : Shape := ⟨4, ![8, 2, 8, 1024]⟩
abbrev S8x2304x1536 : Shape := ⟨3, ![8, 2304, 1536]⟩
abbrev S8x2304x768 : Shape := ⟨3, ![8, 2304, 768]⟩
abbrev S1x256x1024 : Shape := ⟨3, ![1, 256, 1024]⟩
abbrev S1x1x8x1024 : Shape := ⟨4, ![1, 1, 8, 1024]⟩
abbrev S1x256x1536 : Shape := ⟨3, ![1, 256, 1536]⟩
abbrev S1x256x768 : Shape := ⟨3, ![1, 256, 768]⟩
abbrev S256x1024 : Shape := ⟨2, ![256, 1024]⟩
abbrev S1x1x1x1024 : Shape := ⟨4, ![1, 1, 1, 1024]⟩
abbrev S1x1024 : Shape := ⟨2, ![1, 1024]⟩
abbrev S1024x1536 : Shape := ⟨2, ![1024, 1536]⟩
abbrev S256x1536 : Shape := ⟨2, ![256, 1536]⟩
abbrev S1024x768 : Shape := ⟨2, ![1024, 768]⟩
abbrev S256x768 : Shape := ⟨2, ![256, 768]⟩

abbrev nBuf : Space → Nat
  | .hbm => 18
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x6144, .f32⟩
  | .hbm, ⟨3, _⟩ => ⟨S6144, .f32⟩
  | .hbm, ⟨4, _⟩ => ⟨S1024x2304, .f32⟩
  | .hbm, ⟨5, _⟩ => ⟨S8x2304x1024, .f32⟩
  | .hbm, ⟨6, _⟩ => ⟨S8x6x1024, .f32⟩
  | .hbm, ⟨7, _⟩ => ⟨S1x6x1024, .f32⟩
  | .hbm, ⟨8, _⟩ => ⟨S8x6x1024, .f32⟩
  | .hbm, ⟨9, _⟩ => ⟨S8x1x6x1024, .f32⟩
  | .hbm, ⟨10, _⟩ => ⟨S8x1x6x1024, .f32⟩
  | .hbm, ⟨11, _⟩ => ⟨S8x2x6x1024, .f32⟩
  | .hbm, ⟨12, _⟩ => ⟨S_, .i32⟩
  | .hbm, ⟨13, _⟩ => ⟨S_, .f32⟩
  | .hbm, ⟨14, _⟩ => ⟨S8x2x8x1024, .f32⟩
  | .hbm, ⟨15, _⟩ => ⟨S1024x2304, .bf16⟩
  | .hbm, ⟨16, _⟩ => ⟨S8x2304x1536, .bf16⟩
  | .hbm, ⟨17, _⟩ => ⟨S8x2304x768, .f32⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1024x2304, .bf16⟩
  | .local _ .vmem, ⟨5, _⟩ => ⟨S1x256x1536, .bf16⟩
  | .local _ .vmem, ⟨6, _⟩ => ⟨S1x256x1536, .bf16⟩
  | .local _ .vmem, ⟨7, _⟩ => ⟨S1x256x768, .f32⟩
  | .local _ .vmem, ⟨8, _⟩ => ⟨S1x256x768, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InAttRefIdeal.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S1024x2304 : Shape := ⟨2, ![1024, 2304]⟩
abbrev S8x1024 : Shape := ⟨2, ![8, 1024]⟩
abbrev S8x1x1024 : Shape := ⟨3, ![8, 1, 1024]⟩
abbrev S1024 : Shape := ⟨1, ![1024]⟩
abbrev S_ : Shape := ⟨0, ![]⟩
abbrev S1x1x1024 : Shape := ⟨3, ![1, 1, 1024]⟩
abbrev S8x256x2304 : Shape := ⟨3, ![8, 256, 2304]⟩
abbrev S8x2048x2304 : Shape := ⟨3, ![8, 2048, 2304]⟩
abbrev S8x2304x2304 : Shape := ⟨3, ![8, 2304, 2304]⟩
abbrev S8x2304x1536 : Shape := ⟨3, ![8, 2304, 1536]⟩
abbrev S8x2304x768 : Shape := ⟨3, ![8, 2304, 768]⟩

abbrev nBuf : Space → Nat
  | .hbm => 33
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x6144, .f32⟩
  | .hbm, ⟨3, _⟩ => ⟨S6144, .f32⟩
  | .hbm, ⟨4, _⟩ => ⟨S1024x2304, .f32⟩
  | .hbm, ⟨5, _⟩ => ⟨S8x1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S8x1x1024, .f32⟩
  | .hbm, ⟨13, _⟩ => ⟨S8x1x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S1x1x1024, .f32⟩
  | .hbm, ⟨25, _⟩ => ⟨S8x256x1024, .f32⟩
  | .hbm, ⟨26, _⟩ => ⟨S8x256x1024, .f32⟩
  | .hbm, ⟨27, _⟩ => ⟨S8x256x2304, .f32⟩
  | .hbm, ⟨28, _⟩ => ⟨S8x2048x2304, .f32⟩
  | .hbm, ⟨29, _⟩ => ⟨S8x2304x2304, .f32⟩
  | .hbm, ⟨30, _⟩ => ⟨S8x2304x1536, .f32⟩
  | .hbm, ⟨31, _⟩ => ⟨S8x2304x1536, .bf16⟩
  | .hbm, ⟨32, _⟩ => ⟨S8x2304x768, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== InRec.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S1024x4112 : Shape := ⟨2, ![1024, 4112]⟩
abbrev S8x2304x1024 : Shape := ⟨3, ![8, 2304, 1024]⟩
abbrev S8x6x1024 : Shape := ⟨3, ![8, 6, 1024]⟩
abbrev S1x6x1024 : Shape := ⟨3, ![1, 6, 1024]⟩
abbrev S8x1x6x1024 : Shape := ⟨4, ![8, 1, 6, 1024]⟩
abbrev S8x2x6x1024 : Shape := ⟨4, ![8, 2, 6, 1024]⟩
abbrev S_ : Shape := ⟨0, ![]⟩
abbrev S8x2x8x1024 : Shape := ⟨4, ![8, 2, 8, 1024]⟩
abbrev S1024x4224 : Shape := ⟨2, ![1024, 4224]⟩
abbrev S8x2304x2048 : Shape := ⟨3, ![8, 2304, 2048]⟩
abbrev S8x2304x128 : Shape := ⟨3, ![8, 2304, 128]⟩
abbrev S1x256x1024 : Shape := ⟨3, ![1, 256, 1024]⟩
abbrev S1x1x8x1024 : Shape := ⟨4, ![1, 1, 8, 1024]⟩
abbrev S1x256x2048 : Shape := ⟨3, ![1, 256, 2048]⟩
abbrev S1x256x128 : Shape := ⟨3, ![1, 256, 128]⟩
abbrev S256x1024 : Shape := ⟨2, ![256, 1024]⟩
abbrev S1x1x1x1024 : Shape := ⟨4, ![1, 1, 1, 1024]⟩
abbrev S1x1024 : Shape := ⟨2, ![1, 1024]⟩
abbrev S1024x2048 : Shape := ⟨2, ![1024, 2048]⟩
abbrev S256x2048 : Shape := ⟨2, ![256, 2048]⟩
abbrev S1024x128 : Shape := ⟨2, ![1024, 128]⟩
abbrev S256x128 : Shape := ⟨2, ![256, 128]⟩

abbrev nBuf : Space → Nat
  | .hbm => 22
  | .vmem => 11
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x6144, .f32⟩
  | .hbm, ⟨3, _⟩ => ⟨S6144, .f32⟩
  | .hbm, ⟨4, _⟩ => ⟨S1024x4112, .f32⟩
  | .hbm, ⟨5, _⟩ => ⟨S8x2304x1024, .f32⟩
  | .hbm, ⟨6, _⟩ => ⟨S8x6x1024, .f32⟩
  | .hbm, ⟨7, _⟩ => ⟨S1x6x1024, .f32⟩
  | .hbm, ⟨8, _⟩ => ⟨S8x6x1024, .f32⟩
  | .hbm, ⟨9, _⟩ => ⟨S8x1x6x1024, .f32⟩
  | .hbm, ⟨10, _⟩ => ⟨S8x1x6x1024, .f32⟩
  | .hbm, ⟨11, _⟩ => ⟨S8x2x6x1024, .f32⟩
  | .hbm, ⟨12, _⟩ => ⟨S_, .i32⟩
  | .hbm, ⟨13, _⟩ => ⟨S_, .f32⟩
  | .hbm, ⟨14, _⟩ => ⟨S8x2x8x1024, .f32⟩
  | .hbm, ⟨15, _⟩ => ⟨S_, .i32⟩
  | .hbm, ⟨16, _⟩ => ⟨S_, .f32⟩
  | .hbm, ⟨17, _⟩ => ⟨S1024x4224, .f32⟩
  | .hbm, ⟨18, _⟩ => ⟨S1024x4224, .bf16⟩
  | .hbm, ⟨19, _⟩ => ⟨S8x2304x2048, .f32⟩
  | .hbm, ⟨20, _⟩ => ⟨S8x2304x2048, .f32⟩
  | .hbm, ⟨21, _⟩ => ⟨S8x2304x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1024x4224, .bf16⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x128, .f32⟩
  | .local _ .vmem, ⟨10, _⟩ => ⟨S1x256x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InRecRefIdeal.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S1024x4112 : Shape := ⟨2, ![1024, 4112]⟩
abbrev S8x1024 : Shape := ⟨2, ![8, 1024]⟩
abbrev S8x1x1024 : Shape := ⟨3, ![8, 1, 1024]⟩
abbrev S1024 : Shape := ⟨1, ![1024]⟩
abbrev S_ : Shape := ⟨0, ![]⟩
abbrev S1x1x1024 : Shape := ⟨3, ![1, 1, 1024]⟩
abbrev S8x256x4112 : Shape := ⟨3, ![8, 256, 4112]⟩
abbrev S8x2048x4112 : Shape := ⟨3, ![8, 2048, 4112]⟩
abbrev S8x2304x4112 : Shape := ⟨3, ![8, 2304, 4112]⟩
abbrev S8x2304x16 : Shape := ⟨3, ![8, 2304, 16]⟩
abbrev S8x2304x128 : Shape := ⟨3, ![8, 2304, 128]⟩
abbrev S8x2304x2048 : Shape := ⟨3, ![8, 2304, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x6144, .f32⟩
  | .hbm, ⟨3, _⟩ => ⟨S6144, .f32⟩
  | .hbm, ⟨4, _⟩ => ⟨S1024x4112, .f32⟩
  | .hbm, ⟨5, _⟩ => ⟨S8x1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S8x1x1024, .f32⟩
  | .hbm, ⟨13, _⟩ => ⟨S8x1x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S1x1x1024, .f32⟩
  | .hbm, ⟨25, _⟩ => ⟨S8x256x1024, .f32⟩
  | .hbm, ⟨26, _⟩ => ⟨S8x256x1024, .f32⟩
  | .hbm, ⟨27, _⟩ => ⟨S8x256x4112, .f32⟩
  | .hbm, ⟨28, _⟩ => ⟨S8x2048x4112, .f32⟩
  | .hbm, ⟨29, _⟩ => ⟨S8x2304x4112, .f32⟩
  | .hbm, ⟨30, _⟩ => ⟨S8x2304x16, .f32⟩
  | .hbm, ⟨31, _⟩ => ⟨S_, .i32⟩
  | .hbm, ⟨32, _⟩ => ⟨S_, .f32⟩
  | .hbm, ⟨33, _⟩ => ⟨S8x2304x128, .f32⟩
  | .hbm, ⟨34, _⟩ => ⟨S8x2304x2048, .f32⟩
  | .hbm, ⟨35, _⟩ => ⟨S8x2304x2048, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== OutMix.lean ====
abbrev S8x2304x1024 : Shape := ⟨3, ![8, 2304, 1024]⟩
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S1024x1024 : Shape := ⟨2, ![1024, 1024]⟩
abbrev S1024 : Shape := ⟨1, ![1024]⟩
abbrev S8x6x1024 : Shape := ⟨3, ![8, 6, 1024]⟩
abbrev S1x6x1024 : Shape := ⟨3, ![1, 6, 1024]⟩
abbrev S8x1x6x1024 : Shape := ⟨4, ![8, 1, 6, 1024]⟩
abbrev S8x2x6x1024 : Shape := ⟨4, ![8, 2, 6, 1024]⟩
abbrev S_ : Shape := ⟨0, ![]⟩
abbrev S8x2x8x1024 : Shape := ⟨4, ![8, 2, 8, 1024]⟩
abbrev S1x1024 : Shape := ⟨2, ![1, 1024]⟩
abbrev S2x1024 : Shape := ⟨2, ![2, 1024]⟩
abbrev S1x256x1024 : Shape := ⟨3, ![1, 256, 1024]⟩
abbrev S1x1x8x1024 : Shape := ⟨4, ![1, 1, 8, 1024]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩

abbrev nBuf : Space → Nat
  | .hbm => 24
  | .vmem => 12
  | .smem => 0
  | _ => 0

abbrev bufTy : (tb : Table) → Fin (tcTables nBuf tb) → BufTy
  | .hbm, ⟨0, _⟩ => ⟨S8x2304x1024, .bf16⟩
  | .hbm, ⟨1, _⟩ => ⟨S8x256x1024, .f32⟩
  | .hbm, ⟨2, _⟩ => ⟨S8x2048x1024, .f32⟩
  | .hbm, ⟨3, _⟩ => ⟨S8x6144, .f32⟩
  | .hbm, ⟨4, _⟩ => ⟨S6144, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S8x2304x1024, .f32⟩
  | .hbm, ⟨9, _⟩ => ⟨S8x6x1024, .f32⟩
  | .hbm, ⟨10, _⟩ => ⟨S1x6x1024, .f32⟩
  | .hbm, ⟨11, _⟩ => ⟨S8x6x1024, .f32⟩
  | .hbm, ⟨12, _⟩ => ⟨S8x1x6x1024, .f32⟩
  | .hbm, ⟨13, _⟩ => ⟨S8x1x6x1024, .f32⟩
  | .hbm, ⟨14, _⟩ => ⟨S8x2x6x1024, .f32⟩
  | .hbm, ⟨15, _⟩ => ⟨S_, .i32⟩
  | .hbm, ⟨16, _⟩ => ⟨S_, .f32⟩
  | .hbm, ⟨17, _⟩ => ⟨S8x2x8x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S2x1024, .f32⟩
  | .hbm, ⟨22, _⟩ => ⟨S8x2304x1024, .f32⟩
  | .hbm, ⟨23, _⟩ => ⟨S8x2304x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x1x8x1024, .f32⟩
  | .local _ .vmem, ⟨5, _⟩ => ⟨S1x1x8x1024, .f32⟩
  | .local _ .vmem, ⟨6, _⟩ => ⟨S1024x1024, .bf16⟩
  | .local _ .vmem, ⟨7, _⟩ => ⟨S2x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutMixRefIdeal.lean ====
abbrev S8x2304x1024 : Shape := ⟨3, ![8, 2304, 1024]⟩
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S1024x1024 : Shape := ⟨2, ![1024, 1024]⟩
abbrev S1024 : Shape := ⟨1, ![1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256 : Shape := ⟨2, ![8, 256]⟩
abbrev S8x256x1 : Shape := ⟨3, ![8, 256, 1]⟩

abbrev nBuf : Space → Nat
  | .hbm => 111
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S8x256x1024, .f32⟩
  | .hbm, ⟨2, _⟩ => ⟨S8x2048x1024, .f32⟩
  | .hbm, ⟨3, _⟩ => ⟨S8x6144, .f32⟩
  | .hbm, ⟨4, _⟩ => ⟨S6144, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S8x2304x1024, .f32⟩
  | .hbm, ⟨9, _⟩ => ⟨S8x256x1024, .f32⟩
  | .hbm, ⟨10, _⟩ => ⟨S8x2048x1024, .f32⟩
  | .hbm, ⟨11, _⟩ => ⟨S8x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1, .f32⟩
  | .hbm, ⟨48, _⟩ => ⟨S8x2048x1024, .f32⟩
  | .hbm, ⟨49, _⟩ => ⟨S8x2048x1024, .f32⟩
  | .hbm, ⟨50, _⟩ => ⟨S1x1x1024, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x1x1024, .f32⟩
  | .hbm, ⟨58, _⟩ => ⟨S8x1x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S_, .f32⟩
  | .hbm, ⟨64, _⟩ => ⟨S8x256x1024, .f32⟩
  | .hbm, ⟨65, _⟩ => ⟨S8x256x1024, .f32⟩
  | .hbm, ⟨66, _⟩ => ⟨S8x256x1024, .f32⟩
  | .hbm, ⟨67, _⟩ => ⟨S1x1x1024, .f32⟩
  | .hbm, ⟨68, _⟩ => ⟨S8x256x1024, .f32⟩
  | .hbm, ⟨69, _⟩ => ⟨S8x256x1024, .f32⟩
  | .hbm, ⟨70, _⟩ => ⟨S8x256x1024, .f32⟩
  | .hbm, ⟨71, _⟩ => ⟨S_, .f32⟩
  | .hbm, ⟨72, _⟩ => ⟨S8x256, .f32⟩
  | .hbm, ⟨73, _⟩ => ⟨S8x256x1, .f32⟩
  | .hbm, ⟨74, _⟩ => ⟨S_, .f32⟩
  | .hbm, ⟨75, _⟩ => ⟨S8x256x1, .f32⟩
  | .hbm, ⟨76, _⟩ => ⟨S8x256x1, .f32⟩
  | .hbm, ⟨77, _⟩ => ⟨S8x256x1024, .f32⟩
  | .hbm, ⟨78, _⟩ => ⟨S8x256x1024, .f32⟩
  | .hbm, ⟨79, _⟩ => ⟨S8x256x1024, .f32⟩
  | .hbm, ⟨80, _⟩ => ⟨S_, .f32⟩
  | .hbm, ⟨81, _⟩ => ⟨S8x256, .f32⟩
  | .hbm, ⟨82, _⟩ => ⟨S8x256x1, .f32⟩
  | .hbm, ⟨83, _⟩ => ⟨S_, .f32⟩
  | .hbm, ⟨84, _⟩ => ⟨S8x256x1, .f32⟩
  | .hbm, ⟨85, _⟩ => ⟨S8x256x1, .f32⟩
  | .hbm, ⟨86, _⟩ => ⟨S8x256x1024, .f32⟩
  | .hbm, ⟨87, _⟩ => ⟨S8x256x1024, .f32⟩
  | .hbm, ⟨88, _⟩ => ⟨S_, .f32⟩
  | .hbm, ⟨89, _⟩ => ⟨S8x256x1, .f32⟩
  | .hbm, ⟨90, _⟩ => ⟨S8x256x1, .f32⟩
  | .hbm, ⟨91, _⟩ => ⟨S8x256x1, .f32⟩
  | .hbm, ⟨92, _⟩ => ⟨S8x256x1024, .f32⟩
  | .hbm, ⟨93, _⟩ => ⟨S8x256x1024, .f32⟩
  | .hbm, ⟨94, _⟩ => ⟨S1x1x1024, .f32⟩
  | .hbm, ⟨95, _⟩ => ⟨S8x256x1024, .f32⟩
  | .hbm, ⟨96, _⟩ => ⟨S8x256x1024, .f32⟩
  | .hbm, ⟨97, _⟩ => ⟨S1x1x1024, .f32⟩
  | .hbm, ⟨98, _⟩ => ⟨S8x256x1024, .f32⟩
  | .hbm, ⟨99, _⟩ => ⟨S8x256x1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S1x1x1024, .f32⟩
  | .hbm, ⟨104, _⟩ => ⟨S8x256x1024, .f32⟩
  | .hbm, ⟨105, _⟩ => ⟨S8x256x1024, .f32⟩
  | .hbm, ⟨106, _⟩ => ⟨S1x1x1024, .f32⟩
  | .hbm, ⟨107, _⟩ => ⟨S8x256x1024, .f32⟩
  | .hbm, ⟨108, _⟩ => ⟨S8x256x1024, .f32⟩
  | .hbm, ⟨109, _⟩ => ⟨S8x2304x1024, .f32⟩
  | .hbm, ⟨110, _⟩ => ⟨S8x2304x1024, .f32⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Experts.lean ====
abbrev S158208x512 : Shape := ⟨2, ![158208, 512]⟩
abbrev S309 : Shape := ⟨1, ![309]⟩
abbrev S4x64x1024x256 : Shape := ⟨4, ![4, 64, 1024, 256]⟩
abbrev S4x64x256x1024 : Shape := ⟨4, ![4, 64, 256, 1024]⟩
abbrev S158208x1024 : Shape := ⟨2, ![158208, 1024]⟩
abbrev S512x512 : Shape := ⟨2, ![512, 512]⟩
abbrev S1x1x1024x256 : Shape := ⟨4, ![1, 1, 1024, 256]⟩
abbrev S1 : Shape := ⟨1, ![1]⟩
abbrev S1x1x256x1024 : Shape := ⟨4, ![1, 1, 256, 1024]⟩
abbrev S512x1024 : Shape := ⟨2, ![512, 1024]⟩
abbrev S1024x256 : Shape := ⟨2, ![1024, 256]⟩
abbrev S256x1024 : Shape := ⟨2, ![256, 1024]⟩
abbrev S512x256 : Shape := ⟨2, ![512, 256]⟩

abbrev nBuf : Space → Nat
  | .hbm => 5
  | .vmem => 13
  | .smem => 2
  | _ => 0

abbrev bufTy : (tb : Table) → Fin (tcTables nBuf tb) → BufTy
  | .hbm, ⟨0, _⟩ => ⟨S158208x512, .i32⟩
  | .hbm, ⟨1, _⟩ => ⟨S4x64x1024x256, .f32⟩
  | .hbm, ⟨2, _⟩ => ⟨S4x64x1024x256, .f32⟩
  | .hbm, ⟨3, _⟩ => ⟨S4x64x256x1024, .f32⟩
  | .hbm, ⟨4, _⟩ => ⟨S158208x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S309, .i32⟩
  | .local _ .smem, ⟨1, _⟩ => ⟨S309, .i32⟩
  | _, _ => ⟨S158208x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![309], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (v1 : BitVec 32) : BitVec 1 :=
  let c0_i32_2 : BitVec 32 := 0#32
  let v13 : BitVec 1 := Scalar.cmpi .sgt v1 c0_i32_2
  let v14 : BitVec 32 := Scalar.extui v13
  let c0_i32_3 : BitVec 32 := 0#32
  let v15 : BitVec 1 := Scalar.cmpi .ne v14 c0_i32_3
  v15

def k0_cond3 (v1 : BitVec 32) : BitVec 1 :=
  let c0_i32_4 : BitVec 32 := 0#32
  let v16 : BitVec 1 := Scalar.cmpi .sle v1 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S309.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S309) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S309.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S309) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S309.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S309) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S158208x512 : Shape := ⟨2, ![158208, 512]⟩
abbrev S309 : Shape := ⟨1, ![309]⟩
abbrev S4x64x1024x256 : Shape := ⟨4, ![4, 64, 1024, 256]⟩
abbrev S4x64x256x1024 : Shape := ⟨4, ![4, 64, 256, 1024]⟩
abbrev S_ : Shape := ⟨0, ![]⟩
abbrev S158208x1024 : Shape := ⟨2, ![158208, 1024]⟩
abbrev S309x512x1024 : Shape := ⟨3, ![309, 512, 1024]⟩
abbrev S1x64x1024x256 : Shape := ⟨4, ![1, 64, 1024, 256]⟩
abbrev S64x1024x256 : Shape := ⟨3, ![64, 1024, 256]⟩
abbrev S309x1 : Shape := ⟨2, ![309, 1]⟩
abbrev S309x1024x256 : Shape := ⟨3, ![309, 1024, 256]⟩
abbrev S1x64x256x1024 : Shape := ⟨4, ![1, 64, 256, 1024]⟩
abbrev S64x256x1024 : Shape := ⟨3, ![64, 256, 1024]⟩
abbrev S309x256x1024 : Shape := ⟨3, ![309, 256, 1024]⟩
abbrev S309x512x256 : Shape := ⟨3, ![309, 512, 256]⟩
abbrev S309x1x1 : Shape := ⟨3, ![309, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S158208x512, .i32⟩
  | .hbm, ⟨1, _⟩ => ⟨S309, .i32⟩
  | .hbm, ⟨2, _⟩ => ⟨S309, .i32⟩
  | .hbm, ⟨3, _⟩ => ⟨S4x64x1024x256, .f32⟩
  | .hbm, ⟨4, _⟩ => ⟨S4x64x1024x256, .f32⟩
  | .hbm, ⟨5, _⟩ => ⟨S4x64x256x1024, .f32⟩
  | .hbm, ⟨6, _⟩ => ⟨S_, .i32⟩
  | .hbm, ⟨7, _⟩ => ⟨S158208x512, .i32⟩
  | .hbm, ⟨8, _⟩ => ⟨S158208x512, .i32⟩
  | .hbm, ⟨9, _⟩ => ⟨S158208x512, .f32⟩
  | .hbm, ⟨10, _⟩ => ⟨S_, .i32⟩
  | .hbm, ⟨11, _⟩ => ⟨S158208x512, .i32⟩
  | .hbm, ⟨12, _⟩ => ⟨S158208x512, .i32⟩
  | .hbm, ⟨13, _⟩ => ⟨S158208x512, .f32⟩
  | .hbm, ⟨14, _⟩ => ⟨S158208x1024, .f32⟩
  | .hbm, ⟨15, _⟩ => ⟨S309x512x1024, .f32⟩
  | .hbm, ⟨16, _⟩ => ⟨S1x64x1024x256, .f32⟩
  | .hbm, ⟨17, _⟩ => ⟨S64x1024x256, .f32⟩
  | .hbm, ⟨18, _⟩ => ⟨S_, .i32⟩
  | .hbm, ⟨19, _⟩ => ⟨S309, .i32⟩
  | .hbm, ⟨20, _⟩ => ⟨S309, .i1⟩
  | .hbm, ⟨21, _⟩ => ⟨S_, .i32⟩
  | .hbm, ⟨22, _⟩ => ⟨S309, .i32⟩
  | .hbm, ⟨23, _⟩ => ⟨S309, .i32⟩
  | .hbm, ⟨24, _⟩ => ⟨S309, .i32⟩
  | .hbm, ⟨25, _⟩ => ⟨S309x1, .i32⟩
  | .hbm, ⟨26, _⟩ => ⟨S309x1024x256, .f32⟩
  | .hbm, ⟨27, _⟩ => ⟨S1x64x1024x256, .f32⟩
  | .hbm, ⟨28, _⟩ => ⟨S64x1024x256, .f32⟩
  | .hbm, ⟨29, _⟩ => ⟨S_, .i32⟩
  | .hbm, ⟨30, _⟩ => ⟨S309, .i32⟩
  | .hbm, ⟨31, _⟩ => ⟨S309, .i1⟩
  | .hbm, ⟨32, _⟩ => ⟨S_, .i32⟩
  | .hbm, ⟨33, _⟩ => ⟨S309, .i32⟩
  | .hbm, ⟨34, _⟩ => ⟨S309, .i32⟩
  | .hbm, ⟨35, _⟩ => ⟨S309, .i32⟩
  | .hbm, ⟨36, _⟩ => ⟨S309x1, .i32⟩
  | .hbm, ⟨37, _⟩ => ⟨S309x1024x256, .f32⟩
  | .hbm, ⟨38, _⟩ => ⟨S1x64x256x1024, .f32⟩
  | .hbm, ⟨39, _⟩ => ⟨S64x256x1024, .f32⟩
  | .hbm, ⟨40, _⟩ => ⟨S_, .i32⟩
  | .hbm, ⟨41, _⟩ => ⟨S309, .i32⟩
  | .hbm, ⟨42, _⟩ => ⟨S309, .i1⟩
  | .hbm, ⟨43, _⟩ => ⟨S_, .i32⟩
  | .hbm, ⟨44, _⟩ => ⟨S309, .i32⟩
  | .hbm, ⟨45, _⟩ => ⟨S309, .i32⟩
  | .hbm, ⟨46, _⟩ => ⟨S309, .i32⟩
  | .hbm, ⟨47, _⟩ => ⟨S309x1, .i32⟩
  | .hbm, ⟨48, _⟩ => ⟨S309x256x1024, .f32⟩
  | .hbm, ⟨49, _⟩ => ⟨S309x512x256, .f32⟩
  | .hbm, ⟨50, _⟩ => ⟨S309x512x256, .f32⟩
  | .hbm, ⟨51, _⟩ => ⟨S309x512x256, .f32⟩
  | .hbm, ⟨52, _⟩ => ⟨S_, .f32⟩
  | .hbm, ⟨53, _⟩ => ⟨S309x512x256, .f32⟩
  | .hbm, ⟨54, _⟩ => ⟨S309x512x256, .f32⟩
  | .hbm, ⟨55, _⟩ => ⟨S_, .f32⟩
  | .hbm, ⟨56, _⟩ => ⟨S309x512x256, .f32⟩
  | .hbm, ⟨57, _⟩ => ⟨S309x512x256, .f32⟩
  | .hbm, ⟨58, _⟩ => ⟨S309x512x256, .f32⟩
  | .hbm, ⟨59, _⟩ => ⟨S309x512x256, .f32⟩
  | .hbm, ⟨60, _⟩ => ⟨S309x512x256, .f32⟩
  | .hbm, ⟨61, _⟩ => ⟨S309x512x1024, .f32⟩
  | .hbm, ⟨62, _⟩ => ⟨S_, .i32⟩
  | .hbm, ⟨63, _⟩ => ⟨S309, .i32⟩
  | .hbm, ⟨64, _⟩ => ⟨S309, .i1⟩
  | .hbm, ⟨65, _⟩ => ⟨S309x1x1, .i1⟩
  | .hbm, ⟨66, _⟩ => ⟨S_, .f32⟩
  | .hbm, ⟨67, _⟩ => ⟨S_, .f32⟩
  | .hbm, ⟨68, _⟩ => ⟨S309x512x1024, .i1⟩
  | .hbm, ⟨69, _⟩ => ⟨S309x512x1024, .f32⟩
  | .hbm, ⟨70, _⟩ => ⟨S309x512x1024, .f32⟩
  | .hbm, ⟨71, _⟩ => ⟨S158208x1024, .f32⟩
  | .hbm, ⟨72, _⟩ => ⟨S158208x1024, .bf16⟩
  | _, _ => ⟨S158208x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]
-- ==== Proof.OutMixRun.lean ====
module

public import proofs.«01_k».proof.Proof.Gen.OutMixIdeal.Frame
public import Idealize.ShloMosaic.Lib.Pipeline.ValueKit

@[expose] public section

noncomputable section

namespace Cert.Proof.OutMix

open Cert.OutMixIdeal Cert.OutMixIdeal.Gen Idealize.ShloMosaic Idealize.ShloMosaic.TcCoe Idealize.SL.Sem

variable (m : (ℓ : Loc nD τ sig) → Buf (Elt Ideal) ℓ) (ρ : Dev nD → PrngReg)

/-- The run of the output projection: its two arrays hold what the grid's points wrote back, one after the other, and its
    arguments are as they were. -/
theorem run_blocks : θ_run defs (onTc (τ := τ) (main (F := Ideal))) ⟨m, fun _ => 0, ρ⟩ fun r => ∀ c : Dev nD,
      r.2.mem ((c : Thread nD τ).loc main_v12_0) = (dats m 0 c).arrAt 5 cfg0.N
      ∧ r.2.mem ((c : Thread nD τ).loc main_v12_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 5, (h c).1 6,
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩)
    (run_main m ρ)

end Cert.Proof.OutMix

end
-- ==== Proof.InAttValue.lean ====
module

public import proofs.«01_k».proof.Defs
public import proofs.«01_k».proof.Proof.Gen.InAttIdeal.Value
public import proofs.«01_k».proof.Proof.Gen.InAttRefIdeal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.InAtt

open Cert.InAttIdeal Cert.InAttIdeal.Gen

variable (m : (ℓ : Loc nD τ sig) → Buf (Elt Ideal) ℓ)

theorem idx_val : ∀ t : Fin cfg0.N, win0_0.index t = ![t.val / 9, t.val % 9, 0]
    ∧ win0_1.index t = ![t.val / 9, min (t.val % 9) 1, 0, 0] ∧ win0_2.index t = ![0, 0]
    ∧ win0_3.index t = ![t.val / 9, t.val % 9, 0] ∧ win0_4.index t = ![t.val / 9, t.val % 9, 0] ∧ t.val / 9 < 8 :=
  (by decide +kernel : ∀ t : Fin grid0.N, _)

abbrev aCtx (c : Dev nD) : FVec Ideal S8x256x1024 .f32 := m ((c : Thread nD τ).loc main_arg0)
abbrev aLat (c : Dev nD) : FVec Ideal S8x2048x1024 .f32 := m ((c : Thread nD τ).loc main_arg1)
abbrev aMod (c : Dev nD) : FVec Ideal S8x6144 .f32 := m ((c : Thread nD τ).loc main_arg2)
abbrev aModC (c : Dev nD) : FVec Ideal S6144 .f32 := m ((c : Thread nD τ).loc main_arg3)
abbrev aW (c : Dev nD) : FVec Ideal S1024x2304 .f32 := m ((c : Thread nD τ).loc main_arg4)

theorem x_read (c : Dev nD) (b : Fin 8) (r : Fin 2304) (k : Fin 1024) :
    (V m c main_v0 : FVec Ideal S8x2304x1024 .f32) (ix3 b r k)
      = if h : r.val < 256 then aCtx m c (ix3 b ⟨r.val, h⟩ k) else aLat m c (ix3 b ⟨r.val - 256, by omega⟩ k) := by
  simp only [V, hostOps0, hostOps0_1, hostOps0_2, List.flatten_cons, List.flatten_nil, List.append_nil, List.cons_append, List.nil_append]
  after_reads_at

theorem mod_read (c : Dev nD) (b : Fin 8) (s : Fin 2) (e : Fin 8) (he : e.val < 6) (k : Fin 1024) :
    (V m c main_v7 : FVec Ideal S8x2x8x1024 .f32) (ix4 b s e k)
      = if s.val < 1 then aModC m c (ix1 ⟨e.val * 1024 + k.val, by omega⟩) else aMod m c (ix2 b ⟨e.val * 1024 + k.val, by omega⟩) := by
  simp only [V, hostOps0, hostOps0_1, hostOps0_2, List.flatten_cons, List.flatten_nil, List.append_nil, List.cons_append, List.nil_append]
  after_reads_at
  simp only [he, ↓reduceDIte]
  after_reads_at
  split <;> rfl

theorem w_read (c : Dev nD) (k : Fin 1024) (j : Fin 2304) :
    (V m c main_v8 : FVec Ideal S1024x2304 .bf16) (ix2 k j) = aW m c (ix2 k j) := by
  simp only [V, hostOps0, hostOps0_1, hostOps0_2, List.flatten_cons, List.flatten_nil, List.append_nil, List.cons_append, List.nil_append]
  after_reads_at

/-- The modulated row that the projection multiplies: context rows by the context's scale and shift, latent rows by the
    batch entry's own. -/
def hrow (ctx : FVec Ideal S8x256x1024 .f32) (lat : FVec Ideal S8x2048x1024 .f32) (mod : FVec Ideal S8x6144 .f32)
    (modc : FVec Ideal S6144 .f32) (b : Fin 8) (r : Fin 2304) (k : Fin 1024) : EReal :=
  if h : r.val < 256 then ctx (ix3 b ⟨r.val, h⟩ k) * (1 + modc (ix1 ⟨1024 + k.val, by omega⟩)) + modc (ix1 ⟨k.val, by omega⟩)
  else lat (ix3 b ⟨r.val - 256, by omega⟩ k) * (1 + mod (ix2 b ⟨1024 + k.val, by omega⟩)) + mod (ix2 b ⟨k.val, by omega⟩)

open Cert.InAttRefIdeal.Read in
theorem ref24 (x0 x1 x2 x3 x4) (b : Fin 8) (r : Fin 2304) (j : Fin 1536) :
    (val_main_v24 (F := Ideal) x0 x1 x2 x3 x4 : FVec Ideal S8x2304x1536 .bf16) (ix3 b r j)
      = ∑ k : Fin 1024, hrow x0 x1 x2 x3 b r k * (x4 : FVec Ideal S1024x2304 .f32) (ix2 k ⟨j.val, by omega⟩) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  unfold hrow
  by_cases h : r.val < 256
  · simp only [h, ↓reduceDIte]
  · simp only [h, ↓reduceDIte]

open Cert.InAttRefIdeal.Read in
theorem ref25 (x0 x1 x2 x3 x4) (b : Fin 8) (r : Fin 2304) (j : Fin 768) :
    (val_main_v25 (F := Ideal) x0 x1 x2 x3 x4 : FVec Ideal S8x2304x768 .f32) (ix3 b r j)
      = ∑ k : Fin 1024, hrow x0 x1 x2 x3 b r k * (x4 : FVec Ideal S1024x2304 .f32) (ix2 k ⟨1536 + j.val, by omega⟩) := by
  pointwise [val_main_v25, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  unfold hrow
  by_cases h : r.val < 256
  · simp only [h, ↓reduceDIte]
  · simp only [h, ↓reduceDIte]

abbrev bt (t : Fin cfg0.N) : Fin 8 := ⟨t.val / 9, (idx_val t).2.2.2.2.2⟩

abbrev b0 (c : Dev nD) (t : Fin cfg0.N) : FVec Ideal S1x256x1024 .f32 := iblk m c 0 t
abbrev b1 (c : Dev nD) (t : Fin cfg0.N) : FVec Ideal S1x1x8x1024 .f32 := iblk m c 1 t
abbrev b2 (c : Dev nD) (t : Fin cfg0.N) : FVec Ideal S1024x2304 .bf16 := iblk m c 2 t

theorem blk0 (c : Dev nD) (t : Fin cfg0.N) (r : Fin 256) (k : Fin 1024) :
    b0 m c t (ix3 0 r k)
      = (V m c main_v0 : FVec Ideal S8x2304x1024 .f32) (ix3 (bt t) ⟨t.val % 9 * 256 + r.val, by omega⟩ k) := by
  blk_ext [iblk, idx_val t]

theorem blk1 (c : Dev nD) (t : Fin cfg0.N) (e : Fin 8) (k : Fin 1024) :
    b1 m c t (ix4 0 0 e k)
      = (V m c main_v7 : FVec Ideal S8x2x8x1024 .f32) (ix4 (bt t) ⟨min (t.val % 9) 1, by omega⟩ e k) := by
  blk_ext [iblk, idx_val t]

theorem blk2 (c : Dev nD) (t : Fin cfg0.N) (k : Fin 1024) (j : Fin 2304) :
    b2 m c t (ix2 k j) = aW m c (ix2 k j) := by
  rw [← w_read]
  blk_ext [iblk, idx_val t]

theorem kpay (c : Dev nD) (t : Fin cfg0.N) (r : Fin 256) (k : Fin 1024) :
    b0 m c t (ix3 0 r k) * (1 + b1 m c t (ix4 0 0 1 k)) + b1 m c t (ix4 0 0 0 k)
     = hrow (aCtx m c) (aLat m c) (aMod m c) (aModC m c) (bt t) ⟨t.val % 9 * 256 + r.val, by omega⟩ k := by
  rw [blk0, blk1, blk1, x_read, mod_read _ _ _ _ _ (by decide), mod_read _ _ _ _ _ (by decide)]
  unfold hrow
  have e1 (a : ℕ) (h : _) : (⟨((1 : Fin 8) : ℕ) * 1024 + k.val, h⟩ : Fin 6144) = ⟨1024 + k.val, by omega⟩ := Fin.ext (by simp)
  have e0 (a : ℕ) (h : _) : (⟨((0 : Fin 8) : ℕ) * 1024 + k.val, h⟩ : Fin 6144) = ⟨k.val, by omega⟩ := Fin.ext (by simp)
  by_cases h : t.val % 9 = 0
  · have h1 : t.val % 9 * 256 + r.val < 256 := by omega
    have h2 : min (t.val % 9) 1 < 1 := by omega
    simp only [h1, h2, ↓reduceDIte, ↓reduceIte, e1 0, e0 0]
  · have h1 : ¬ t.val % 9 * 256 + r.val < 256 := by omega
    have h2 : ¬ min (t.val % 9) 1 < 1 := by omega
    simp only [h1, h2, ↓reduceDIte, ↓reduceIte, e1 0, e0 0]

theorem pay2_at (x0 : FVec Ideal S1x256x1024 .f32) (x1 : FVec Ideal S1x1x8x1024 .f32) (x2 : FVec Ideal S1024x2304 .bf16) (r : Fin 256) (j : Fin 1536) :
    (k0_pay2 (F := Ideal) x0 (View.ld x1 r0_1) (View.ld x1 r0_2) (View.ld x2 r0_3) : FVec Ideal S1x256x1536 .bf16) (ix3 0 r j)
      = ∑ k : Fin 1024, (x0 (ix3 0 r k) * (1 + x1 (ix4 0 0 1 k)) + x1 (ix4 0 0 0 k)) * x2 (ix2 k ⟨j.val, by omega⟩) := by
  pointwise [k0_pay2, k0_pay1]

theorem pay3_at (x0 : FVec Ideal S1x256x1024 .f32) (x1 : FVec Ideal S1x1x8x1024 .f32) (x2 : FVec Ideal S1024x2304 .bf16) (r : Fin 256) (j : Fin 768) :
    k0_pay3 x0 (View.ld x1 r0_1) (View.ld x1 r0_2) (View.ld x2 r0_5) (ix3 0 r j)
      = ∑ k : Fin 1024, (x0 (ix3 0 r k) * (1 + x1 (ix4 0 0 1 k)) + x1 (ix4 0 0 0 k)) * x2 (ix2 k ⟨1536 + j.val, by omega⟩) := by
  pointwise [k0_pay3, k0_pay1]

open Cert.InAttRefIdeal.Read in
theorem final3 (c : Dev nD) : (dats m 0 c).arrAt 3 (cfgs 0).N
    = val_main_v24 (F := Ideal) (aCtx m c) (aLat m c) (aMod m c) (aModC m c) (aW m c) := by
  refine (dats m 0 c).arrAt_eq_of_covers 3 _ (by decide +kernel) fun t hf y => ?_
  blk_simp
  rw [after0_3]; frame_out
  idx_vars y
  obtain rfl : y0 = 0 := Subsingleton.elim _ _
  have he : ((View.whole main_v9_0).slice (win0_3.rect t)).emb (ix3 0 y1 y2) = ix3 (bt t) ⟨t.val % 9 * 256 + y1.val, by omega⟩ y2 := by
    blk_ext [idx_val t]
  rw [he]
  refine (pay2_at (b0 m c t) (b1 m c t) (b2 m c t) y1 y2).trans (Eq.trans ?_ (ref24 _ _ _ _ _ _ _ _).symm)
  refine Finset.sum_congr rfl fun k _ => ?_
  rw [kpay, blk2]

open Cert.InAttRefIdeal.Read in
theorem final4 (c : Dev nD) : (dats m 0 c).arrAt 4 (cfgs 0).N
    = val_main_v25 (F := Ideal) (aCtx m c) (aLat m c) (aMod m c) (aModC m c) (aW m c) := by
  refine (dats m 0 c).arrAt_eq_of_covers 4 _ (by decide +kernel) fun t hf y => ?_
  blk_simp
  rw [after0_4]; frame_out
  idx_vars y
  obtain rfl : y0 = 0 := Subsingleton.elim _ _
  have he : ((View.whole main_v9_1).slice (win0_4.rect t)).emb (ix3 0 y1 y2) = ix3 (bt t) ⟨t.val % 9 * 256 + y1.val, by omega⟩ y2 := by
    blk_ext [idx_val t]
  rw [he]
  refine (pay3_at (b0 m c t) (b1 m c t) (b2 m c t) y1 y2).trans (Eq.trans ?_ (ref25 _ _ _ _ _ _ _ _).symm)
  refine Finset.sum_congr rfl fun k _ => ?_
  rw [kpay, blk2]

end Cert.Proof.InAtt

end
-- ==== Proof.InRecValue.lean ====
module

public import proofs.«01_k».proof.Defs
public import proofs.«01_k».proof.Proof.Gen.InRecIdeal.Value
public import proofs.«01_k».proof.Proof.Gen.InRecRefIdeal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.InRec

open Cert.InRecIdeal Cert.InRecIdeal.Gen

variable (m : (ℓ : Loc nD τ sig) → Buf (Elt Ideal) ℓ)

theorem idx_val : ∀ t : Fin cfg0.N, win0_0.index t = ![t.val / 9, t.val % 9, 0]
    ∧ win0_1.index t = ![t.val / 9, min (t.val % 9) 1, 0, 0] ∧ win0_2.index t = ![0, 0]
    ∧ win0_3.index t = ![t.val / 9, t.val % 9, 0] ∧ win0_4.index t = ![t.val / 9, t.val % 9, 0]
    ∧ win0_5.index t = ![t.val / 9, t.val % 9, 0] ∧ t.val / 9 < 8 :=
  (by decide +kernel : ∀ t : Fin grid0.N, _)

abbrev aCtx (c : Dev nD) : FVec Ideal S8x256x1024 .f32 := m ((c : Thread nD τ).loc main_arg0)
abbrev aLat (c : Dev nD) : FVec Ideal S8x2048x1024 .f32 := m ((c : Thread nD τ).loc main_arg1)
abbrev aMod (c : Dev nD) : FVec Ideal S8x6144 .f32 := m ((c : Thread nD τ).loc main_arg2)
abbrev aModC (c : Dev nD) : FVec Ideal S6144 .f32 := m ((c : Thread nD τ).loc main_arg3)
abbrev aW (c : Dev nD) : FVec Ideal S1024x4112 .f32 := m ((c : Thread nD τ).loc main_arg4)

theorem x_read (c : Dev nD) (b : Fin 8) (r : Fin 2304) (k : Fin 1024) :
    (V m c main_v0 : FVec Ideal S8x2304x1024 .f32) (ix3 b r k)
      = if h : r.val < 256 then aCtx m c (ix3 b ⟨r.val, h⟩ k) else aLat m c (ix3 b ⟨r.val - 256, by omega⟩ k) := by
  simp only [V, hostOps0, hostOps0_1, hostOps0_2, hostOps0_3, hostOps0_4, List.flatten_cons, List.flatten_nil, List.append_nil, List.cons_append, List.nil_append]
  after_reads_at

theorem mod_read (c : Dev nD) (b : Fin 8) (s : Fin 2) (e : Fin 8) (he : e.val < 6) (k : Fin 1024) :
    (V m c main_v7 : FVec Ideal S8x2x8x1024 .f32) (ix4 b s e k)
      = if s.val < 1 then aModC m c (ix1 ⟨e.val * 1024 + k.val, by omega⟩) else aMod m c (ix2 b ⟨e.val * 1024 + k.val, by omega⟩) := by
  simp only [V, hostOps0, hostOps0_1, hostOps0_2, hostOps0_3, hostOps0_4, List.flatten_cons, List.flatten_nil, List.append_nil, List.cons_append, List.nil_append]
  after_reads_at
  simp only [he, ↓reduceDIte]
  after_reads_at
  split <;> rfl

theorem zero_word : (FloatOps.sitofp FTy.f32 (0#32) : Ideal FTy.f32) = (0 : EReal) := by
  show (((0#32 : BitVec 32).toInt : ℝ) : EReal) = 0
  simp

theorem w_read (c : Dev nD) (k : Fin 1024) (j : Fin 4224) :
    (V m c main_v9 : FVec Ideal S1024x4224 .bf16) (ix2 k j) = if h : j.val < 4112 then aW m c (ix2 k ⟨j.val, h⟩) else 0 := by
  simp only [V, hostOps0, hostOps0_1, hostOps0_2, hostOps0_3, hostOps0_4, List.flatten_cons, List.flatten_nil, List.append_nil, List.cons_append, List.nil_append]
  after_reads_at
  rw [zero_word]

/-- The modulated row that the projection multiplies: context rows by the context's scale and shift, latent rows by the
    batch entry's own. -/
def hrow (ctx : FVec Ideal S8x256x1024 .f32) (lat : FVec Ideal S8x2048x1024 .f32) (mod : FVec Ideal S8x6144 .f32)
    (modc : FVec Ideal S6144 .f32) (b : Fin 8) (r : Fin 2304) (k : Fin 1024) : EReal :=
  if h : r.val < 256 then ctx (ix3 b ⟨r.val, h⟩ k) * (1 + modc (ix1 ⟨1024 + k.val, by omega⟩)) + modc (ix1 ⟨k.val, by omega⟩)
  else lat (ix3 b ⟨r.val - 256, by omega⟩ k) * (1 + mod (ix2 b ⟨1024 + k.val, by omega⟩)) + mod (ix2 b ⟨k.val, by omega⟩)

open Cert.InRecRefIdeal.Read in
theorem ref23 (x0 x1 x2 x3 x4) (b : Fin 8) (r : Fin 2304) (j : Fin 2048) :
    (val_main_v25 (F := Ideal) x0 x1 x2 x3 x4 : FVec Ideal S8x2304x2048 .f32) (ix3 b r j)
      = ∑ k : Fin 1024, hrow x0 x1 x2 x3 b r k * (x4 : FVec Ideal S1024x4112 .f32) (ix2 k ⟨j.val, by omega⟩) := by
  pointwise [val_main_v25, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  unfold hrow
  by_cases h : r.val < 256
  · simp only [h, ↓reduceDIte]
  · simp only [h, ↓reduceDIte]

open Cert.InRecRefIdeal.Read in
theorem ref24 (x0 x1 x2 x3 x4) (b : Fin 8) (r : Fin 2304) (j : Fin 2048) :
    (val_main_v26 (F := Ideal) x0 x1 x2 x3 x4 : FVec Ideal S8x2304x2048 .f32) (ix3 b r j)
      = ∑ k : Fin 1024, hrow x0 x1 x2 x3 b r k * (x4 : FVec Ideal S1024x4112 .f32) (ix2 k ⟨2048 + j.val, by omega⟩) := by
  pointwise [val_main_v26, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  unfold hrow
  by_cases h : r.val < 256
  · simp only [h, ↓reduceDIte]
  · simp only [h, ↓reduceDIte]

open Cert.InRecRefIdeal.Read in
theorem refg (x0 x1 x2 x3 x4) (b : Fin 8) (r : Fin 2304) (j : Fin 128) :
    (val_main_v24 (F := Ideal) x0 x1 x2 x3 x4 : FVec Ideal S8x2304x128 .f32) (ix3 b r j)
      = if h : j.val < 16 then ∑ k : Fin 1024, hrow x0 x1 x2 x3 b r k * (x4 : FVec Ideal S1024x4112 .f32) (ix2 k ⟨4096 + j.val, by omega⟩) else 0 := by
  pointwise [val_main_v24, val_main_v23, val_main_c, val_main_call0_v0, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  unfold hrow
  by_cases h : r.val < 256
  · simp only [h, ↓reduceDIte, zero_word]
  · simp only [h, ↓reduceDIte, zero_word]

abbrev bt (t : Fin cfg0.N) : Fin 8 := ⟨t.val / 9, (idx_val t).2.2.2.2.2.2⟩

abbrev b0 (c : Dev nD) (t : Fin cfg0.N) : FVec Ideal S1x256x1024 .f32 := iblk m c 0 t
abbrev b1 (c : Dev nD) (t : Fin cfg0.N) : FVec Ideal S1x1x8x1024 .f32 := iblk m c 1 t
abbrev b2 (c : Dev nD) (t : Fin cfg0.N) : FVec Ideal S1024x4224 .bf16 := iblk m c 2 t

theorem blk0 (c : Dev nD) (t : Fin cfg0.N) (r : Fin 256) (k : Fin 1024) :
    b0 m c t (ix3 0 r k)
      = (V m c main_v0 : FVec Ideal S8x2304x1024 .f32) (ix3 (bt t) ⟨t.val % 9 * 256 + r.val, by omega⟩ k) := by
  blk_ext [iblk, idx_val t]

theorem blk1 (c : Dev nD) (t : Fin cfg0.N) (e : Fin 8) (k : Fin 1024) :
    b1 m c t (ix4 0 0 e k)
      = (V m c main_v7 : FVec Ideal S8x2x8x1024 .f32) (ix4 (bt t) ⟨min (t.val % 9) 1, by omega⟩ e k) := by
  blk_ext [iblk, idx_val t]

theorem blk2 (c : Dev nD) (t : Fin cfg0.N) (k : Fin 1024) (j : Fin 4224) :
    b2 m c t (ix2 k j) = if h : j.val < 4112 then aW m c (ix2 k ⟨j.val, h⟩) else 0 := by
  rw [← w_read]
  blk_ext [iblk, idx_val t]

theorem kpay (c : Dev nD) (t : Fin cfg0.N) (r : Fin 256) (k : Fin 1024) :
    b0 m c t (ix3 0 r k) * (1 + b1 m c t (ix4 0 0 1 k)) + b1 m c t (ix4 0 0 0 k)
     = hrow (aCtx m c) (aLat m c) (aMod m c) (aModC m c) (bt t) ⟨t.val % 9 * 256 + r.val, by omega⟩ k := by
  rw [blk0, blk1, blk1, x_read, mod_read _ _ _ _ _ (by decide), mod_read _ _ _ _ _ (by decide)]
  unfold hrow
  have e1 (a : ℕ) (h : _) : (⟨((1 : Fin 8) : ℕ) * 1024 + k.val, h⟩ : Fin 6144) = ⟨1024 + k.val, by omega⟩ := Fin.ext (by simp)
  have e0 (a : ℕ) (h : _) : (⟨((0 : Fin 8) : ℕ) * 1024 + k.val, h⟩ : Fin 6144) = ⟨k.val, by omega⟩ := Fin.ext (by simp)
  by_cases h : t.val % 9 = 0
  · have h1 : t.val % 9 * 256 + r.val < 256 := by omega
    have h2 : min (t.val % 9) 1 < 1 := by omega
    simp only [h1, h2, ↓reduceDIte, ↓reduceIte, e1 0, e0 0]
  · have h1 : ¬ t.val % 9 * 256 + r.val < 256 := by omega
    have h2 : ¬ min (t.val % 9) 1 < 1 := by omega
    simp only [h1, h2, ↓reduceDIte, ↓reduceIte, e1 0, e0 0]

theorem pay3_at (x0 : FVec Ideal S1x256x1024 .f32) (x1 : FVec Ideal S1x1x8x1024 .f32) (x2 : FVec Ideal S1024x4224 .bf16) (r : Fin 256) (j : Fin 2048) :
    (k0_pay3 (F := Ideal) x0 (View.ld x1 r0_1) (View.ld x1 r0_2) (View.ld x2 r0_3) : FVec Ideal S1x256x2048 .f32) (ix3 0 r j)
      = ∑ k : Fin 1024, (x0 (ix3 0 r k) * (1 + x1 (ix4 0 0 1 k)) + x1 (ix4 0 0 0 k)) * x2 (ix2 k ⟨j.val, by omega⟩) := by
  pointwise [k0_pay3, k0_pay2]

theorem pay4_at (x0 : FVec Ideal S1x256x1024 .f32) (x1 : FVec Ideal S1x1x8x1024 .f32) (x2 : FVec Ideal S1024x4224 .bf16) (r : Fin 256) (j : Fin 2048) :
    (k0_pay4 (F := Ideal) x0 (View.ld x1 r0_1) (View.ld x1 r0_2) (View.ld x2 r0_5) : FVec Ideal S1x256x2048 .f32) (ix3 0 r j)
      = ∑ k : Fin 1024, (x0 (ix3 0 r k) * (1 + x1 (ix4 0 0 1 k)) + x1 (ix4 0 0 0 k)) * x2 (ix2 k ⟨2048 + j.val, by omega⟩) := by
  pointwise [k0_pay4, k0_pay2]

theorem pay5_at (x0 : FVec Ideal S1x256x1024 .f32) (x1 : FVec Ideal S1x1x8x1024 .f32) (x2 : FVec Ideal S1024x4224 .bf16) (r : Fin 256) (j : Fin 128) :
    (k0_pay1 (F := Ideal) (k0_pay5 x0 (View.ld x1 r0_1) (View.ld x1 r0_2) (View.ld x2 r0_6)) : FVec Ideal S1x256x128 .f32) (ix3 0 r j)
      = ∑ k : Fin 1024, (x0 (ix3 0 r k) * (1 + x1 (ix4 0 0 1 k)) + x1 (ix4 0 0 0 k)) * x2 (ix2 k ⟨4096 + j.val, by omega⟩) := by
  pointwise [k0_pay1, k0_pay5, k0_pay2]

open Cert.InRecRefIdeal.Read in
theorem final3 (c : Dev nD) : (dats m 0 c).arrAt 3 (cfgs 0).N
    = val_main_v25 (F := Ideal) (aCtx m c) (aLat m c) (aMod m c) (aModC m c) (aW m c) := by
  refine (dats m 0 c).arrAt_eq_of_covers 3 _ (by decide +kernel) fun t hf y => ?_
  blk_simp
  rw [after0_3]; frame_out
  idx_vars y
  obtain rfl : y0 = 0 := Subsingleton.elim _ _
  have he : ((View.whole main_v10_0).slice (win0_3.rect t)).emb (ix3 0 y1 y2) = ix3 (bt t) ⟨t.val % 9 * 256 + y1.val, by omega⟩ y2 := by
    blk_ext [idx_val t]
  rw [he]
  refine (pay3_at (b0 m c t) (b1 m c t) (b2 m c t) y1 y2).trans (Eq.trans ?_ (ref23 _ _ _ _ _ _ _ _).symm)
  refine Finset.sum_congr rfl fun k _ => ?_
  rw [kpay, blk2, dif_pos (by show _ < 4112; first | omega | (simp only []; omega))]

open Cert.InRecRefIdeal.Read in
theorem final4 (c : Dev nD) : (dats m 0 c).arrAt 4 (cfgs 0).N
    = val_main_v26 (F := Ideal) (aCtx m c) (aLat m c) (aMod m c) (aModC m c) (aW m c) := by
  refine (dats m 0 c).arrAt_eq_of_covers 4 _ (by decide +kernel) fun t hf y => ?_
  blk_simp
  rw [after0_4]; frame_out
  idx_vars y
  obtain rfl : y0 = 0 := Subsingleton.elim _ _
  have he : ((View.whole main_v10_1).slice (win0_4.rect t)).emb (ix3 0 y1 y2) = ix3 (bt t) ⟨t.val % 9 * 256 + y1.val, by omega⟩ y2 := by
    blk_ext [idx_val t]
  rw [he]
  refine (pay4_at (b0 m c t) (b1 m c t) (b2 m c t) y1 y2).trans (Eq.trans ?_ (ref24 _ _ _ _ _ _ _ _).symm)
  refine Finset.sum_congr rfl fun k _ => ?_
  rw [kpay, blk2, dif_pos (by show _ < 4112; first | omega | (simp only []; omega))]

open Cert.InRecRefIdeal.Read in
theorem final5 (c : Dev nD) : (dats m 0 c).arrAt 5 (cfgs 0).N
    = val_main_v24 (F := Ideal) (aCtx m c) (aLat m c) (aMod m c) (aModC m c) (aW m c) := by
  refine (dats m 0 c).arrAt_eq_of_covers 5 _ (by decide +kernel) fun t hf y => ?_
  blk_simp
  rw [after0_5]; frame_out
  idx_vars y
  obtain rfl : y0 = 0 := Subsingleton.elim _ _
  have he : ((View.whole main_v10_2).slice (win0_5.rect t)).emb (ix3 0 y1 y2) = ix3 (bt t) ⟨t.val % 9 * 256 + y1.val, by omega⟩ y2 := by
    blk_ext [idx_val t]
  rw [he]
  refine (pay5_at (b0 m c t) (b1 m c t) (b2 m c t) y1 y2).trans (Eq.trans ?_ (refg _ _ _ _ _ _ _ _).symm)
  by_cases h : y2.val < 16
  · rw [dif_pos h]
    refine Finset.sum_congr rfl fun k _ => ?_
    rw [kpay, blk2, dif_pos (by show 4096 + y2.val < 4112; omega)]
  · rw [dif_neg h]
    refine Finset.sum_eq_zero fun k _ => ?_
    rw [blk2, dif_neg (by show ¬ 4096 + y2.val < 4112; omega), mul_zero]

end Cert.Proof.InRec

end
-- ==== Proof.OutMixValue.lean ====
module

public import proofs.«01_k».proof.Defs
public import proofs.«01_k».proof.Proof.OutMixRun
public import proofs.«01_k».proof.Proof.Gen.OutMixRefIdeal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.OutMix

open Cert.OutMixIdeal Cert.OutMixIdeal.Gen

/-! ## The mathematics: a layer norm of a row -/

/-- An entry of a row of 1024, less the row's mean. -/
def centred (z : Fin 1024 → EReal) (j : Fin 1024) : EReal := z j - Ideal.div (∑ k, z k) (Ideal.ofBits .f32 1149239296#32)

/-- The row divided by its deviation. -/
def normed (z : Fin 1024 → EReal) (j : Fin 1024) : EReal :=
  centred z j * Ideal.rsqrt (Ideal.div (∑ k, centred z k * centred z k) (Ideal.ofBits .f32 1149239296#32) + Ideal.ofBits .f32 925353388#32)

/-- The row before the norm: the scaled residual and the gated product, the context's or the batch entry's own. -/
def zrow (mx : FVec Ideal S8x2304x1024 .bf16) (ctx : FVec Ideal S8x256x1024 .f32) (lat : FVec Ideal S8x2048x1024 .f32)
    (mod : FVec Ideal S8x6144 .f32) (modc : FVec Ideal S6144 .f32) (w : FVec Ideal S1024x1024 .f32)
    (b : Fin 8) (r : Fin 2304) (j : Fin 1024) : EReal :=
  if h : r.val < 256 then
    Ideal.ofBits .f32 1071072509#32 * ctx (ix3 b ⟨r.val, h⟩ j)
      + modc (ix1 ⟨2048 + j.val, by omega⟩) * ∑ k : Fin 1024, mx (ix3 b r k) * w (ix2 k j)
  else
    Ideal.ofBits .f32 1071072509#32 * lat (ix3 b ⟨r.val - 256, by omega⟩ j)
      + mod (ix2 b ⟨2048 + j.val, by omega⟩) * ∑ k : Fin 1024, mx (ix3 b r k) * w (ix2 k j)

/-- The normed stream. -/
def stream (mx : FVec Ideal S8x2304x1024 .bf16) (ctx : FVec Ideal S8x256x1024 .f32) (lat : FVec Ideal S8x2048x1024 .f32)
    (mod : FVec Ideal S8x6144 .f32) (modc : FVec Ideal S6144 .f32) (w : FVec Ideal S1024x1024 .f32)
    (g be : FVec Ideal S1024 .f32) (b : Fin 8) (r : Fin 2304) (j : Fin 1024) : EReal :=
  normed (zrow mx ctx lat mod modc w b r) j * g (ix1 j) + be (ix1 j)

/-- The stream modulated for the experts. -/
def hrow (mx : FVec Ideal S8x2304x1024 .bf16) (ctx : FVec Ideal S8x256x1024 .f32) (lat : FVec Ideal S8x2048x1024 .f32)
    (mod : FVec Ideal S8x6144 .f32) (modc : FVec Ideal S6144 .f32) (w : FVec Ideal S1024x1024 .f32)
    (g be : FVec Ideal S1024 .f32) (b : Fin 8) (r : Fin 2304) (j : Fin 1024) : EReal :=
  if r.val < 256 then
    stream mx ctx lat mod modc w g be b r j * (1 + modc (ix1 ⟨4096 + j.val, by omega⟩)) + modc (ix1 ⟨3072 + j.val, by omega⟩)
  else
    stream mx ctx lat mod modc w g be b r j * (1 + mod (ix2 b ⟨4096 + j.val, by omega⟩)) + mod (ix2 b ⟨3072 + j.val, by omega⟩)

/-! ## The reference -/

section Reference

open Cert.OutMixRefIdeal.Read

theorem lat_row (x0 x1 x2 x3 x4 x5) (b : Fin 8) (r : Fin 2048) (j : Fin 1024) :
    (val_main_v17 (F := Ideal) x0 x2 x3 x5 : FVec Ideal S8x2048x1024 .f32) (ix3 b r j)
      = zrow x0 x1 x2 x3 x4 x5 b ⟨256 + r.val, by omega⟩ j := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  unfold zrow
  rw [dif_neg (by show ¬ 256 + r.val < 256; omega)]
  have e (h : _) : (⟨256 + r.val - 256, h⟩ : Fin 2048) = r := Fin.ext (by show 256 + r.val - 256 = r.val; omega)
  simp only [e]

theorem ctx_row (x0 x1 x2 x3 x4 x5) (b : Fin 8) (r : Fin 256) (j : Fin 1024) :
    (val_main_v54 (F := Ideal) x0 x1 x4 x5 : FVec Ideal S8x256x1024 .f32) (ix3 b r j)
      = zrow x0 x1 x2 x3 x4 x5 b ⟨r.val, by omega⟩ j := by
  pointwise [val_main_v54, val_main_v53, val_main_v52, val_main_v51, val_main_v50, val_main_v49, val_main_v48, val_main_v11, val_main_v10, val_main_v9, val_main_v8, val_main_v7, val_main_v6, val_main_v5, val_main_v4, val_main_v3, val_main_v2, val_main_v1, val_main_v0, val_main_cst_6]
  unfold zrow
  rw [dif_pos r.isLt]

theorem lat_stream (x0 x1 x2 x3 x4 x5 x6 x7) (b : Fin 8) (r : Fin 2048) (j : Fin 1024) :
    (val_main_v41 (F := Ideal) x0 x2 x3 x5 x6 x7 : FVec Ideal S8x2048x1024 .f32) (ix3 b r j)
      = stream x0 x1 x2 x3 x4 x5 x6 x7 b ⟨256 + r.val, by omega⟩ j := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_0, val_main_cst_1, val_main_cst_2, val_main_cst_3, val_main_cst_4]
  simp only [lat_row _ x1 _ _ x4]
  rfl

theorem ctx_stream (x0 x1 x2 x3 x4 x5 x6 x7) (b : Fin 8) (r : Fin 256) (j : Fin 1024) :
    (val_main_v78 (F := Ideal) x0 x1 x4 x5 x6 x7 : FVec Ideal S8x256x1024 .f32) (ix3 b r j)
      = stream x0 x1 x2 x3 x4 x5 x6 x7 b ⟨r.val, by omega⟩ j := by
  pointwise [val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_cst_7, val_main_cst_8, val_main_cst_9, val_main_cst_10, val_main_cst_11]
  simp only [ctx_row _ _ x2 x3]
  rfl

theorem ref87 (x0 x1 x2 x3 x4 x5 x6 x7) (b : Fin 8) (r : Fin 2304) (j : Fin 1024) :
    (val_main_v87 (F := Ideal) x0 x1 x2 x3 x4 x5 x6 x7 : FVec Ideal S8x2304x1024 .f32) (ix3 b r j)
      = stream x0 x1 x2 x3 x4 x5 x6 x7 b r j := by
  pointwise [val_main_v87]
  split
  · rw [ctx_stream _ _ x2 x3]
  · rename_i h
    rw [lat_stream _ x1 _ _ x4]
    exact congrArg (fun q => stream x0 x1 x2 x3 x4 x5 x6 x7 b q j) (Fin.ext (by show 256 + (r.val - 256) = r.val; omega))

theorem ref88 (x0 x1 x2 x3 x4 x5 x6 x7) (b : Fin 8) (r : Fin 2304) (j : Fin 1024) :
    (val_main_v88 (F := Ideal) x0 x1 x2 x3 x4 x5 x6 x7 : FVec Ideal S8x2304x1024 .f32) (ix3 b r j)
      = hrow x0 x1 x2 x3 x4 x5 x6 x7 b r j := by
  pointwise [val_main_v88, val_main_v86, val_main_v85, val_main_v84, val_main_v83, val_main_v82, val_main_v81, val_main_v80, val_main_v79, val_main_v47, val_main_v46, val_main_v45, val_main_v44, val_main_v43, val_main_v42, val_main_v11, val_main_v10, val_main_v9, val_main_v8, val_main_v7, val_main_v6, val_main_v5, val_main_v4, val_main_v3, val_main_cst_5, val_main_cst_12]
  unfold hrow
  by_cases h : r.val < 256
  · rw [dif_pos h, if_pos h, ctx_stream _ _ x2 x3]
  · rw [dif_neg h, if_neg h, lat_stream _ x1 _ _ x4]
    have e (h' : _) : (⟨256 + (r.val - 256), h'⟩ : Fin 2304) = r := Fin.ext (by show 256 + (r.val - 256) = r.val; omega)
    simp only [e]

end Reference

/-! ## The kernel -/

variable (m : (ℓ : Loc nD τ sig) → Buf (Elt Ideal) ℓ)

theorem idx_val : ∀ t : Fin cfg0.N, win0_0.index t = ![t.val / 9, t.val % 9, 0]
    ∧ win0_1.index t = ![t.val / 9, t.val % 9, 0] ∧ win0_2.index t = ![t.val / 9, min (t.val % 9) 1, 0, 0]
    ∧ win0_3.index t = ![0, 0] ∧ win0_4.index t = ![0, 0]
    ∧ win0_5.index t = ![t.val / 9, t.val % 9, 0] ∧ win0_6.index t = ![t.val / 9, t.val % 9, 0] ∧ t.val / 9 < 8 :=
  (by decide +kernel : ∀ t : Fin grid0.N, _)

abbrev aM (c : Dev nD) : FVec Ideal S8x2304x1024 .bf16 := m ((c : Thread nD τ).loc main_arg0)
abbrev aCtx (c : Dev nD) : FVec Ideal S8x256x1024 .f32 := m ((c : Thread nD τ).loc main_arg1)
abbrev aLat (c : Dev nD) : FVec Ideal S8x2048x1024 .f32 := m ((c : Thread nD τ).loc main_arg2)
abbrev aMod (c : Dev nD) : FVec Ideal S8x6144 .f32 := m ((c : Thread nD τ).loc main_arg3)
abbrev aModC (c : Dev nD) : FVec Ideal S6144 .f32 := m ((c : Thread nD τ).loc main_arg4)
abbrev aW (c : Dev nD) : FVec Ideal S1024x1024 .f32 := m ((c : Thread nD τ).loc main_arg5)
abbrev aG (c : Dev nD) : FVec Ideal S1024 .f32 := m ((c : Thread nD τ).loc main_arg6)
abbrev aB (c : Dev nD) : FVec Ideal S1024 .f32 := m ((c : Thread nD τ).loc main_arg7)

theorem m_read (c : Dev nD) (b : Fin 8) (r : Fin 2304) (k : Fin 1024) :
    (V m c main_arg0 : FVec Ideal S8x2304x1024 .bf16) (ix3 b r k) = aM m c (ix3 b r k) := by
  rw [V_main_arg0]

theorem x_read (c : Dev nD) (b : Fin 8) (r : Fin 2304) (k : Fin 1024) :
    (V m c main_v0 : FVec Ideal S8x2304x1024 .f32) (ix3 b r k)
      = if h : r.val < 256 then aCtx m c (ix3 b ⟨r.val, h⟩ k) else aLat m c (ix3 b ⟨r.val - 256, by omega⟩ k) := by
  simp only [V, hostOps0, hostOps0_1, hostOps0_2, List.flatten_cons, List.flatten_nil, List.append_nil, List.cons_append, List.nil_append]
  after_reads_at

theorem mod_read (c : Dev nD) (b : Fin 8) (s : Fin 2) (e : Fin 8) (he : e.val < 6) (k : Fin 1024) :
    (V m c main_v7 : FVec Ideal S8x2x8x1024 .f32) (ix4 b s e k)
      = if s.val < 1 then aModC m c (ix1 ⟨e.val * 1024 + k.val, by omega⟩) else aMod m c (ix2 b ⟨e.val * 1024 + k.val, by omega⟩) := by
  simp only [V, hostOps0, hostOps0_1, hostOps0_2, List.flatten_cons, List.flatten_nil, List.append_nil, List.cons_append, List.nil_append]
  after_reads_at
  simp only [he, ↓reduceDIte]
  after_reads_at
  split <;> rfl

theorem w_read (c : Dev nD) (k : Fin 1024) (j : Fin 1024) :
    (V m c main_v8 : FVec Ideal S1024x1024 .bf16) (ix2 k j) = aW m c (ix2 k j) := by
  simp only [V, hostOps0, hostOps0_1, hostOps0_2, List.flatten_cons, List.flatten_nil, List.append_nil, List.cons_append, List.nil_append]
  after_reads_at

theorem g_read (c : Dev nD) (j : Fin 1024) :
    (V m c main_v11 : FVec Ideal S2x1024 .f32) (ix2 0 j) = aG m c (ix1 j) := by
  simp only [V, hostOps0, hostOps0_1, hostOps0_2, List.flatten_cons, List.flatten_nil, List.append_nil, List.cons_append, List.nil_append]
  after_reads_at

theorem b_read (c : Dev nD) (j : Fin 1024) :
    (V m c main_v11 : FVec Ideal S2x1024 .f32) (ix2 1 j) = aB m c (ix1 j) := by
  simp only [V, hostOps0, hostOps0_1, hostOps0_2, List.flatten_cons, List.flatten_nil, List.append_nil, List.cons_append, List.nil_append]
  after_reads_at

abbrev bt (t : Fin cfg0.N) : Fin 8 := ⟨t.val / 9, (idx_val t).2.2.2.2.2.2.2⟩

abbrev b0 (c : Dev nD) (t : Fin cfg0.N) : FVec Ideal S1x256x1024 .bf16 := iblk m c 0 t
abbrev b1 (c : Dev nD) (t : Fin cfg0.N) : FVec Ideal S1x256x1024 .f32 := iblk m c 1 t
abbrev b2 (c : Dev nD) (t : Fin cfg0.N) : FVec Ideal S1x1x8x1024 .f32 := iblk m c 2 t
abbrev b3 (c : Dev nD) (t : Fin cfg0.N) : FVec Ideal S1024x1024 .bf16 := iblk m c 3 t
abbrev b4 (c : Dev nD) (t : Fin cfg0.N) : FVec Ideal S2x1024 .f32 := iblk m c 4 t

theorem blk0 (c : Dev nD) (t : Fin cfg0.N) (r : Fin 256) (k : Fin 1024) :
    b0 m c t (ix3 0 r k) = aM m c (ix3 (bt t) ⟨t.val % 9 * 256 + r.val, by omega⟩ k) := by
  rw [← m_read]
  blk_ext [iblk, idx_val t]

theorem blk1 (c : Dev nD) (t : Fin cfg0.N) (r : Fin 256) (k : Fin 1024) :
    b1 m c t (ix3 0 r k)
      = (V m c main_v0 : FVec Ideal S8x2304x1024 .f32) (ix3 (bt t) ⟨t.val % 9 * 256 + r.val, by omega⟩ k) := by
  blk_ext [iblk, idx_val t]

theorem blk2 (c : Dev nD) (t : Fin cfg0.N) (e : Fin 8) (k : Fin 1024) :
    b2 m c t (ix4 0 0 e k)
      = (V m c main_v7 : FVec Ideal S8x2x8x1024 .f32) (ix4 (bt t) ⟨min (t.val % 9) 1, by omega⟩ e k) := by
  blk_ext [iblk, idx_val t]

theorem blk3 (c : Dev nD) (t : Fin cfg0.N) (k : Fin 1024) (j : Fin 1024) :
    b3 m c t (ix2 k j) = aW m c (ix2 k j) := by
  rw [← w_read]
  blk_ext [iblk, idx_val t]

theorem blk4g (c : Dev nD) (t : Fin cfg0.N) (j : Fin 1024) : b4 m c t (ix2 0 j) = aG m c (ix1 j) := by
  rw [← g_read]
  blk_ext [iblk, idx_val t]

theorem blk4b (c : Dev nD) (t : Fin cfg0.N) (j : Fin 1024) : b4 m c t (ix2 1 j) = aB m c (ix1 j) := by
  rw [← b_read]
  blk_ext [iblk, idx_val t]

/-- A row of the modulation, at a grid point: the context's at the first tile of a batch entry, else the entry's own. -/
theorem mod_at (c : Dev nD) (t : Fin cfg0.N) (e : Fin 8) (he : e.val < 6) (k : Fin 1024) :
    b2 m c t (ix4 0 0 e k)
      = if t.val % 9 = 0 then aModC m c (ix1 ⟨e.val * 1024 + k.val, by omega⟩)
        else aMod m c (ix2 (bt t) ⟨e.val * 1024 + k.val, by omega⟩) := by
  rw [blk2, mod_read _ _ _ _ _ he]
  by_cases h : t.val % 9 = 0
  · rw [if_pos h, if_pos (by show min (t.val % 9) 1 < 1; omega)]
  · rw [if_neg h, if_neg (by show ¬ min (t.val % 9) 1 < 1; omega)]

/-- The row before the norm, from the blocks of a grid point. -/
def zblk (x0 : FVec Ideal S1x256x1024 .bf16) (x1 : FVec Ideal S1x256x1024 .f32) (x2 : FVec Ideal S1x1x8x1024 .f32)
    (x3 : FVec Ideal S1024x1024 .bf16) (r : Fin 256) (j : Fin 1024) : EReal :=
  Ideal.ofBits .f32 1071072509#32 * x1 (ix3 0 r j) + x2 (ix4 0 0 2 j) * ∑ k : Fin 1024, x0 (ix3 0 r k) * x3 (ix2 k j)

theorem pay7_at (x0 : FVec Ideal S1x256x1024 .bf16) (x1 : FVec Ideal S1x256x1024 .f32) (x2 : FVec Ideal S1x1x8x1024 .f32)
    (x3 : FVec Ideal S1024x1024 .bf16) (r : Fin 256) (j : Fin 1024) :
    k0_pay7 (F := Ideal) x0 x3 x2 x1 (ix2 r j) = normed (zblk x0 x1 x2 x3 r) j := by
  pointwise [k0_pay7, k0_pay4]
  rfl

theorem out5_at (x0 : FVec Ideal S1x256x1024 .bf16) (x1 : FVec Ideal S1x256x1024 .f32) (x2 : FVec Ideal S1x1x8x1024 .f32)
    (x3 : FVec Ideal S1024x1024 .bf16) (x4 : FVec Ideal S2x1024 .f32) (r : Fin 256) (j : Fin 1024) :
    (k0_pay2 (F := Ideal) (k0_pay5 (View.ld x4 r0_3)) (k0_pay6 (View.ld x4 r0_4)) (k0_pay7 x0 x3 x2 x1) : FVec Ideal S1x256x1024 .f32) (ix3 0 r j)
      = normed (zblk x0 x1 x2 x3 r) j * x4 (ix2 0 j) + x4 (ix2 1 j) := by
  pointwise [k0_pay2, k0_pay1, k0_pay5, k0_pay6]
  rw [pay7_at]

theorem out6_at (x0 : FVec Ideal S1x256x1024 .bf16) (x1 : FVec Ideal S1x256x1024 .f32) (x2 : FVec Ideal S1x1x8x1024 .f32)
    (x3 : FVec Ideal S1024x1024 .bf16) (x4 : FVec Ideal S2x1024 .f32) (r : Fin 256) (j : Fin 1024) :
    (k0_pay3 (F := Ideal) (k0_pay4 x2) (k0_pay5 (View.ld x4 r0_3)) (k0_pay6 (View.ld x4 r0_4)) (k0_pay7 x0 x3 x2 x1) : FVec Ideal S1x256x1024 .f32) (ix3 0 r j)
      = (normed (zblk x0 x1 x2 x3 r) j * x4 (ix2 0 j) + x4 (ix2 1 j)) * (1 + x2 (ix4 0 0 4 j)) + x2 (ix4 0 0 3 j) := by
  pointwise [k0_pay3, k0_pay1, k0_pay4, k0_pay5, k0_pay6]
  rw [pay7_at]

theorem zblk_eq (c : Dev nD) (t : Fin cfg0.N) (r : Fin 256) :
    zblk (b0 m c t) (b1 m c t) (b2 m c t) (b3 m c t) r
      = zrow (aM m c) (aCtx m c) (aLat m c) (aMod m c) (aModC m c) (aW m c) (bt t) ⟨t.val % 9 * 256 + r.val, by omega⟩ := by
  funext j
  unfold zblk zrow
  have hs : (∑ k : Fin 1024, b0 m c t (ix3 0 r k) * b3 m c t (ix2 k j))
      = ∑ k : Fin 1024, aM m c (ix3 (bt t) ⟨t.val % 9 * 256 + r.val, by omega⟩ k) * aW m c (ix2 k j) :=
    Finset.sum_congr rfl fun k _ => by rw [blk0, blk3]
  rw [hs, blk1, x_read, mod_at _ _ _ _ (by decide)]
  have e2 (h : _) : (⟨((2 : Fin 8) : ℕ) * 1024 + j.val, h⟩ : Fin 6144) = ⟨2048 + j.val, by omega⟩ := Fin.ext (by simp)
  by_cases h : t.val % 9 = 0
  · have h1 : t.val % 9 * 256 + r.val < 256 := by omega
    rw [dif_pos h1, dif_pos h1, if_pos h, e2]
  · have h1 : ¬ t.val % 9 * 256 + r.val < 256 := by omega
    rw [dif_neg h1, dif_neg h1, if_neg h, e2]

theorem stream_at (c : Dev nD) (t : Fin cfg0.N) (r : Fin 256) (j : Fin 1024) :
    normed (zblk (b0 m c t) (b1 m c t) (b2 m c t) (b3 m c t) r) j * b4 m c t (ix2 0 j) + b4 m c t (ix2 1 j)
      = stream (aM m c) (aCtx m c) (aLat m c) (aMod m c) (aModC m c) (aW m c) (aG m c) (aB m c) (bt t) ⟨t.val % 9 * 256 + r.val, by omega⟩ j := by
  rw [zblk_eq, blk4g, blk4b]
  rfl

theorem hrow_at (c : Dev nD) (t : Fin cfg0.N) (r : Fin 256) (j : Fin 1024) :
    (normed (zblk (b0 m c t) (b1 m c t) (b2 m c t) (b3 m c t) r) j * b4 m c t (ix2 0 j) + b4 m c t (ix2 1 j))
        * (1 + b2 m c t (ix4 0 0 4 j)) + b2 m c t (ix4 0 0 3 j)
      = hrow (aM m c) (aCtx m c) (aLat m c) (aMod m c) (aModC m c) (aW m c) (aG m c) (aB m c) (bt t) ⟨t.val % 9 * 256 + r.val, by omega⟩ j := by
  rw [stream_at, mod_at _ _ _ _ (by decide), mod_at _ _ _ _ (by decide)]
  unfold hrow
  have e4 (h : _) : (⟨((4 : Fin 8) : ℕ) * 1024 + j.val, h⟩ : Fin 6144) = ⟨4096 + j.val, by omega⟩ := Fin.ext (by simp)
  have e3 (h : _) : (⟨((3 : Fin 8) : ℕ) * 1024 + j.val, h⟩ : Fin 6144) = ⟨3072 + j.val, by omega⟩ := Fin.ext (by simp)
  by_cases h : t.val % 9 = 0
  · have h1 : t.val % 9 * 256 + r.val < 256 := by omega
    rw [if_pos h1, if_pos h, if_pos h, e4, e3]
  · have h1 : ¬ t.val % 9 * 256 + r.val < 256 := by omega
    rw [if_neg h1, if_neg h, if_neg h, e4, e3]

open Cert.OutMixRefIdeal.Read in
theorem final5 (c : Dev nD) : (dats m 0 c).arrAt 5 (cfgs 0).N
    = val_main_v87 (F := Ideal) (aM m c) (aCtx m c) (aLat m c) (aMod m c) (aModC m c) (aW m c) (aG m c) (aB m c) := by
  refine (dats m 0 c).arrAt_eq_of_covers 5 _ (by decide +kernel) fun t hf y => ?_
  blk_simp
  rw [after0_5]; unfold_out out0_5; frame_out
  idx_vars y
  obtain rfl : y0 = 0 := Subsingleton.elim _ _
  have he : ((View.whole main_v12_0).slice (win0_5.rect t)).emb (ix3 0 y1 y2) = ix3 (bt t) ⟨t.val % 9 * 256 + y1.val, by omega⟩ y2 := by
    blk_ext [idx_val t]
  rw [he]
  exact (out5_at (b0 m c t) (b1 m c t) (b2 m c t) (b3 m c t) (b4 m c t) y1 y2).trans
    ((stream_at m c t y1 y2).trans (ref87 _ _ _ _ _ _ _ _ _ _ _).symm)

open Cert.OutMixRefIdeal.Read in
theorem final6 (c : Dev nD) : (dats m 0 c).arrAt 6 (cfgs 0).N
    = val_main_v88 (F := Ideal) (aM m c) (aCtx m c) (aLat m c) (aMod m c) (aModC m c) (aW m c) (aG m c) (aB m c) := by
  refine (dats m 0 c).arrAt_eq_of_covers 6 _ (by decide +kernel) fun t hf y => ?_
  blk_simp
  rw [after0_6]; unfold_out out0_6; frame_out
  idx_vars y
  obtain rfl : y0 = 0 := Subsingleton.elim _ _
  have he : ((View.whole main_v12_1).slice (win0_6.rect t)).emb (ix3 0 y1 y2) = ix3 (bt t) ⟨t.val % 9 * 256 + y1.val, by omega⟩ y2 := by
    blk_ext [idx_val t]
  rw [he]
  exact (out6_at (b0 m c t) (b1 m c t) (b2 m c t) (b3 m c t) (b4 m c t) y1 y2).trans
    ((hrow_at m c t y1 y2).trans (ref88 _ _ _ _ _ _ _ _ _ _ _).symm)

end Cert.Proof.OutMix

end
-- ==== Proof.ExpertsBitsBody.lean ====
module

public import proofs.«01_k».proof.Proof.Gen.Experts.Skeleton
public import proofs.«01_k».proof.Proof.Gen.Experts.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384

noncomputable section

namespace Cert.Proof.ExpertsBits

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The two tables and the three kept copies of the weights, whole. -/
abbrev tbE : Memref sig .tc .smem S309 .i32 := Memref.whole main_arg1
abbrev tbV : Memref sig .tc .smem S309 .i32 := Memref.whole main_arg2
abbrev sc1 : Memref sig .tc .vmem S1024x256 .bf16 := Memref.whole cc0_scratch0
abbrev sc3 : Memref sig .tc .vmem S1024x256 .bf16 := Memref.whole cc0_scratch1
abbrev sc2 : Memref sig .tc .vmem S256x1024 .bf16 := Memref.whole cc0_scratch2

/-- The word of the experts' table that the point reads, the one it compares it with, and the word of the counts' table. -/
abbrev wordE (T : S309.Idx → Elt Bits .i32) (i : grid0.Coords) : BitVec 32 :=
  View.readAt (Elt Bits) tbE.view (Rect.unit (s := S309) (k0_off1 i) S1.size (k0_off1_inb i)).toLoadRect T (Shape.Idx.first (numel1_S1.symm ▸ Nat.one_pos))
abbrev wordP (T : S309.Idx → Elt Bits .i32) (i : grid0.Coords) : BitVec 32 :=
  View.readAt (Elt Bits) tbE.view (Rect.unit (s := S309) (k0_off2 i) S1.size (k0_off2_inb i)).toLoadRect T (Shape.Idx.first (numel1_S1.symm ▸ Nat.one_pos))
abbrev wordV (T : S309.Idx → Elt Bits .i32) (i : grid0.Coords) : BitVec 32 :=
  View.readAt (Elt Bits) tbV.view (Rect.unit (s := S309) (k0_off1 i) S1.size (k0_off1_inb i)).toLoadRect T (Shape.Idx.first (numel1_S1.symm ▸ Nat.one_pos))

/-- The point takes the weights anew: it is the first, or its expert is another than the one before. -/
abbrev Fetches (T : S309.Idx → Elt Bits .i32) (i : grid0.Coords) : Prop :=
  Scalar.cmpi .ne (Scalar.extui (Scalar.ori (Scalar.cmpi .eq (BitVec.ofNat 32 (i 0).val) 0#32) (Scalar.cmpi .ne (wordE T i) (wordP T i)))) 0#32 = 1#1

/-- What the point leaves in its block: the expert's value of its rows where the block has tokens, zero elsewhere. -/
def outv (TV : S309.Idx → Elt Bits .i32) (i : grid0.Coords) (x0 : IVec S512x512 32) (x1 x2 : FVec Bits S1x1x1024x256 .f32)
    (x3 : FVec Bits S1x1x256x1024 .f32) : FVec Bits S512x1024 .bf16 :=
  if k0_cond2 (wordV TV i) = 1#1 then k0_pay4 (F := Bits) x0 (k0_pay1 (F := Bits) x1) (k0_pay2 (F := Bits) x2) (k0_pay3 (F := Bits) x3) else k0_pay5

/-- The two guards of the store are each other's negation. -/
theorem cond3_iff (v : BitVec 32) : k0_cond3 v = 1#1 ↔ ¬ k0_cond2 v = 1#1 := by
  unfold k0_cond3 k0_cond2
  simp only [Scalar.cmpi, IntOp.cmpi, Scalar.extui]
  by_cases h : (0#32).slt v = true
  · have h' : v.sle 0#32 = false := by
      simp only [BitVec.slt, BitVec.sle, decide_eq_true_eq, decide_eq_false_iff_not] at h ⊢; omega
    rw [h, h']; decide
  · have h' : v.sle 0#32 = true := by
      simp only [BitVec.slt, BitVec.sle, decide_eq_true_eq] at h ⊢; omega
    rw [Bool.not_eq_true] at h
    rw [h, h']; decide

/-- A load of all of a view reads its contents. -/
theorem readAt_full {sp : Space} {sh : Shape} {e : EltTy} (v : View sig .tc sp sh e) {off : Fin sh.rank → ℕ} (inb : ∀ a, off a + sh.size a ≤ sh.size a) (f : v.ty.Contents (Elt Bits)) :
    v.readAt (Elt Bits) (Rect.unit off sh.size inb).toLoadRect f = v.read (Elt Bits) f := by
  funext y
  exact congrArg (v.read (Elt Bits) f) (funext fun a => Fin.ext (by
    show off a + 1 * (y a).val = (y a).val
    have := inb a; omega))

/-- What a store of all of a kept copy leaves there: its payload. -/
theorem write1 (w : S1024x256.Idx → Elt Bits .bf16) : sc1.view.writes (Elt Bits) sc1.view.junk [⟨Rect.unit ![0, 0] S1024x256.size inb_S1024x256_S1024x256_0_0, w⟩] = w :=
  (View.read_whole _ _).symm.trans (View.read_writes_full sc1.view _ _ w [])
theorem write3 (w : S1024x256.Idx → Elt Bits .bf16) : sc3.view.writes (Elt Bits) sc3.view.junk [⟨Rect.unit ![0, 0] S1024x256.size inb_S1024x256_S1024x256_0_0, w⟩] = w :=
  (View.read_whole _ _).symm.trans (View.read_writes_full sc3.view _ _ w [])
theorem write2 (w : S256x1024.Idx → Elt Bits .bf16) : sc2.view.writes (Elt Bits) sc2.view.junk [⟨Rect.unit ![0, 0] S256x1024.size inb_S256x1024_S256x1024_0_0, w⟩] = w :=
  (View.read_whole _ _).symm.trans (View.read_writes_full sc2.view _ _ w [])

/-- And a load of all of it reads what it holds. -/
theorem read1 (w : S1024x256.Idx → Elt Bits .bf16) : sc1.view.readAt (Elt Bits) (Rect.unit ![0, 0] S1024x256.size inb_S1024x256_S1024x256_0_0).toLoadRect w = w :=
  (readAt_full sc1.view _ _).trans (View.read_whole _ _)
theorem read3 (w : S1024x256.Idx → Elt Bits .bf16) : sc3.view.readAt (Elt Bits) (Rect.unit ![0, 0] S1024x256.size inb_S1024x256_S1024x256_0_0).toLoadRect w = w :=
  (readAt_full sc3.view _ _).trans (View.read_whole _ _)
theorem read2 (w : S256x1024.Idx → Elt Bits .bf16) : sc2.view.readAt (Elt Bits) (Rect.unit ![0, 0] S256x1024.size inb_S256x1024_S256x1024_0_0).toLoadRect w = w :=
  (readAt_full sc2.view _ _).trans (View.read_whole _ _)

set_option maxHeartbeats 8000000 in
/-- A point that takes the weights anew, in a block with tokens. -/
theorem run_fetch_tokens (c : Dev nD) (i : grid0.Coords) (arg3 : Memref sig .tc .vmem S512x512 .i32) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole)
    (T0 T1 : S309.Idx → Elt Bits .i32) (x0 : S512x512.Idx → Elt Bits .i32) (x1 x2 : S1x1x1024x256.Idx → Elt Bits .f32) (x3 : S1x1x256x1024.Idx → Elt Bits .f32)
    (hc0 : Fetches T0 i) (k0_h2 : k0_cond2 (wordV T1 i) = 1#1) (k0_h3 : ¬ k0_cond3 (wordV T1 i) = 1#1)
    (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tbE.view.loc (c : Thread nD τ) ↦{fullShare.right} T0)
        ∗ (tbV.view.loc (c : Thread nD τ) ↦{fullShare.right} T1)
        ∗ (∃ d, owns (c : Thread nD τ) arg7 fullShare d)
        ∗ (sc1.view.loc (c : Thread nD τ) ↦{fullShare} xa0)
        ∗ (sc3.view.loc (c : Thread nD τ) ↦{fullShare} xa1)
        ∗ (sc2.view.loc (c : Thread nD τ) ↦{fullShare} xa2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tbE.view.loc (c : Thread nD τ) ↦{fullShare.right} T0)
            ∗ (tbV.view.loc (c : Thread nD τ) ↦{fullShare.right} T1)
            ∗ owns (c : Thread nD τ) arg7 fullShare (outv T1 i x0 x1 x2 x3)
            ∗ (sc1.view.loc (c : Thread nD τ) ↦{fullShare} (k0_pay1 (F := Bits) x1))
            ∗ (sc3.view.loc (c : Thread nD τ) ↦{fullShare} (k0_pay2 (F := Bits) x2))
            ∗ (sc2.view.loc (c : Thread nD τ) ↦{fullShare} (k0_pay3 (F := Bits) x3))) -∗ K ⟨⟩))
      ⊢ wp frame (wpE (defs₀ (F := Bits)) Variants.none c none) Set.univ (cc0_moe_experts i tbE (Memref.isWhole_whole _) tbV (Memref.isWhole_whole _) arg3 harg3 arg4 harg4 arg5 harg5 arg6 harg6 arg7 harg7 sc1 (Memref.isWhole_whole _) sc3 (Memref.isWhole_whole _) sc2 (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbV.IsWhole := Memref.isWhole_whole _
  sl_exec! (disch := first | (guard_target = Scalar.cmpi .ne _ _ = _; exact hc0) | (guard_target = (k0_cond2 _ = _); exact k0_h2) | (guard_target = ¬ (k0_cond3 _ = _); exact k0_h3))
  sl_step
  have e0 : sc1.view.writes (Elt Bits) sc1.view.junk (run_fetch_tokens.sl.HS0_1 arg4 x1) = k0_pay1 (F := Bits) x1 := by
    unfold run_fetch_tokens.sl.HS0_1
    rw [View.readAt_rep_full]; exact write1 _
  have e1 : sc3.view.writes (Elt Bits) sc3.view.junk (run_fetch_tokens.sl.HS1_1 arg5 x2) = k0_pay2 (F := Bits) x2 := by
    unfold run_fetch_tokens.sl.HS1_1
    rw [View.readAt_rep_full]; exact write3 _
  have e2 : sc2.view.writes (Elt Bits) sc2.view.junk (run_fetch_tokens.sl.HS2_1 arg6 x3) = k0_pay3 (F := Bits) x3 := by
    unfold run_fetch_tokens.sl.HS2_1
    rw [View.readAt_rep_full]; exact write2 _
  have e4 : View.read (Elt Bits) arg7.view (arg7.view.writes (Elt Bits) arg7.view.junk (run_fetch_tokens.sl.HO4_1 arg3 arg4 arg5 arg6 x0 x1 x2 x3)) = outv T1 i x0 x1 x2 x3 := by
    unfold run_fetch_tokens.sl.HO4_1 outv
    rw [if_pos k0_h2]
    have h1 : run_fetch_tokens.sl.v29 arg4 x1 = k0_pay1 (F := Bits) x1 :=
      by
      unfold run_fetch_tokens.sl.v29
      rw [View.readCov, e0]; exact read1 _
    have h2 : run_fetch_tokens.sl.v31 arg5 x2 = k0_pay2 (F := Bits) x2 :=
      by
      unfold run_fetch_tokens.sl.v31
      rw [View.readCov, e1]; exact read3 _
    have h3 : run_fetch_tokens.sl.v37 arg6 x3 = k0_pay3 (F := Bits) x3 :=
      by
      unfold run_fetch_tokens.sl.v37
      rw [View.readCov, e2]; exact read2 _
    refine (View.read_writes_full arg7.view _ _ _ _).trans ?_
    rw [h1, h2, h3]
    exact congrArg (fun z => k0_pay4 (F := Bits) z _ _ _) (View.readAt_rep_full arg3.view x0 _)
  rw [e0, e1, e2]
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      exact e4
  isplitl [HS0]; · iexact HS0
  isplitl [HS1]; · iexact HS1
  iexact HS2

set_option maxHeartbeats 8000000 in
/-- A point that takes the weights anew, in a block without tokens. -/
theorem run_fetch_none (c : Dev nD) (i : grid0.Coords) (arg3 : Memref sig .tc .vmem S512x512 .i32) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole)
    (T0 T1 : S309.Idx → Elt Bits .i32) (x0 : S512x512.Idx → Elt Bits .i32) (x1 x2 : S1x1x1024x256.Idx → Elt Bits .f32) (x3 : S1x1x256x1024.Idx → Elt Bits .f32)
    (hc0 : Fetches T0 i) (k0_h2 : ¬ k0_cond2 (wordV T1 i) = 1#1) (k0_h3 : k0_cond3 (wordV T1 i) = 1#1)
    (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tbE.view.loc (c : Thread nD τ) ↦{fullShare.right} T0)
        ∗ (tbV.view.loc (c : Thread nD τ) ↦{fullShare.right} T1)
        ∗ (∃ d, owns (c : Thread nD τ) arg7 fullShare d)
        ∗ (sc1.view.loc (c : Thread nD τ) ↦{fullShare} xa0)
        ∗ (sc3.view.loc (c : Thread nD τ) ↦{fullShare} xa1)
        ∗ (sc2.view.loc (c : Thread nD τ) ↦{fullShare} xa2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tbE.view.loc (c : Thread nD τ) ↦{fullShare.right} T0)
            ∗ (tbV.view.loc (c : Thread nD τ) ↦{fullShare.right} T1)
            ∗ owns (c : Thread nD τ) arg7 fullShare (outv T1 i x0 x1 x2 x3)
            ∗ (sc1.view.loc (c : Thread nD τ) ↦{fullShare} (k0_pay1 (F := Bits) x1))
            ∗ (sc3.view.loc (c : Thread nD τ) ↦{fullShare} (k0_pay2 (F := Bits) x2))
            ∗ (sc2.view.loc (c : Thread nD τ) ↦{fullShare} (k0_pay3 (F := Bits) x3))) -∗ K ⟨⟩))
      ⊢ wp frame (wpE (defs₀ (F := Bits)) Variants.none c none) Set.univ (cc0_moe_experts i tbE (Memref.isWhole_whole _) tbV (Memref.isWhole_whole _) arg3 harg3 arg4 harg4 arg5 harg5 arg6 harg6 arg7 harg7 sc1 (Memref.isWhole_whole _) sc3 (Memref.isWhole_whole _) sc2 (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbV.IsWhole := Memref.isWhole_whole _
  sl_exec! (disch := first | (guard_target = Scalar.cmpi .ne _ _ = _; exact hc0) | (guard_target = ¬ (k0_cond2 _ = _); exact k0_h2) | (guard_target = (k0_cond3 _ = _); exact k0_h3))
  sl_step
  have e0 : sc1.view.writes (Elt Bits) sc1.view.junk (run_fetch_none.sl.HS0_1 arg4 x1) = k0_pay1 (F := Bits) x1 := by
    unfold run_fetch_none.sl.HS0_1
    rw [View.readAt_rep_full]; exact write1 _
  have e1 : sc3.view.writes (Elt Bits) sc3.view.junk (run_fetch_none.sl.HS1_1 arg5 x2) = k0_pay2 (F := Bits) x2 := by
    unfold run_fetch_none.sl.HS1_1
    rw [View.readAt_rep_full]; exact write3 _
  have e2 : sc2.view.writes (Elt Bits) sc2.view.junk (run_fetch_none.sl.HS2_1 arg6 x3) = k0_pay3 (F := Bits) x3 := by
    unfold run_fetch_none.sl.HS2_1
    rw [View.readAt_rep_full]; exact write2 _
  rw [e0, e1, e2]
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      unfold outv
      rw [if_neg k0_h2]
      exact View.read_writes_full arg7.view _ _ _ _
  isplitl [HS0]; · iexact HS0
  isplitl [HS1]; · iexact HS1
  iexact HS2

set_option maxHeartbeats 8000000 in
/-- A point that goes on with the weights kept, in a block with tokens. -/
theorem run_keep_tokens (c : Dev nD) (i : grid0.Coords) (arg3 : Memref sig .tc .vmem S512x512 .i32) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole)
    (T0 T1 : S309.Idx → Elt Bits .i32) (x0 : S512x512.Idx → Elt Bits .i32) (x1 x2 : S1x1x1024x256.Idx → Elt Bits .f32) (x3 : S1x1x256x1024.Idx → Elt Bits .f32)
    (hc0 : ¬ Fetches T0 i) (k0_h2 : k0_cond2 (wordV T1 i) = 1#1) (k0_h3 : ¬ k0_cond3 (wordV T1 i) = 1#1) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tbE.view.loc (c : Thread nD τ) ↦{fullShare.right} T0)
        ∗ (tbV.view.loc (c : Thread nD τ) ↦{fullShare.right} T1)
        ∗ (∃ d, owns (c : Thread nD τ) arg7 fullShare d)
        ∗ (sc1.view.loc (c : Thread nD τ) ↦{fullShare} (k0_pay1 (F := Bits) x1))
        ∗ (sc3.view.loc (c : Thread nD τ) ↦{fullShare} (k0_pay2 (F := Bits) x2))
        ∗ (sc2.view.loc (c : Thread nD τ) ↦{fullShare} (k0_pay3 (F := Bits) x3))
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tbE.view.loc (c : Thread nD τ) ↦{fullShare.right} T0)
            ∗ (tbV.view.loc (c : Thread nD τ) ↦{fullShare.right} T1)
            ∗ owns (c : Thread nD τ) arg7 fullShare (outv T1 i x0 x1 x2 x3)
            ∗ (sc1.view.loc (c : Thread nD τ) ↦{fullShare} (k0_pay1 (F := Bits) x1))
            ∗ (sc3.view.loc (c : Thread nD τ) ↦{fullShare} (k0_pay2 (F := Bits) x2))
            ∗ (sc2.view.loc (c : Thread nD τ) ↦{fullShare} (k0_pay3 (F := Bits) x3))) -∗ K ⟨⟩))
      ⊢ wp frame (wpE (defs₀ (F := Bits)) Variants.none c none) Set.univ (cc0_moe_experts i tbE (Memref.isWhole_whole _) tbV (Memref.isWhole_whole _) arg3 harg3 arg4 harg4 arg5 harg5 arg6 harg6 arg7 harg7 sc1 (Memref.isWhole_whole _) sc3 (Memref.isWhole_whole _) sc2 (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbV.IsWhole := Memref.isWhole_whole _
  sl_exec! (disch := first | (guard_target = ¬ (Scalar.cmpi .ne _ _ = _); exact hc0) | (guard_target = (k0_cond2 _ = _); exact k0_h2) | (guard_target = ¬ (k0_cond3 _ = _); exact k0_h3))
  sl_step
  have h0 := View.readAt_rep_full (Val := Elt Bits) arg3.view x0 inb_S512x512_S512x512_0_0
  have h1 : sc1.view.readAt (Elt Bits) (Rect.unit ![0, 0] S1024x256.size inb_S1024x256_S1024x256_0_0).toLoadRect (k0_pay1 (F := Bits) x1) = k0_pay1 (F := Bits) x1 := read1 _
  have h2 : sc3.view.readAt (Elt Bits) (Rect.unit ![0, 0] S1024x256.size inb_S1024x256_S1024x256_0_0).toLoadRect (k0_pay2 (F := Bits) x2) = k0_pay2 (F := Bits) x2 := read3 _
  have h3 : sc2.view.readAt (Elt Bits) (Rect.unit ![0, 0] S256x1024.size inb_S256x1024_S256x1024_0_0).toLoadRect (k0_pay3 (F := Bits) x3) = k0_pay3 (F := Bits) x3 := read2 _
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      unfold outv
      rw [if_pos k0_h2]
      refine (View.read_writes_full arg7.view _ _ _ _).trans ?_
      rw [h0, h1, h2, h3]
  isplitl [HS0]; · iexact HS0
  isplitl [HS1]; · iexact HS1
  iexact HS2

set_option maxHeartbeats 8000000 in
/-- A point that goes on with the weights kept, in a block without tokens. -/
theorem run_keep_none (c : Dev nD) (i : grid0.Coords) (arg3 : Memref sig .tc .vmem S512x512 .i32) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole)
    (T0 T1 : S309.Idx → Elt Bits .i32) (x0 : S512x512.Idx → Elt Bits .i32) (x1 x2 : S1x1x1024x256.Idx → Elt Bits .f32) (x3 : S1x1x256x1024.Idx → Elt Bits .f32)
    (hc0 : ¬ Fetches T0 i) (k0_h2 : ¬ k0_cond2 (wordV T1 i) = 1#1) (k0_h3 : k0_cond3 (wordV T1 i) = 1#1) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tbE.view.loc (c : Thread nD τ) ↦{fullShare.right} T0)
        ∗ (tbV.view.loc (c : Thread nD τ) ↦{fullShare.right} T1)
        ∗ (∃ d, owns (c : Thread nD τ) arg7 fullShare d)
        ∗ (sc1.view.loc (c : Thread nD τ) ↦{fullShare} (k0_pay1 (F := Bits) x1))
        ∗ (sc3.view.loc (c : Thread nD τ) ↦{fullShare} (k0_pay2 (F := Bits) x2))
        ∗ (sc2.view.loc (c : Thread nD τ) ↦{fullShare} (k0_pay3 (F := Bits) x3))
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tbE.view.loc (c : Thread nD τ) ↦{fullShare.right} T0)
            ∗ (tbV.view.loc (c : Thread nD τ) ↦{fullShare.right} T1)
            ∗ owns (c : Thread nD τ) arg7 fullShare (outv T1 i x0 x1 x2 x3)
            ∗ (sc1.view.loc (c : Thread nD τ) ↦{fullShare} (k0_pay1 (F := Bits) x1))
            ∗ (sc3.view.loc (c : Thread nD τ) ↦{fullShare} (k0_pay2 (F := Bits) x2))
            ∗ (sc2.view.loc (c : Thread nD τ) ↦{fullShare} (k0_pay3 (F := Bits) x3))) -∗ K ⟨⟩))
      ⊢ wp frame (wpE (defs₀ (F := Bits)) Variants.none c none) Set.univ (cc0_moe_experts i tbE (Memref.isWhole_whole _) tbV (Memref.isWhole_whole _) arg3 harg3 arg4 harg4 arg5 harg5 arg6 harg6 arg7 harg7 sc1 (Memref.isWhole_whole _) sc3 (Memref.isWhole_whole _) sc2 (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbV.IsWhole := Memref.isWhole_whole _
  sl_exec! (disch := first | (guard_target = ¬ (Scalar.cmpi .ne _ _ = _); exact hc0) | (guard_target = ¬ (k0_cond2 _ = _); exact k0_h2) | (guard_target = (k0_cond3 _ = _); exact k0_h3))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      unfold outv
      rw [if_neg k0_h2]
      exact View.read_writes_full arg7.view _ _ _ _
  isplitl [HS0]; · iexact HS0
  isplitl [HS1]; · iexact HS1
  iexact HS2

end Cert.Proof.ExpertsBits

end
-- ==== Proof.ExpertsBitsRun.lean ====
module

public import proofs.«01_k».proof.Proof.ExpertsBitsBody

@[expose] public section

set_option maxRecDepth 16384

noncomputable section

namespace Cert.Proof.ExpertsBits

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resources of the launch: the rounds of the staging buffers. -/
abbrev EP : Emb (UR sig nD τ) 𝕄 := emb₁

/-- Tables whose experts' blocks lie inside the weights: what the launch takes. -/
abbrev Tabs := (pcfg0 (F := Bits)).Adm

variable (T : Tabs) (m : (ℓ : Loc nD τ sig) → Buf (Elt Bits) ℓ) (ρ : Dev nD → PrngReg)

/-- The two tables of words. -/
abbrev tE : S309.Idx → Elt Bits .i32 := T.1 0
abbrev tV : S309.Idx → Elt Bits .i32 := T.1 1

/-- The pipeline at the tables, and the launch's only one. -/
abbrev cfgA : Pipeline.Cfg sig Λ₀ := cfg0 (F := Bits) T
abbrev pcs : Fin 1 → Pipeline.Cfg sig Λ₀ := Pipeline.pin (pcfgs (F := Bits)) fun _ => T

/-- The launch memory holds these tables. -/
def Holds : Prop := (∀ c : Dev nD, m ((c : Thread nD τ).loc main_arg1) = tE T) ∧ (∀ c : Dev nD, m ((c : Thread nD τ).loc main_arg2) = tV T)

/-- A point's coordinates. -/
abbrev crd (t : Fin (cfgA T).N) : (cfgA T).grid.Coords := (cfgA T).grid.coords t

/-- Each window's staging buffer at a point, and that it is whole. -/
abbrev ms0 (t : Fin (cfgA T).N) : Memref sig .tc .vmem S512x512 .i32 := spec0_0.stage ((cfgA T).slots t (0 : Fin 5))
abbrev hs0 (t : Fin (cfgA T).N) : (ms0 T t).IsWhole := hstage0_0 (((cfgA T).slots t (0 : Fin 5)).cast nbuf0_0)
abbrev ms1 (t : Fin (cfgA T).N) : Memref sig .tc .vmem S1x1x1024x256 .f32 := spec0_1.stage ((cfgA T).slots t (1 : Fin 5))
abbrev hs1 (t : Fin (cfgA T).N) : (ms1 T t).IsWhole := hstage0_1 (((cfgA T).slots t (1 : Fin 5)).cast nbuf0_1)
abbrev ms2 (t : Fin (cfgA T).N) : Memref sig .tc .vmem S1x1x1024x256 .f32 := spec0_2.stage ((cfgA T).slots t (2 : Fin 5))
abbrev hs2 (t : Fin (cfgA T).N) : (ms2 T t).IsWhole := hstage0_2 (((cfgA T).slots t (2 : Fin 5)).cast nbuf0_2)
abbrev ms3 (t : Fin (cfgA T).N) : Memref sig .tc .vmem S1x1x256x1024 .f32 := spec0_3.stage ((cfgA T).slots t (3 : Fin 5))
abbrev hs3 (t : Fin (cfgA T).N) : (ms3 T t).IsWhole := hstage0_3 (((cfgA T).slots t (3 : Fin 5)).cast nbuf0_3)
abbrev ms4 (t : Fin (cfgA T).N) : Memref sig .tc .vmem S512x1024 .bf16 := spec0_4.stage ((cfgA T).slots t (4 : Fin 5))
abbrev hs4 (t : Fin (cfgA T).N) : (ms4 T t).IsWhole := hstage0_4 (((cfgA T).slots t (4 : Fin 5)).cast nbuf0_4)

/-- A window's block at a point, read off its array at the launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The blocks at their own shapes. -/
abbrev bx (c : Dev nD) (t : Fin (cfgA T).N) : S512x512.Idx → Elt Bits .i32 := iblk T m ρ c (0 : Fin 5) t
abbrev b1 (c : Dev nD) (t : Fin (cfgA T).N) : S1x1x1024x256.Idx → Elt Bits .f32 := iblk T m ρ c (1 : Fin 5) t
abbrev b3 (c : Dev nD) (t : Fin (cfgA T).N) : S1x1x1024x256.Idx → Elt Bits .f32 := iblk T m ρ c (2 : Fin 5) t
abbrev b2 (c : Dev nD) (t : Fin (cfgA T).N) : S1x1x256x1024.Idx → Elt Bits .f32 := iblk T m ρ c (3 : Fin 5) t

/-- What the point leaves in the result's block. -/
def after (c : Dev nD) (t : Fin (cfgA T).N) : S512x1024.Idx → Elt Bits .bf16 :=
  outv (tV T) (crd T t) (bx T m ρ c t) (b1 T m ρ c t) (b3 T m ρ c t) (b2 T m ρ c t)

/-! ## A point that keeps the weights keeps the right ones -/

theorem crd_val (t : Fin (cfgA T).N) : ((crd T t) 0).val = t.val := by
  have h : ((grid0.coords t) 0).val = t.val / 1 % 309 := Pipeline.Grid.coords_val (G := grid0) t 0 (by decide) (by decide)
  have h' : t.val < 309 := t.isLt.trans_eq N_0
  refine h.trans ?_
  rw [Nat.div_one, Nat.mod_eq_of_lt h']

theorem off1_val (i : grid0.Coords) : k0_off1 i = ![(i 0).val] := by
  have h : (i 0).val < 309 := (i 0).isLt
  unfold k0_off1
  simp only [Scalar.indexCast, BitVec.toNat_ofNat]
  rw [Nat.mod_eq_of_lt (by omega)]

theorem off2_val (i : grid0.Coords) : k0_off2 i = ![(i 0).val - 1] := by
  have h : (i 0).val < 309 := (i 0).isLt
  have h0 : ∀ n : Fin 309, (Scalar.indexCast (Scalar.maxsi (Scalar.subi (BitVec.ofNat 32 n.val) 1#32) 0#32)).toNat = n.val - 1 := by decide +kernel
  unfold k0_off2
  exact congrArg (fun n => ![n]) (h0 ⟨(i 0).val, h⟩)

/-- The one cell of a load of one word. -/
theorem word_congr (V : S309.Idx → Elt Bits .i32) (o o' : Fin 1 → ℕ) (h : ∀ a, o a + S1.size a ≤ S309.size a) (h' : ∀ a, o' a + S1.size a ≤ S309.size a) (e : o = o') (x : S1.Idx) :
    View.readAt (Elt Bits) tbE.view (Rect.unit (s := S309) o S1.size h).toLoadRect V x = View.readAt (Elt Bits) tbE.view (Rect.unit (s := S309) o' S1.size h').toLoadRect V x := by
  subst e; rfl

/-- The word a point compares with is the word of the point before. -/
theorem wordP_eq (V : S309.Idx → Elt Bits .i32) (i i' : grid0.Coords) (h : (i 0).val - 1 = (i' 0).val) : wordP V i = wordE V i' :=
  word_congr V _ _ _ _ (by rw [off2_val, off1_val, h]) _

/-- A point that takes no weights is not the first, and has the expert of the point before. -/
theorem keeps (V : S309.Idx → Elt Bits .i32) (i : grid0.Coords) (h : ¬ Fetches V i) : (i 0).val ≠ 0 ∧ wordE V i = wordP V i := by
  unfold Fetches at h
  simp only [Scalar.cmpi, IntOp.cmpi, Scalar.extui, Scalar.ori] at h
  by_cases e : wordE V i = wordP V i
  · refine ⟨fun h0 => h ?_, e⟩
    rw [h0]
    by_cases e' : (wordE V i != wordP V i) = true
    · rw [e']; decide
    · rw [Bool.not_eq_true] at e'; rw [e']; decide
  · refine absurd ?_ h
    have e' : (wordE V i != wordP V i) = true := by simpa using e
    rw [e']
    by_cases e0 : (BitVec.ofNat 32 (i 0).val == 0#32) = true
    · rw [e0]; decide
    · rw [Bool.not_eq_true] at e0; rw [e0]; decide

/-- The block of an array that begins at given block numbers, read at two equal lists of them. -/
theorem block_congr {s : Shape} {α : Type} (size : Fin s.rank → ℕ) (o o' : Fin s.rank → ℕ) (ho : ∀ a, (o a + 1) * size a ≤ s.size a) (ho' : ∀ a, (o' a + 1) * size a ≤ s.size a)
    (A : s.Idx → α) (e : o = o') : (fun y => A ((Rect.block (s := s) size o ho).emb y)) = fun y => A ((Rect.block (s := s) size o' ho').emb y) := by
  subst e; rfl

/-- Two points with the same word have the same blocks of weights. -/
theorem b1_congr (c : Dev nD) (t t' : Fin (cfgA T).N) (h : wordE (tE T) (crd T t) = wordE (tE T) (crd T t')) : b1 T m ρ c t = b1 T m ρ c t' :=
  block_congr (s := S4x64x1024x256) S1x1x1024x256.size (cc0_transform_1 k0_off1_inb numel1_S1 T.1 (crd T t)) (cc0_transform_1 k0_off1_inb numel1_S1 T.1 (crd T t')) (hinb0 T.1 T.2 (1 : Fin 5) (crd T t)) (hinb0 T.1 T.2 (1 : Fin 5) (crd T t')) (m ((c : Thread nD τ).loc main_arg3))
    (congrArg (fun w : BitVec 32 => ![(0#32).toNat, w.toNat, (0#32).toNat, (0#32).toNat]) h)
theorem b3_congr (c : Dev nD) (t t' : Fin (cfgA T).N) (h : wordE (tE T) (crd T t) = wordE (tE T) (crd T t')) : b3 T m ρ c t = b3 T m ρ c t' :=
  block_congr (s := S4x64x1024x256) S1x1x1024x256.size (cc0_transform_2 k0_off1_inb numel1_S1 T.1 (crd T t)) (cc0_transform_2 k0_off1_inb numel1_S1 T.1 (crd T t')) (hinb0 T.1 T.2 (2 : Fin 5) (crd T t)) (hinb0 T.1 T.2 (2 : Fin 5) (crd T t')) (m ((c : Thread nD τ).loc main_arg4))
    (congrArg (fun w : BitVec 32 => ![(0#32).toNat, w.toNat, (0#32).toNat, (0#32).toNat]) h)
theorem b2_congr (c : Dev nD) (t t' : Fin (cfgA T).N) (h : wordE (tE T) (crd T t) = wordE (tE T) (crd T t')) : b2 T m ρ c t = b2 T m ρ c t' :=
  block_congr (s := S4x64x256x1024) S1x1x256x1024.size (cc0_transform_3 k0_off1_inb numel1_S1 T.1 (crd T t)) (cc0_transform_3 k0_off1_inb numel1_S1 T.1 (crd T t')) (hinb0 T.1 T.2 (3 : Fin 5) (crd T t)) (hinb0 T.1 T.2 (3 : Fin 5) (crd T t')) (m ((c : Thread nD τ).loc main_arg5))
    (congrArg (fun w : BitVec 32 => ![(0#32).toNat, w.toNat, (0#32).toNat, (0#32).toNat]) h)

/-- Where a point takes no weights, the blocks of the point before are its own. -/
theorem kept (c : Dev nD) (t : Fin (cfgA T).N) (h : ¬ Fetches (tE T) (crd T t)) :
    ∃ h0 : t.val ≠ 0, b1 T m ρ c t = b1 T m ρ c ⟨t.val - 1, by omega⟩ ∧ b3 T m ρ c t = b3 T m ρ c ⟨t.val - 1, by omega⟩ ∧ b2 T m ρ c t = b2 T m ρ c ⟨t.val - 1, by omega⟩ := by
  obtain ⟨h0, e⟩ := keeps _ _ h
  rw [crd_val] at h0
  have e' : wordE (tE T) (crd T t) = wordE (tE T) (crd T ⟨t.val - 1, by omega⟩) := e.trans (wordP_eq _ _ _ (by rw [crd_val, crd_val]))
  exact ⟨h0, b1_congr T m ρ c _ _ e', b3_congr T m ρ c _ _ e', b2_congr T m ρ c _ _ e'⟩

/-! ## The pipeline's data -/

/-- Before a point: the kept copies are the weights of the point before (anything before the first), and the tables. -/
def Phi (m : (ℓ : Loc nD τ sig) → Buf (Elt Bits) ℓ) (ρ : Dev nD → PrngReg) (c : Dev nD) (t : Fin ((cfgA T).N + 1)) : sProp 𝕄 :=
  iprop((∃ a, ⌜∀ h : t.val ≠ 0, a = k0_pay1 (F := Bits) (b1 T m ρ c ⟨t.val - 1, by omega⟩)⌝ ∗ (sc1.view.loc (c : Thread nD τ) ↦{fullShare} a))
    ∗ (∃ a, ⌜∀ h : t.val ≠ 0, a = k0_pay2 (F := Bits) (b3 T m ρ c ⟨t.val - 1, by omega⟩)⌝ ∗ (sc3.view.loc (c : Thread nD τ) ↦{fullShare} a))
    ∗ (∃ a, ⌜∀ h : t.val ≠ 0, a = k0_pay3 (F := Bits) (b2 T m ρ c ⟨t.val - 1, by omega⟩)⌝ ∗ (sc2.view.loc (c : Thread nD τ) ↦{fullShare} a))
    ∗ (tbE.view.loc (c : Thread nD τ) ↦{fullShare.right} tE T) ∗ (tbV.view.loc (c : Thread nD τ) ↦{fullShare.right} tV T))

/-- The proof data of the one pipeline on a core. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => after T m ρ c t
  Φ t := Phi T m ρ c t
  q _ := fullShare
  owed _ := 0

theorem after_0 (c : Dev nD) (t : Fin (cfgA T).N) : (dats T m ρ 0 c).after (0 : Fin 5) t = iblk T m ρ c (0 : Fin 5) t := rfl
theorem after_1 (c : Dev nD) (t : Fin (cfgA T).N) : (dats T m ρ 0 c).after (1 : Fin 5) t = iblk T m ρ c (1 : Fin 5) t := rfl
theorem after_2 (c : Dev nD) (t : Fin (cfgA T).N) : (dats T m ρ 0 c).after (2 : Fin 5) t = iblk T m ρ c (2 : Fin 5) t := rfl
theorem after_3 (c : Dev nD) (t : Fin (cfgA T).N) : (dats T m ρ 0 c).after (3 : Fin 5) t = iblk T m ρ c (3 : Fin 5) t := rfl
theorem after_4 (c : Dev nD) (t : Fin (cfgA T).N) : (dats T m ρ 0 c).after (4 : Fin 5) t = after T m ρ c t := rfl

/-- Each input's buffer holds its block when the body runs, fetched there or not. -/
theorem before_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

/-- No point leaves the result's block untouched. -/
theorem idle_4 (t : Fin (cfgA T).N) : (cfgA T).idle (4 : Fin 5) (crd T t) = false := by
  have key : ∀ v : BitVec 32, (!(k0_cond2 v == 1#1) && !(k0_cond3 v == 1#1)) = false := by
    intro v
    by_cases h : k0_cond2 v = 1#1
    · rw [h]; rfl
    · rw [(cond3_iff v).mpr h]; exact Bool.and_false _
  exact key _

/-- The body at a point on its buffers, as the pipeline calls it. -/
abbrev bodyAt (t : Fin (cfgA T).N) : Prog (TpuEff nD τ sig (Elt Bits) Λ₀ .tc) PUnit :=
  cc0_moe_experts (crd T t) (Memref.whole main_arg1) (Memref.isWhole_whole _) (Memref.whole main_arg2) (Memref.isWhole_whole _) (ms0 T t) (hs0 T t) (ms1 T t) (hs1 T t) (ms2 T t) (hs2 T t) (ms3 T t) (hs3 T t) (ms4 T t) (hs4 T t) (Memref.whole cc0_scratch0) (Memref.isWhole_whole _) (Memref.whole cc0_scratch1) (Memref.isWhole_whole _) (Memref.whole cc0_scratch2) (Memref.isWhole_whole _)

set_option maxHeartbeats 4000000 in
/-- The body at a point, by whether it takes the weights anew and whether its block has tokens. -/
theorem sound_body (c : Dev nD) (t : Fin (cfgA T).N) :
    iprop((dats T m ρ 0 c).Φ t.castSucc ∗ (dats T m ρ 0 c).owesAt () t.castSucc
        ∗ (∃ d, owns (c : Thread nD τ) (ms0 T t) fullShare ((dats T m ρ 0 c).before (0 : Fin 5) t d))
        ∗ (∃ d, owns (c : Thread nD τ) (ms1 T t) fullShare ((dats T m ρ 0 c).before (1 : Fin 5) t d))
        ∗ (∃ d, owns (c : Thread nD τ) (ms2 T t) fullShare ((dats T m ρ 0 c).before (2 : Fin 5) t d))
        ∗ (∃ d, owns (c : Thread nD τ) (ms3 T t) fullShare ((dats T m ρ 0 c).before (3 : Fin 5) t d))
        ∗ (∃ d, owns (c : Thread nD τ) (ms4 T t) fullShare ((dats T m ρ 0 c).before (4 : Fin 5) t d)))
      ⊢ wp frame (wpE (defs₀ (F := Bits)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i4 := idle_4 T t
  rewrite [i4]
  simp only [before_0, before_1, before_2, before_3, after_0, after_1, after_2, after_3, after_4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  by_cases hf : Fetches (tE T) (crd T t)
  · by_cases hv : k0_cond2 (wordV (tV T) (crd T t)) = 1#1
    · skip
      iapply (run_fetch_tokens c (crd T t) (ms0 T t) (hs0 T t) (ms1 T t) (hs1 T t) (ms2 T t) (hs2 T t) (ms3 T t) (hs3 T t) (ms4 T t) (hs4 T t) (tE T) (tV T) (bx T m ρ c t) (b1 T m ρ c t) (b3 T m ρ c t) (b2 T m ρ c t) hf hv (fun h => (cond3_iff _).mp h hv) a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4
    · skip
      iapply (run_fetch_none c (crd T t) (ms0 T t) (hs0 T t) (ms1 T t) (hs1 T t) (ms2 T t) (hs2 T t) (ms3 T t) (hs3 T t) (ms4 T t) (hs4 T t) (tE T) (tV T) (bx T m ρ c t) (b1 T m ρ c t) (b3 T m ρ c t) (b2 T m ρ c t) hf hv ((cond3_iff _).mpr hv) a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4
  · by_cases hv : k0_cond2 (wordV (tV T) (crd T t)) = 1#1
    · skip
      obtain ⟨h0, k1, k3, k2⟩ := kept T m ρ c t hf
      have ha0' : a0 = k0_pay1 (F := Bits) (b1 T m ρ c t) := (ha0 h0).trans (congrArg (k0_pay1 (F := Bits)) k1.symm)
      have ha1' : a1 = k0_pay2 (F := Bits) (b3 T m ρ c t) := (ha1 h0).trans (congrArg (k0_pay2 (F := Bits)) k3.symm)
      have ha2' : a2 = k0_pay3 (F := Bits) (b2 T m ρ c t) := (ha2 h0).trans (congrArg (k0_pay3 (F := Bits)) k2.symm)
      subst ha0' ha1' ha2'
      iapply (run_keep_tokens c (crd T t) (ms0 T t) (hs0 T t) (ms1 T t) (hs1 T t) (ms2 T t) (hs2 T t) (ms3 T t) (hs3 T t) (ms4 T t) (hs4 T t) (tE T) (tV T) (bx T m ρ c t) (b1 T m ρ c t) (b3 T m ρ c t) (b2 T m ρ c t) hf hv (fun h => (cond3_iff _).mp h hv) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4
    · skip
      obtain ⟨h0, k1, k3, k2⟩ := kept T m ρ c t hf
      have ha0' : a0 = k0_pay1 (F := Bits) (b1 T m ρ c t) := (ha0 h0).trans (congrArg (k0_pay1 (F := Bits)) k1.symm)
      have ha1' : a1 = k0_pay2 (F := Bits) (b3 T m ρ c t) := (ha1 h0).trans (congrArg (k0_pay2 (F := Bits)) k3.symm)
      have ha2' : a2 = k0_pay3 (F := Bits) (b2 T m ρ c t) := (ha2 h0).trans (congrArg (k0_pay3 (F := Bits)) k2.symm)
      subst ha0' ha1' ha2'
      iapply (run_keep_none c (crd T t) (ms0 T t) (hs0 T t) (ms1 T t) (hs1 T t) (ms2 T t) (hs2 T t) (ms3 T t) (hs3 T t) (ms4 T t) (hs4 T t) (tE T) (tV T) (bx T m ρ c t) (b1 T m ρ c t) (b3 T m ρ c t) (b2 T m ρ c t) hf hv ((cond3_iff _).mpr hv) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4

/-- The library's body obligation, at every point. -/
theorem body_obligation (c : Dev nD) : BodyObligation (dats T m ρ 0 c) (defs₀ (F := Bits)) Variants.none () Set.univ := fun t => by
  rw [bigSep_W0]
  exact sound_body T m ρ c t

/-! ## The launch -/

/-- The launch's resources. -/
def u₀ : UR sig nD τ :=
  initOf (Pipeline.cells (pcs T) ((launch0 (F := Bits)).cellOf_inj fun _ => T))
    (Pipeline.launchToks (pcs T) ((launch0 (F := Bits)).cellOf_inj fun _ => T))

theorem share_eq (c : Dev nD) (w : Fin (cfgA T).W) : (dats T m ρ 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- What holds before the first point. -/
theorem phi_intro (c : Dev nD) :
    iprop(BI.emp ∗ Pipeline.prefHeld pre0 c (fun _ => fullShare.right) T.1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  iexact HT1

/-- After the last point the kept copies are given back. -/
theorem phi_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What the final memory holds: every array what the pipeline computes, every table what it was. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = T.1 j

theorem V_pre (hp : Holds T m) (c : Dev nD) (j : Fin 2) : m ((c : Thread nD τ).loc (pre0.ref j)) = T.1 j := by
  fin_cases j
  · exact hp.1 c
  · exact hp.2 c

set_option backward.isDefEq.respectTransparency.types false in
set_option maxHeartbeats 4000000 in
/-- From any memory that holds the tables, every weakly fair execution ends, with these contents and every counter at zero. -/
theorem run_quiet (hp : Holds T m) : θ_run (defs (F := Bits)) (onTc (τ := τ) (main (F := Bits))) (s₀ m ρ) (fun r => QC T m ρ r ∧ r.2.sem = fun _ => 0) :=
  Pipeline.θ_run_region_noSem_pf_quiescent pcfgs (fun _ => T) (dats T m ρ) () ((launch0 (F := Bits)).cellOf_inj fun _ => T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi_intro T m ρ)
    (hout := phi_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they began; the result's array holds what the pipeline computes; the counters are at zero. -/
theorem run_full (hp : Holds T m) :
    θ_run (defs (F := Bits)) (onTc (τ := τ) (main (F := Bits))) ⟨m, fun _ => 0, ρ⟩ (fun r => (∀ c : Dev nD,
      r.2.mem ((c.tc : Thread nD τ).loc main_v0) = (dats T m ρ 0 c).arrAt (4 : Fin 5) (cfgA T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).1 (0 : Fin 5)).trans ((dats T m ρ 0 c).arrAt_in (0 : Fin 5) rfl _), ((h.1 c).2 0).trans (hp.1 c).symm, ((h.1 c).2 1).trans (hp.2 c).symm,
    ((h.1 c).1 (1 : Fin 5)).trans ((dats T m ρ 0 c).arrAt_in (1 : Fin 5) rfl _), ((h.1 c).1 (2 : Fin 5)).trans ((dats T m ρ 0 c).arrAt_in (2 : Fin 5) rfl _), ((h.1 c).1 (3 : Fin 5)).trans ((dats T m ρ 0 c).arrAt_in (3 : Fin 5) rfl _)⟩, h.2⟩)
    (run_quiet T m ρ hp)

/-! ## The tables of a memory whose experts are among the sixty-four -/

/-- Every word of the experts' table names one of the sixty-four. -/
def InRange (E : S309.Idx → Elt Bits .i32) : Prop := ∀ x, (E x : BitVec 32).toNat < 64

/-- The tables as the launch memory holds them. -/
def pfOf (m : (ℓ : Loc nD τ sig) → Buf (Elt Bits) ℓ) : pre0.Contents (Elt Bits) := fun
  | ⟨0, _⟩ => m (((0 : Dev nD) : Thread nD τ).loc main_arg1)
  | ⟨1, _⟩ => m (((0 : Dev nD) : Thread nD τ).loc main_arg2)
  | ⟨_ + 2, h⟩ => absurd h (by simp)

theorem ok_of_range (h : InRange (m (((0 : Dev nD) : Thread nD τ).loc main_arg1))) : ok0 (F := Bits) (pfOf m) := by
  have k1 : ∀ w : BitVec 32, w.toNat < 64 → ∀ a : Fin 4, ((![(0#32).toNat, w.toNat, (0#32).toNat, (0#32).toNat] : Fin 4 → ℕ) a + 1) * S1x1x1024x256.size a ≤ S4x64x1024x256.size a := by
    intro w hw a
    fin_cases a
    · show (0 + 1) * 1 ≤ 4; omega
    · show (w.toNat + 1) * 1 ≤ 64; omega
    · show (0 + 1) * 1024 ≤ 1024; omega
    · show (0 + 1) * 256 ≤ 256; omega
  have k2 : ∀ w : BitVec 32, w.toNat < 64 → ∀ a : Fin 4, ((![(0#32).toNat, w.toNat, (0#32).toNat, (0#32).toNat] : Fin 4 → ℕ) a + 1) * S1x1x256x1024.size a ≤ S4x64x256x1024.size a := by
    intro w hw a
    fin_cases a
    · show (0 + 1) * 1 ≤ 4; omega
    · show (w.toNat + 1) * 1 ≤ 64; omega
    · show (0 + 1) * 256 ≤ 256; omega
    · show (0 + 1) * 1024 ≤ 1024; omega
  exact ⟨fun i => ⟨k1 _ (h _), .inl rfl⟩, fun i => ⟨k1 _ (h _), .inl rfl⟩, fun i => ⟨k2 _ (h _), .inl rfl⟩⟩

/-- The tables of the launch memory, admissible. -/
def tabs (h : InRange (m (((0 : Dev nD) : Thread nD τ).loc main_arg1))) : Tabs := ⟨pfOf m, ok_of_range m h⟩

theorem holds (h : InRange (m (((0 : Dev nD) : Thread nD τ).loc main_arg1))) : Holds (tabs m h) m :=
  ⟨fun c => by rw [Subsingleton.elim c 0]; rfl, fun c => by rw [Subsingleton.elim c 0]; rfl⟩

end Cert.Proof.ExpertsBits

end
-- ==== Proof.ExpertsRange.lean ====
module

public import proofs.«01_k».proof.Defs
public import proofs.«01_k».proof.Proof.Gen.Pre_in_range

@[expose] public section

noncomputable section

open Idealize.ShloMosaic

namespace Cert.Proof.ExpertsRange

/-- The precondition says that each block's expert is one of the sixty-four. -/
theorem range_of_pre {F : FTy → Type} [FloatOps F] [Cert.Pre_in_range.Facts] (x0 : IVec Cert.Pre_in_range.S158208x512 32) (be bv : IVec Cert.Pre_in_range.S309 32)
    (x3 x4 : FVec F Cert.Pre_in_range.S4x64x1024x256 .f32) (x5 : FVec F Cert.Pre_in_range.S4x64x256x1024 .f32)
    (h : Cert.Pre_in_range.fn (F := F) x0 be bv x3 x4 x5 = fun _ => 1#1) (x : Cert.Pre_in_range.S309.Idx) : (be x).toNat < 64 := by
  have and_one (a b : BitVec 1) : IntOp.andi a b = 1#1 ↔ a = 1#1 ∧ b = 1#1 := by revert a b; decide
  have of_bool (p : Bool) : (BitVec.ofBool p = 1#1) ↔ p = true := by cases p <;> decide
  have pre : IntOp.andi (IntOp.cmpi .sge (be x) 0#32) (IntOp.cmpi .slt (be x) 64#32) = 1#1 := congrFun h x
  generalize be x = v at pre
  rw [and_one] at pre
  obtain ⟨p, q⟩ := pre
  have p' : BitVec.sle 0#32 v = true := (of_bool _).mp p
  have q' : BitVec.slt v 64#32 = true := (of_bool _).mp q
  have p'' : (0#32).toInt ≤ v.toInt := of_decide_eq_true p'
  have q'' : v.toInt < (64#32).toInt := of_decide_eq_true q'
  have h0 : (0#32).toInt = 0 := by decide
  have h64 : (64#32).toInt = 64 := by decide
  have e := BitVec.toInt_eq_toNat_cond v
  have hv := v.isLt
  split at e <;> omega

end Cert.Proof.ExpertsRange

end
-- ==== Proof.ExpertsBody.lean ====
module

public import proofs.«01_k».proof.Proof.Gen.ExpertsIdeal.Skeleton
public import proofs.«01_k».proof.Proof.Gen.ExpertsIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two tables and the three kept copies of the weights, whole. -/
abbrev tbE : Memref sig .tc .smem S309 .i32 := Memref.whole main_arg1
abbrev tbV : Memref sig .tc .smem S309 .i32 := Memref.whole main_arg2
abbrev sc1 : Memref sig .tc .vmem S1024x256 .bf16 := Memref.whole cc0_scratch0
abbrev sc3 : Memref sig .tc .vmem S1024x256 .bf16 := Memref.whole cc0_scratch1
abbrev sc2 : Memref sig .tc .vmem S256x1024 .bf16 := Memref.whole cc0_scratch2

/-- The word of the experts' table that the point reads, the one it compares it with, and the word of the counts' table. -/
abbrev wordE (T : S309.Idx → Elt Ideal .i32) (i : grid0.Coords) : BitVec 32 :=
  View.readAt (Elt Ideal) tbE.view (Rect.unit (s := S309) (k0_off1 i) S1.size (k0_off1_inb i)).toLoadRect T (Shape.Idx.first (numel1_S1.symm ▸ Nat.one_pos))
abbrev wordP (T : S309.Idx → Elt Ideal .i32) (i : grid0.Coords) : BitVec 32 :=
  View.readAt (Elt Ideal) tbE.view (Rect.unit (s := S309) (k0_off2 i) S1.size (k0_off2_inb i)).toLoadRect T (Shape.Idx.first (numel1_S1.symm ▸ Nat.one_pos))
abbrev wordV (T : S309.Idx → Elt Ideal .i32) (i : grid0.Coords) : BitVec 32 :=
  View.readAt (Elt Ideal) tbV.view (Rect.unit (s := S309) (k0_off1 i) S1.size (k0_off1_inb i)).toLoadRect T (Shape.Idx.first (numel1_S1.symm ▸ Nat.one_pos))

/-- The point takes the weights anew: it is the first, or its expert is another than the one before. -/
abbrev Fetches (T : S309.Idx → Elt Ideal .i32) (i : grid0.Coords) : Prop :=
  Scalar.cmpi .ne (Scalar.extui (Scalar.ori (Scalar.cmpi .eq (BitVec.ofNat 32 (i 0).val) 0#32) (Scalar.cmpi .ne (wordE T i) (wordP T i)))) 0#32 = 1#1

/-- What the point leaves in its block: the expert's value of its rows where the block has tokens, zero elsewhere. -/
def outv (TV : S309.Idx → Elt Ideal .i32) (i : grid0.Coords) (x0 : IVec S512x512 32) (x1 x2 : FVec Ideal S1x1x1024x256 .f32)
    (x3 : FVec Ideal S1x1x256x1024 .f32) : FVec Ideal S512x1024 .bf16 :=
  if k0_cond2 (wordV TV i) = 1#1 then k0_pay4 (F := Ideal) x0 (k0_pay1 (F := Ideal) x1) (k0_pay2 (F := Ideal) x2) (k0_pay3 (F := Ideal) x3) else k0_pay5

/-- The two guards of the store are each other's negation. -/
theorem cond3_iff (v : BitVec 32) : k0_cond3 v = 1#1 ↔ ¬ k0_cond2 v = 1#1 := by
  unfold k0_cond3 k0_cond2
  simp only [Scalar.cmpi, IntOp.cmpi, Scalar.extui]
  by_cases h : (0#32).slt v = true
  · have h' : v.sle 0#32 = false := by
      simp only [BitVec.slt, BitVec.sle, decide_eq_true_eq, decide_eq_false_iff_not] at h ⊢; omega
    rw [h, h']; decide
  · have h' : v.sle 0#32 = true := by
      simp only [BitVec.slt, BitVec.sle, decide_eq_true_eq] at h ⊢; omega
    rw [Bool.not_eq_true] at h
    rw [h, h']; decide

/-- A load of all of a view reads its contents. -/
theorem readAt_full {sp : Space} {sh : Shape} {e : EltTy} (v : View sig .tc sp sh e) {off : Fin sh.rank → ℕ} (inb : ∀ a, off a + sh.size a ≤ sh.size a) (f : v.ty.Contents (Elt Ideal)) :
    v.readAt (Elt Ideal) (Rect.unit off sh.size inb).toLoadRect f = v.read (Elt Ideal) f := by
  funext y
  exact congrArg (v.read (Elt Ideal) f) (funext fun a => Fin.ext (by
    show off a + 1 * (y a).val = (y a).val
    have := inb a; omega))

/-- What a store of all of a kept copy leaves there: its payload. -/
theorem write1 (w : S1024x256.Idx → Elt Ideal .bf16) : sc1.view.writes (Elt Ideal) sc1.view.junk [⟨Rect.unit ![0, 0] S1024x256.size inb_S1024x256_S1024x256_0_0, w⟩] = w :=
  (View.read_whole _ _).symm.trans (View.read_writes_full sc1.view _ _ w [])
theorem write3 (w : S1024x256.Idx → Elt Ideal .bf16) : sc3.view.writes (Elt Ideal) sc3.view.junk [⟨Rect.unit ![0, 0] S1024x256.size inb_S1024x256_S1024x256_0_0, w⟩] = w :=
  (View.read_whole _ _).symm.trans (View.read_writes_full sc3.view _ _ w [])
theorem write2 (w : S256x1024.Idx → Elt Ideal .bf16) : sc2.view.writes (Elt Ideal) sc2.view.junk [⟨Rect.unit ![0, 0] S256x1024.size inb_S256x1024_S256x1024_0_0, w⟩] = w :=
  (View.read_whole _ _).symm.trans (View.read_writes_full sc2.view _ _ w [])

/-- And a load of all of it reads what it holds. -/
theorem read1 (w : S1024x256.Idx → Elt Ideal .bf16) : sc1.view.readAt (Elt Ideal) (Rect.unit ![0, 0] S1024x256.size inb_S1024x256_S1024x256_0_0).toLoadRect w = w :=
  (readAt_full sc1.view _ _).trans (View.read_whole _ _)
theorem read3 (w : S1024x256.Idx → Elt Ideal .bf16) : sc3.view.readAt (Elt Ideal) (Rect.unit ![0, 0] S1024x256.size inb_S1024x256_S1024x256_0_0).toLoadRect w = w :=
  (readAt_full sc3.view _ _).trans (View.read_whole _ _)
theorem read2 (w : S256x1024.Idx → Elt Ideal .bf16) : sc2.view.readAt (Elt Ideal) (Rect.unit ![0, 0] S256x1024.size inb_S256x1024_S256x1024_0_0).toLoadRect w = w :=
  (readAt_full sc2.view _ _).trans (View.read_whole _ _)

set_option maxHeartbeats 8000000 in
/-- A point that takes the weights anew, in a block with tokens. -/
theorem run_fetch_tokens (c : Dev nD) (i : grid0.Coords) (arg3 : Memref sig .tc .vmem S512x512 .i32) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole)
    (T0 T1 : S309.Idx → Elt Ideal .i32) (x0 : S512x512.Idx → Elt Ideal .i32) (x1 x2 : S1x1x1024x256.Idx → Elt Ideal .f32) (x3 : S1x1x256x1024.Idx → Elt Ideal .f32)
    (hc0 : Fetches T0 i) (k0_h2 : k0_cond2 (wordV T1 i) = 1#1) (k0_h3 : ¬ k0_cond3 (wordV T1 i) = 1#1)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tbE.view.loc (c : Thread nD τ) ↦{fullShare.right} T0)
        ∗ (tbV.view.loc (c : Thread nD τ) ↦{fullShare.right} T1)
        ∗ (∃ d, owns (c : Thread nD τ) arg7 fullShare d)
        ∗ (sc1.view.loc (c : Thread nD τ) ↦{fullShare} xa0)
        ∗ (sc3.view.loc (c : Thread nD τ) ↦{fullShare} xa1)
        ∗ (sc2.view.loc (c : Thread nD τ) ↦{fullShare} xa2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tbE.view.loc (c : Thread nD τ) ↦{fullShare.right} T0)
            ∗ (tbV.view.loc (c : Thread nD τ) ↦{fullShare.right} T1)
            ∗ owns (c : Thread nD τ) arg7 fullShare (outv T1 i x0 x1 x2 x3)
            ∗ (sc1.view.loc (c : Thread nD τ) ↦{fullShare} (k0_pay1 (F := Ideal) x1))
            ∗ (sc3.view.loc (c : Thread nD τ) ↦{fullShare} (k0_pay2 (F := Ideal) x2))
            ∗ (sc2.view.loc (c : Thread nD τ) ↦{fullShare} (k0_pay3 (F := Ideal) x3))) -∗ K ⟨⟩))
      ⊢ wp frame (wpE (defs₀ (F := Ideal)) Variants.none c none) Set.univ (cc0_moe_experts i tbE (Memref.isWhole_whole _) tbV (Memref.isWhole_whole _) arg3 harg3 arg4 harg4 arg5 harg5 arg6 harg6 arg7 harg7 sc1 (Memref.isWhole_whole _) sc3 (Memref.isWhole_whole _) sc2 (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbV.IsWhole := Memref.isWhole_whole _
  sl_exec! (disch := first | (guard_target = Scalar.cmpi .ne _ _ = _; exact hc0) | (guard_target = (k0_cond2 _ = _); exact k0_h2) | (guard_target = ¬ (k0_cond3 _ = _); exact k0_h3))
  sl_step
  have e0 : sc1.view.writes (Elt Ideal) sc1.view.junk (run_fetch_tokens.sl.HS0_1 arg4 x1) = k0_pay1 (F := Ideal) x1 := by
    unfold run_fetch_tokens.sl.HS0_1
    rw [View.readAt_rep_full]; exact write1 _
  have e1 : sc3.view.writes (Elt Ideal) sc3.view.junk (run_fetch_tokens.sl.HS1_1 arg5 x2) = k0_pay2 (F := Ideal) x2 := by
    unfold run_fetch_tokens.sl.HS1_1
    rw [View.readAt_rep_full]; exact write3 _
  have e2 : sc2.view.writes (Elt Ideal) sc2.view.junk (run_fetch_tokens.sl.HS2_1 arg6 x3) = k0_pay3 (F := Ideal) x3 := by
    unfold run_fetch_tokens.sl.HS2_1
    rw [View.readAt_rep_full]; exact write2 _
  have e4 : View.read (Elt Ideal) arg7.view (arg7.view.writes (Elt Ideal) arg7.view.junk (run_fetch_tokens.sl.HO4_1 arg3 arg4 arg5 arg6 x0 x1 x2 x3)) = outv T1 i x0 x1 x2 x3 := by
    unfold run_fetch_tokens.sl.HO4_1 outv
    rw [if_pos k0_h2]
    have h1 : run_fetch_tokens.sl.v29 arg4 x1 = k0_pay1 (F := Ideal) x1 :=
      by
      unfold run_fetch_tokens.sl.v29
      rw [View.readCov, e0]; exact read1 _
    have h2 : run_fetch_tokens.sl.v31 arg5 x2 = k0_pay2 (F := Ideal) x2 :=
      by
      unfold run_fetch_tokens.sl.v31
      rw [View.readCov, e1]; exact read3 _
    have h3 : run_fetch_tokens.sl.v37 arg6 x3 = k0_pay3 (F := Ideal) x3 :=
      by
      unfold run_fetch_tokens.sl.v37
      rw [View.readCov, e2]; exact read2 _
    refine (View.read_writes_full arg7.view _ _ _ _).trans ?_
    rw [h1, h2, h3]
    exact congrArg (fun z => k0_pay4 (F := Ideal) z _ _ _) (View.readAt_rep_full arg3.view x0 _)
  rw [e0, e1, e2]
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      exact e4
  isplitl [HS0]; · iexact HS0
  isplitl [HS1]; · iexact HS1
  iexact HS2

set_option maxHeartbeats 8000000 in
/-- A point that takes the weights anew, in a block without tokens. -/
theorem run_fetch_none (c : Dev nD) (i : grid0.Coords) (arg3 : Memref sig .tc .vmem S512x512 .i32) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole)
    (T0 T1 : S309.Idx → Elt Ideal .i32) (x0 : S512x512.Idx → Elt Ideal .i32) (x1 x2 : S1x1x1024x256.Idx → Elt Ideal .f32) (x3 : S1x1x256x1024.Idx → Elt Ideal .f32)
    (hc0 : Fetches T0 i) (k0_h2 : ¬ k0_cond2 (wordV T1 i) = 1#1) (k0_h3 : k0_cond3 (wordV T1 i) = 1#1)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tbE.view.loc (c : Thread nD τ) ↦{fullShare.right} T0)
        ∗ (tbV.view.loc (c : Thread nD τ) ↦{fullShare.right} T1)
        ∗ (∃ d, owns (c : Thread nD τ) arg7 fullShare d)
        ∗ (sc1.view.loc (c : Thread nD τ) ↦{fullShare} xa0)
        ∗ (sc3.view.loc (c : Thread nD τ) ↦{fullShare} xa1)
        ∗ (sc2.view.loc (c : Thread nD τ) ↦{fullShare} xa2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tbE.view.loc (c : Thread nD τ) ↦{fullShare.right} T0)
            ∗ (tbV.view.loc (c : Thread nD τ) ↦{fullShare.right} T1)
            ∗ owns (c : Thread nD τ) arg7 fullShare (outv T1 i x0 x1 x2 x3)
            ∗ (sc1.view.loc (c : Thread nD τ) ↦{fullShare} (k0_pay1 (F := Ideal) x1))
            ∗ (sc3.view.loc (c : Thread nD τ) ↦{fullShare} (k0_pay2 (F := Ideal) x2))
            ∗ (sc2.view.loc (c : Thread nD τ) ↦{fullShare} (k0_pay3 (F := Ideal) x3))) -∗ K ⟨⟩))
      ⊢ wp frame (wpE (defs₀ (F := Ideal)) Variants.none c none) Set.univ (cc0_moe_experts i tbE (Memref.isWhole_whole _) tbV (Memref.isWhole_whole _) arg3 harg3 arg4 harg4 arg5 harg5 arg6 harg6 arg7 harg7 sc1 (Memref.isWhole_whole _) sc3 (Memref.isWhole_whole _) sc2 (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbV.IsWhole := Memref.isWhole_whole _
  sl_exec! (disch := first | (guard_target = Scalar.cmpi .ne _ _ = _; exact hc0) | (guard_target = ¬ (k0_cond2 _ = _); exact k0_h2) | (guard_target = (k0_cond3 _ = _); exact k0_h3))
  sl_step
  have e0 : sc1.view.writes (Elt Ideal) sc1.view.junk (run_fetch_none.sl.HS0_1 arg4 x1) = k0_pay1 (F := Ideal) x1 := by
    unfold run_fetch_none.sl.HS0_1
    rw [View.readAt_rep_full]; exact write1 _
  have e1 : sc3.view.writes (Elt Ideal) sc3.view.junk (run_fetch_none.sl.HS1_1 arg5 x2) = k0_pay2 (F := Ideal) x2 := by
    unfold run_fetch_none.sl.HS1_1
    rw [View.readAt_rep_full]; exact write3 _
  have e2 : sc2.view.writes (Elt Ideal) sc2.view.junk (run_fetch_none.sl.HS2_1 arg6 x3) = k0_pay3 (F := Ideal) x3 := by
    unfold run_fetch_none.sl.HS2_1
    rw [View.readAt_rep_full]; exact write2 _
  rw [e0, e1, e2]
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      unfold outv
      rw [if_neg k0_h2]
      exact View.read_writes_full arg7.view _ _ _ _
  isplitl [HS0]; · iexact HS0
  isplitl [HS1]; · iexact HS1
  iexact HS2

set_option maxHeartbeats 8000000 in
/-- A point that goes on with the weights kept, in a block with tokens. -/
theorem run_keep_tokens (c : Dev nD) (i : grid0.Coords) (arg3 : Memref sig .tc .vmem S512x512 .i32) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole)
    (T0 T1 : S309.Idx → Elt Ideal .i32) (x0 : S512x512.Idx → Elt Ideal .i32) (x1 x2 : S1x1x1024x256.Idx → Elt Ideal .f32) (x3 : S1x1x256x1024.Idx → Elt Ideal .f32)
    (hc0 : ¬ Fetches T0 i) (k0_h2 : k0_cond2 (wordV T1 i) = 1#1) (k0_h3 : ¬ k0_cond3 (wordV T1 i) = 1#1) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tbE.view.loc (c : Thread nD τ) ↦{fullShare.right} T0)
        ∗ (tbV.view.loc (c : Thread nD τ) ↦{fullShare.right} T1)
        ∗ (∃ d, owns (c : Thread nD τ) arg7 fullShare d)
        ∗ (sc1.view.loc (c : Thread nD τ) ↦{fullShare} (k0_pay1 (F := Ideal) x1))
        ∗ (sc3.view.loc (c : Thread nD τ) ↦{fullShare} (k0_pay2 (F := Ideal) x2))
        ∗ (sc2.view.loc (c : Thread nD τ) ↦{fullShare} (k0_pay3 (F := Ideal) x3))
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tbE.view.loc (c : Thread nD τ) ↦{fullShare.right} T0)
            ∗ (tbV.view.loc (c : Thread nD τ) ↦{fullShare.right} T1)
            ∗ owns (c : Thread nD τ) arg7 fullShare (outv T1 i x0 x1 x2 x3)
            ∗ (sc1.view.loc (c : Thread nD τ) ↦{fullShare} (k0_pay1 (F := Ideal) x1))
            ∗ (sc3.view.loc (c : Thread nD τ) ↦{fullShare} (k0_pay2 (F := Ideal) x2))
            ∗ (sc2.view.loc (c : Thread nD τ) ↦{fullShare} (k0_pay3 (F := Ideal) x3))) -∗ K ⟨⟩))
      ⊢ wp frame (wpE (defs₀ (F := Ideal)) Variants.none c none) Set.univ (cc0_moe_experts i tbE (Memref.isWhole_whole _) tbV (Memref.isWhole_whole _) arg3 harg3 arg4 harg4 arg5 harg5 arg6 harg6 arg7 harg7 sc1 (Memref.isWhole_whole _) sc3 (Memref.isWhole_whole _) sc2 (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbV.IsWhole := Memref.isWhole_whole _
  sl_exec! (disch := first | (guard_target = ¬ (Scalar.cmpi .ne _ _ = _); exact hc0) | (guard_target = (k0_cond2 _ = _); exact k0_h2) | (guard_target = ¬ (k0_cond3 _ = _); exact k0_h3))
  sl_step
  have h0 := View.readAt_rep_full (Val := Elt Ideal) arg3.view x0 inb_S512x512_S512x512_0_0
  have h1 : sc1.view.readAt (Elt Ideal) (Rect.unit ![0, 0] S1024x256.size inb_S1024x256_S1024x256_0_0).toLoadRect (k0_pay1 (F := Ideal) x1) = k0_pay1 (F := Ideal) x1 := read1 _
  have h2 : sc3.view.readAt (Elt Ideal) (Rect.unit ![0, 0] S1024x256.size inb_S1024x256_S1024x256_0_0).toLoadRect (k0_pay2 (F := Ideal) x2) = k0_pay2 (F := Ideal) x2 := read3 _
  have h3 : sc2.view.readAt (Elt Ideal) (Rect.unit ![0, 0] S256x1024.size inb_S256x1024_S256x1024_0_0).toLoadRect (k0_pay3 (F := Ideal) x3) = k0_pay3 (F := Ideal) x3 := read2 _
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      unfold outv
      rw [if_pos k0_h2]
      refine (View.read_writes_full arg7.view _ _ _ _).trans ?_
      rw [h0, h1, h2, h3]
  isplitl [HS0]; · iexact HS0
  isplitl [HS1]; · iexact HS1
  iexact HS2

set_option maxHeartbeats 8000000 in
/-- A point that goes on with the weights kept, in a block without tokens. -/
theorem run_keep_none (c : Dev nD) (i : grid0.Coords) (arg3 : Memref sig .tc .vmem S512x512 .i32) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole)
    (T0 T1 : S309.Idx → Elt Ideal .i32) (x0 : S512x512.Idx → Elt Ideal .i32) (x1 x2 : S1x1x1024x256.Idx → Elt Ideal .f32) (x3 : S1x1x256x1024.Idx → Elt Ideal .f32)
    (hc0 : ¬ Fetches T0 i) (k0_h2 : ¬ k0_cond2 (wordV T1 i) = 1#1) (k0_h3 : k0_cond3 (wordV T1 i) = 1#1) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tbE.view.loc (c : Thread nD τ) ↦{fullShare.right} T0)
        ∗ (tbV.view.loc (c : Thread nD τ) ↦{fullShare.right} T1)
        ∗ (∃ d, owns (c : Thread nD τ) arg7 fullShare d)
        ∗ (sc1.view.loc (c : Thread nD τ) ↦{fullShare} (k0_pay1 (F := Ideal) x1))
        ∗ (sc3.view.loc (c : Thread nD τ) ↦{fullShare} (k0_pay2 (F := Ideal) x2))
        ∗ (sc2.view.loc (c : Thread nD τ) ↦{fullShare} (k0_pay3 (F := Ideal) x3))
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tbE.view.loc (c : Thread nD τ) ↦{fullShare.right} T0)
            ∗ (tbV.view.loc (c : Thread nD τ) ↦{fullShare.right} T1)
            ∗ owns (c : Thread nD τ) arg7 fullShare (outv T1 i x0 x1 x2 x3)
            ∗ (sc1.view.loc (c : Thread nD τ) ↦{fullShare} (k0_pay1 (F := Ideal) x1))
            ∗ (sc3.view.loc (c : Thread nD τ) ↦{fullShare} (k0_pay2 (F := Ideal) x2))
            ∗ (sc2.view.loc (c : Thread nD τ) ↦{fullShare} (k0_pay3 (F := Ideal) x3))) -∗ K ⟨⟩))
      ⊢ wp frame (wpE (defs₀ (F := Ideal)) Variants.none c none) Set.univ (cc0_moe_experts i tbE (Memref.isWhole_whole _) tbV (Memref.isWhole_whole _) arg3 harg3 arg4 harg4 arg5 harg5 arg6 harg6 arg7 harg7 sc1 (Memref.isWhole_whole _) sc3 (Memref.isWhole_whole _) sc2 (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : sc1.IsWhole := Memref.isWhole_whole _
  have hS1 : sc3.IsWhole := Memref.isWhole_whole _
  have hS2 : sc2.IsWhole := Memref.isWhole_whole _
  have hT0 : tbE.IsWhole := Memref.isWhole_whole _
  have hT1 : tbV.IsWhole := Memref.isWhole_whole _
  sl_exec! (disch := first | (guard_target = ¬ (Scalar.cmpi .ne _ _ = _); exact hc0) | (guard_target = ¬ (k0_cond2 _ = _); exact k0_h2) | (guard_target = (k0_cond3 _ = _); exact k0_h3))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      unfold outv
      rw [if_neg k0_h2]
      exact View.read_writes_full arg7.view _ _ _ _
  isplitl [HS0]; · iexact HS0
  isplitl [HS1]; · iexact HS1
  iexact HS2

end Cert.Proof.Experts

end
-- ==== Proof.ExpertsRun.lean ====
module

public import proofs.«01_k».proof.Proof.ExpertsBody

@[expose] public section

set_option maxRecDepth 16384

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resources of the launch: the rounds of the staging buffers. -/
abbrev EP : Emb (UR sig nD τ) 𝕄 := emb₁

/-- Tables whose experts' blocks lie inside the weights: what the launch takes. -/
abbrev Tabs := (pcfg0 (F := Ideal)).Adm

variable (T : Tabs) (m : (ℓ : Loc nD τ sig) → Buf (Elt Ideal) ℓ) (ρ : Dev nD → PrngReg)

/-- The two tables of words. -/
abbrev tE : S309.Idx → Elt Ideal .i32 := T.1 0
abbrev tV : S309.Idx → Elt Ideal .i32 := T.1 1

/-- The pipeline at the tables, and the launch's only one. -/
abbrev cfgA : Pipeline.Cfg sig Λ₀ := cfg0 (F := Ideal) T
abbrev pcs : Fin 1 → Pipeline.Cfg sig Λ₀ := Pipeline.pin (pcfgs (F := Ideal)) fun _ => T

/-- The launch memory holds these tables. -/
def Holds : Prop := (∀ c : Dev nD, m ((c : Thread nD τ).loc main_arg1) = tE T) ∧ (∀ c : Dev nD, m ((c : Thread nD τ).loc main_arg2) = tV T)

/-- A point's coordinates. -/
abbrev crd (t : Fin (cfgA T).N) : (cfgA T).grid.Coords := (cfgA T).grid.coords t

/-- Each window's staging buffer at a point, and that it is whole. -/
abbrev ms0 (t : Fin (cfgA T).N) : Memref sig .tc .vmem S512x512 .i32 := spec0_0.stage ((cfgA T).slots t (0 : Fin 5))
abbrev hs0 (t : Fin (cfgA T).N) : (ms0 T t).IsWhole := hstage0_0 (((cfgA T).slots t (0 : Fin 5)).cast nbuf0_0)
abbrev ms1 (t : Fin (cfgA T).N) : Memref sig .tc .vmem S1x1x1024x256 .f32 := spec0_1.stage ((cfgA T).slots t (1 : Fin 5))
abbrev hs1 (t : Fin (cfgA T).N) : (ms1 T t).IsWhole := hstage0_1 (((cfgA T).slots t (1 : Fin 5)).cast nbuf0_1)
abbrev ms2 (t : Fin (cfgA T).N) : Memref sig .tc .vmem S1x1x1024x256 .f32 := spec0_2.stage ((cfgA T).slots t (2 : Fin 5))
abbrev hs2 (t : Fin (cfgA T).N) : (ms2 T t).IsWhole := hstage0_2 (((cfgA T).slots t (2 : Fin 5)).cast nbuf0_2)
abbrev ms3 (t : Fin (cfgA T).N) : Memref sig .tc .vmem S1x1x256x1024 .f32 := spec0_3.stage ((cfgA T).slots t (3 : Fin 5))
abbrev hs3 (t : Fin (cfgA T).N) : (ms3 T t).IsWhole := hstage0_3 (((cfgA T).slots t (3 : Fin 5)).cast nbuf0_3)
abbrev ms4 (t : Fin (cfgA T).N) : Memref sig .tc .vmem S512x1024 .bf16 := spec0_4.stage ((cfgA T).slots t (4 : Fin 5))
abbrev hs4 (t : Fin (cfgA T).N) : (ms4 T t).IsWhole := hstage0_4 (((cfgA T).slots t (4 : Fin 5)).cast nbuf0_4)

/-- A window's block at a point, read off its array at the launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The blocks at their own shapes. -/
abbrev bx (c : Dev nD) (t : Fin (cfgA T).N) : S512x512.Idx → Elt Ideal .i32 := iblk T m ρ c (0 : Fin 5) t
abbrev b1 (c : Dev nD) (t : Fin (cfgA T).N) : S1x1x1024x256.Idx → Elt Ideal .f32 := iblk T m ρ c (1 : Fin 5) t
abbrev b3 (c : Dev nD) (t : Fin (cfgA T).N) : S1x1x1024x256.Idx → Elt Ideal .f32 := iblk T m ρ c (2 : Fin 5) t
abbrev b2 (c : Dev nD) (t : Fin (cfgA T).N) : S1x1x256x1024.Idx → Elt Ideal .f32 := iblk T m ρ c (3 : Fin 5) t

/-- What the point leaves in the result's block. -/
def after (c : Dev nD) (t : Fin (cfgA T).N) : S512x1024.Idx → Elt Ideal .bf16 :=
  outv (tV T) (crd T t) (bx T m ρ c t) (b1 T m ρ c t) (b3 T m ρ c t) (b2 T m ρ c t)

/-! ## A point that keeps the weights keeps the right ones -/

theorem crd_val (t : Fin (cfgA T).N) : ((crd T t) 0).val = t.val := by
  have h : ((grid0.coords t) 0).val = t.val / 1 % 309 := Pipeline.Grid.coords_val (G := grid0) t 0 (by decide) (by decide)
  have h' : t.val < 309 := t.isLt.trans_eq N_0
  refine h.trans ?_
  rw [Nat.div_one, Nat.mod_eq_of_lt h']

theorem off1_val (i : grid0.Coords) : k0_off1 i = ![(i 0).val] := by
  have h : (i 0).val < 309 := (i 0).isLt
  unfold k0_off1
  simp only [Scalar.indexCast, BitVec.toNat_ofNat]
  rw [Nat.mod_eq_of_lt (by omega)]

theorem off2_val (i : grid0.Coords) : k0_off2 i = ![(i 0).val - 1] := by
  have h : (i 0).val < 309 := (i 0).isLt
  have h0 : ∀ n : Fin 309, (Scalar.indexCast (Scalar.maxsi (Scalar.subi (BitVec.ofNat 32 n.val) 1#32) 0#32)).toNat = n.val - 1 := by decide +kernel
  unfold k0_off2
  exact congrArg (fun n => ![n]) (h0 ⟨(i 0).val, h⟩)

/-- The one cell of a load of one word. -/
theorem word_congr (V : S309.Idx → Elt Ideal .i32) (o o' : Fin 1 → ℕ) (h : ∀ a, o a + S1.size a ≤ S309.size a) (h' : ∀ a, o' a + S1.size a ≤ S309.size a) (e : o = o') (x : S1.Idx) :
    View.readAt (Elt Ideal) tbE.view (Rect.unit (s := S309) o S1.size h).toLoadRect V x = View.readAt (Elt Ideal) tbE.view (Rect.unit (s := S309) o' S1.size h').toLoadRect V x := by
  subst e; rfl

/-- The word a point compares with is the word of the point before. -/
theorem wordP_eq (V : S309.Idx → Elt Ideal .i32) (i i' : grid0.Coords) (h : (i 0).val - 1 = (i' 0).val) : wordP V i = wordE V i' :=
  word_congr V _ _ _ _ (by rw [off2_val, off1_val, h]) _

/-- A point that takes no weights is not the first, and has the expert of the point before. -/
theorem keeps (V : S309.Idx → Elt Ideal .i32) (i : grid0.Coords) (h : ¬ Fetches V i) : (i 0).val ≠ 0 ∧ wordE V i = wordP V i := by
  unfold Fetches at h
  simp only [Scalar.cmpi, IntOp.cmpi, Scalar.extui, Scalar.ori] at h
  by_cases e : wordE V i = wordP V i
  · refine ⟨fun h0 => h ?_, e⟩
    rw [h0]
    by_cases e' : (wordE V i != wordP V i) = true
    · rw [e']; decide
    · rw [Bool.not_eq_true] at e'; rw [e']; decide
  · refine absurd ?_ h
    have e' : (wordE V i != wordP V i) = true := by simpa using e
    rw [e']
    by_cases e0 : (BitVec.ofNat 32 (i 0).val == 0#32) = true
    · rw [e0]; decide
    · rw [Bool.not_eq_true] at e0; rw [e0]; decide

/-- The block of an array that begins at given block numbers, read at two equal lists of them. -/
theorem block_congr {s : Shape} {α : Type} (size : Fin s.rank → ℕ) (o o' : Fin s.rank → ℕ) (ho : ∀ a, (o a + 1) * size a ≤ s.size a) (ho' : ∀ a, (o' a + 1) * size a ≤ s.size a)
    (A : s.Idx → α) (e : o = o') : (fun y => A ((Rect.block (s := s) size o ho).emb y)) = fun y => A ((Rect.block (s := s) size o' ho').emb y) := by
  subst e; rfl

/-- Two points with the same word have the same blocks of weights. -/
theorem b1_congr (c : Dev nD) (t t' : Fin (cfgA T).N) (h : wordE (tE T) (crd T t) = wordE (tE T) (crd T t')) : b1 T m ρ c t = b1 T m ρ c t' :=
  block_congr (s := S4x64x1024x256) S1x1x1024x256.size (cc0_transform_1 k0_off1_inb numel1_S1 T.1 (crd T t)) (cc0_transform_1 k0_off1_inb numel1_S1 T.1 (crd T t')) (hinb0 T.1 T.2 (1 : Fin 5) (crd T t)) (hinb0 T.1 T.2 (1 : Fin 5) (crd T t')) (m ((c : Thread nD τ).loc main_arg3))
    (congrArg (fun w : BitVec 32 => ![(0#32).toNat, w.toNat, (0#32).toNat, (0#32).toNat]) h)
theorem b3_congr (c : Dev nD) (t t' : Fin (cfgA T).N) (h : wordE (tE T) (crd T t) = wordE (tE T) (crd T t')) : b3 T m ρ c t = b3 T m ρ c t' :=
  block_congr (s := S4x64x1024x256) S1x1x1024x256.size (cc0_transform_2 k0_off1_inb numel1_S1 T.1 (crd T t)) (cc0_transform_2 k0_off1_inb numel1_S1 T.1 (crd T t')) (hinb0 T.1 T.2 (2 : Fin 5) (crd T t)) (hinb0 T.1 T.2 (2 : Fin 5) (crd T t')) (m ((c : Thread nD τ).loc main_arg4))
    (congrArg (fun w : BitVec 32 => ![(0#32).toNat, w.toNat, (0#32).toNat, (0#32).toNat]) h)
theorem b2_congr (c : Dev nD) (t t' : Fin (cfgA T).N) (h : wordE (tE T) (crd T t) = wordE (tE T) (crd T t')) : b2 T m ρ c t = b2 T m ρ c t' :=
  block_congr (s := S4x64x256x1024) S1x1x256x1024.size (cc0_transform_3 k0_off1_inb numel1_S1 T.1 (crd T t)) (cc0_transform_3 k0_off1_inb numel1_S1 T.1 (crd T t')) (hinb0 T.1 T.2 (3 : Fin 5) (crd T t)) (hinb0 T.1 T.2 (3 : Fin 5) (crd T t')) (m ((c : Thread nD τ).loc main_arg5))
    (congrArg (fun w : BitVec 32 => ![(0#32).toNat, w.toNat, (0#32).toNat, (0#32).toNat]) h)

/-- Where a point takes no weights, the blocks of the point before are its own. -/
theorem kept (c : Dev nD) (t : Fin (cfgA T).N) (h : ¬ Fetches (tE T) (crd T t)) :
    ∃ h0 : t.val ≠ 0, b1 T m ρ c t = b1 T m ρ c ⟨t.val - 1, by omega⟩ ∧ b3 T m ρ c t = b3 T m ρ c ⟨t.val - 1, by omega⟩ ∧ b2 T m ρ c t = b2 T m ρ c ⟨t.val - 1, by omega⟩ := by
  obtain ⟨h0, e⟩ := keeps _ _ h
  rw [crd_val] at h0
  have e' : wordE (tE T) (crd T t) = wordE (tE T) (crd T ⟨t.val - 1, by omega⟩) := e.trans (wordP_eq _ _ _ (by rw [crd_val, crd_val]))
  exact ⟨h0, b1_congr T m ρ c _ _ e', b3_congr T m ρ c _ _ e', b2_congr T m ρ c _ _ e'⟩

/-! ## The pipeline's data -/

/-- Before a point: the kept copies are the weights of the point before (anything before the first), and the tables. -/
def Phi (m : (ℓ : Loc nD τ sig) → Buf (Elt Ideal) ℓ) (ρ : Dev nD → PrngReg) (c : Dev nD) (t : Fin ((cfgA T).N + 1)) : sProp 𝕄 :=
  iprop((∃ a, ⌜∀ h : t.val ≠ 0, a = k0_pay1 (F := Ideal) (b1 T m ρ c ⟨t.val - 1, by omega⟩)⌝ ∗ (sc1.view.loc (c : Thread nD τ) ↦{fullShare} a))
    ∗ (∃ a, ⌜∀ h : t.val ≠ 0, a = k0_pay2 (F := Ideal) (b3 T m ρ c ⟨t.val - 1, by omega⟩)⌝ ∗ (sc3.view.loc (c : Thread nD τ) ↦{fullShare} a))
    ∗ (∃ a, ⌜∀ h : t.val ≠ 0, a = k0_pay3 (F := Ideal) (b2 T m ρ c ⟨t.val - 1, by omega⟩)⌝ ∗ (sc2.view.loc (c : Thread nD τ) ↦{fullShare} a))
    ∗ (tbE.view.loc (c : Thread nD τ) ↦{fullShare.right} tE T) ∗ (tbV.view.loc (c : Thread nD τ) ↦{fullShare.right} tV T))

/-- The proof data of the one pipeline on a core. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => after T m ρ c t
  Φ t := Phi T m ρ c t
  q _ := fullShare
  owed _ := 0

theorem after_0 (c : Dev nD) (t : Fin (cfgA T).N) : (dats T m ρ 0 c).after (0 : Fin 5) t = iblk T m ρ c (0 : Fin 5) t := rfl
theorem after_1 (c : Dev nD) (t : Fin (cfgA T).N) : (dats T m ρ 0 c).after (1 : Fin 5) t = iblk T m ρ c (1 : Fin 5) t := rfl
theorem after_2 (c : Dev nD) (t : Fin (cfgA T).N) : (dats T m ρ 0 c).after (2 : Fin 5) t = iblk T m ρ c (2 : Fin 5) t := rfl
theorem after_3 (c : Dev nD) (t : Fin (cfgA T).N) : (dats T m ρ 0 c).after (3 : Fin 5) t = iblk T m ρ c (3 : Fin 5) t := rfl
theorem after_4 (c : Dev nD) (t : Fin (cfgA T).N) : (dats T m ρ 0 c).after (4 : Fin 5) t = after T m ρ c t := rfl

/-- Each input's buffer holds its block when the body runs, fetched there or not. -/
theorem before_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

/-- No point leaves the result's block untouched. -/
theorem idle_4 (t : Fin (cfgA T).N) : (cfgA T).idle (4 : Fin 5) (crd T t) = false := by
  have key : ∀ v : BitVec 32, (!(k0_cond2 v == 1#1) && !(k0_cond3 v == 1#1)) = false := by
    intro v
    by_cases h : k0_cond2 v = 1#1
    · rw [h]; rfl
    · rw [(cond3_iff v).mpr h]; exact Bool.and_false _
  exact key _

/-- The body at a point on its buffers, as the pipeline calls it. -/
abbrev bodyAt (t : Fin (cfgA T).N) : Prog (TpuEff nD τ sig (Elt Ideal) Λ₀ .tc) PUnit :=
  cc0_moe_experts (crd T t) (Memref.whole main_arg1) (Memref.isWhole_whole _) (Memref.whole main_arg2) (Memref.isWhole_whole _) (ms0 T t) (hs0 T t) (ms1 T t) (hs1 T t) (ms2 T t) (hs2 T t) (ms3 T t) (hs3 T t) (ms4 T t) (hs4 T t) (Memref.whole cc0_scratch0) (Memref.isWhole_whole _) (Memref.whole cc0_scratch1) (Memref.isWhole_whole _) (Memref.whole cc0_scratch2) (Memref.isWhole_whole _)

set_option maxHeartbeats 4000000 in
/-- The body at a point, by whether it takes the weights anew and whether its block has tokens. -/
theorem sound_body (c : Dev nD) (t : Fin (cfgA T).N) :
    iprop((dats T m ρ 0 c).Φ t.castSucc ∗ (dats T m ρ 0 c).owesAt () t.castSucc
        ∗ (∃ d, owns (c : Thread nD τ) (ms0 T t) fullShare ((dats T m ρ 0 c).before (0 : Fin 5) t d))
        ∗ (∃ d, owns (c : Thread nD τ) (ms1 T t) fullShare ((dats T m ρ 0 c).before (1 : Fin 5) t d))
        ∗ (∃ d, owns (c : Thread nD τ) (ms2 T t) fullShare ((dats T m ρ 0 c).before (2 : Fin 5) t d))
        ∗ (∃ d, owns (c : Thread nD τ) (ms3 T t) fullShare ((dats T m ρ 0 c).before (3 : Fin 5) t d))
        ∗ (∃ d, owns (c : Thread nD τ) (ms4 T t) fullShare ((dats T m ρ 0 c).before (4 : Fin 5) t d)))
      ⊢ wp frame (wpE (defs₀ (F := Ideal)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i4 := idle_4 T t
  rewrite [i4]
  simp only [before_0, before_1, before_2, before_3, after_0, after_1, after_2, after_3, after_4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  by_cases hf : Fetches (tE T) (crd T t)
  · by_cases hv : k0_cond2 (wordV (tV T) (crd T t)) = 1#1
    · skip
      iapply (run_fetch_tokens c (crd T t) (ms0 T t) (hs0 T t) (ms1 T t) (hs1 T t) (ms2 T t) (hs2 T t) (ms3 T t) (hs3 T t) (ms4 T t) (hs4 T t) (tE T) (tV T) (bx T m ρ c t) (b1 T m ρ c t) (b3 T m ρ c t) (b2 T m ρ c t) hf hv (fun h => (cond3_iff _).mp h hv) a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4
    · skip
      iapply (run_fetch_none c (crd T t) (ms0 T t) (hs0 T t) (ms1 T t) (hs1 T t) (ms2 T t) (hs2 T t) (ms3 T t) (hs3 T t) (ms4 T t) (hs4 T t) (tE T) (tV T) (bx T m ρ c t) (b1 T m ρ c t) (b3 T m ρ c t) (b2 T m ρ c t) hf hv ((cond3_iff _).mpr hv) a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4
  · by_cases hv : k0_cond2 (wordV (tV T) (crd T t)) = 1#1
    · skip
      obtain ⟨h0, k1, k3, k2⟩ := kept T m ρ c t hf
      have ha0' : a0 = k0_pay1 (F := Ideal) (b1 T m ρ c t) := (ha0 h0).trans (congrArg (k0_pay1 (F := Ideal)) k1.symm)
      have ha1' : a1 = k0_pay2 (F := Ideal) (b3 T m ρ c t) := (ha1 h0).trans (congrArg (k0_pay2 (F := Ideal)) k3.symm)
      have ha2' : a2 = k0_pay3 (F := Ideal) (b2 T m ρ c t) := (ha2 h0).trans (congrArg (k0_pay3 (F := Ideal)) k2.symm)
      subst ha0' ha1' ha2'
      iapply (run_keep_tokens c (crd T t) (ms0 T t) (hs0 T t) (ms1 T t) (hs1 T t) (ms2 T t) (hs2 T t) (ms3 T t) (hs3 T t) (ms4 T t) (hs4 T t) (tE T) (tV T) (bx T m ρ c t) (b1 T m ρ c t) (b3 T m ρ c t) (b2 T m ρ c t) hf hv (fun h => (cond3_iff _).mp h hv) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4
    · skip
      obtain ⟨h0, k1, k3, k2⟩ := kept T m ρ c t hf
      have ha0' : a0 = k0_pay1 (F := Ideal) (b1 T m ρ c t) := (ha0 h0).trans (congrArg (k0_pay1 (F := Ideal)) k1.symm)
      have ha1' : a1 = k0_pay2 (F := Ideal) (b3 T m ρ c t) := (ha1 h0).trans (congrArg (k0_pay2 (F := Ideal)) k3.symm)
      have ha2' : a2 = k0_pay3 (F := Ideal) (b2 T m ρ c t) := (ha2 h0).trans (congrArg (k0_pay3 (F := Ideal)) k2.symm)
      subst ha0' ha1' ha2'
      iapply (run_keep_none c (crd T t) (ms0 T t) (hs0 T t) (ms1 T t) (hs1 T t) (ms2 T t) (hs2 T t) (ms3 T t) (hs3 T t) (ms4 T t) (hs4 T t) (tE T) (tV T) (bx T m ρ c t) (b1 T m ρ c t) (b3 T m ρ c t) (b2 T m ρ c t) hf hv ((cond3_iff _).mpr hv) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4

/-- The library's body obligation, at every point. -/
theorem body_obligation (c : Dev nD) : BodyObligation (dats T m ρ 0 c) (defs₀ (F := Ideal)) Variants.none () Set.univ := fun t => by
  rw [bigSep_W0]
  exact sound_body T m ρ c t

/-! ## The launch -/

/-- The launch's resources. -/
def u₀ : UR sig nD τ :=
  initOf (Pipeline.cells (pcs T) ((launch0 (F := Ideal)).cellOf_inj fun _ => T))
    (Pipeline.launchToks (pcs T) ((launch0 (F := Ideal)).cellOf_inj fun _ => T))

theorem share_eq (c : Dev nD) (w : Fin (cfgA T).W) : (dats T m ρ 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- What holds before the first point. -/
theorem phi_intro (c : Dev nD) :
    iprop(BI.emp ∗ Pipeline.prefHeld pre0 c (fun _ => fullShare.right) T.1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  iexact HT1

/-- After the last point the kept copies are given back. -/
theorem phi_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What the final memory holds: every array what the pipeline computes, every table what it was. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = T.1 j

theorem V_pre (hp : Holds T m) (c : Dev nD) (j : Fin 2) : m ((c : Thread nD τ).loc (pre0.ref j)) = T.1 j := by
  fin_cases j
  · exact hp.1 c
  · exact hp.2 c

set_option backward.isDefEq.respectTransparency.types false in
set_option maxHeartbeats 4000000 in
/-- From any memory that holds the tables, every weakly fair execution ends, with these contents and every counter at zero. -/
theorem run_quiet (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => T) (dats T m ρ) () ((launch0 (F := Ideal)).cellOf_inj fun _ => T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi_intro T m ρ)
    (hout := phi_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they began; the result's array holds what the pipeline computes; the counters are at zero. -/
theorem run_full (hp : Holds T m) :
    θ_run (defs (F := Ideal)) (onTc (τ := τ) (main (F := Ideal))) ⟨m, fun _ => 0, ρ⟩ (fun r => (∀ c : Dev nD,
      r.2.mem ((c.tc : Thread nD τ).loc main_v0) = (dats T m ρ 0 c).arrAt (4 : Fin 5) (cfgA T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).1 (0 : Fin 5)).trans ((dats T m ρ 0 c).arrAt_in (0 : Fin 5) rfl _), ((h.1 c).2 0).trans (hp.1 c).symm, ((h.1 c).2 1).trans (hp.2 c).symm,
    ((h.1 c).1 (1 : Fin 5)).trans ((dats T m ρ 0 c).arrAt_in (1 : Fin 5) rfl _), ((h.1 c).1 (2 : Fin 5)).trans ((dats T m ρ 0 c).arrAt_in (2 : Fin 5) rfl _), ((h.1 c).1 (3 : Fin 5)).trans ((dats T m ρ 0 c).arrAt_in (3 : Fin 5) rfl _)⟩, h.2⟩)
    (run_quiet T m ρ hp)

/-! ## The tables of a memory whose experts are among the sixty-four -/

/-- Every word of the experts' table names one of the sixty-four. -/
def InRange (E : S309.Idx → Elt Ideal .i32) : Prop := ∀ x, (E x : BitVec 32).toNat < 64

/-- The tables as the launch memory holds them. -/
def pfOf (m : (ℓ : Loc nD τ sig) → Buf (Elt Ideal) ℓ) : pre0.Contents (Elt Ideal) := fun
  | ⟨0, _⟩ => m (((0 : Dev nD) : Thread nD τ).loc main_arg1)
  | ⟨1, _⟩ => m (((0 : Dev nD) : Thread nD τ).loc main_arg2)
  | ⟨_ + 2, h⟩ => absurd h (by simp)

theorem ok_of_range (h : InRange (m (((0 : Dev nD) : Thread nD τ).loc main_arg1))) : ok0 (F := Ideal) (pfOf m) := by
  have k1 : ∀ w : BitVec 32, w.toNat < 64 → ∀ a : Fin 4, ((![(0#32).toNat, w.toNat, (0#32).toNat, (0#32).toNat] : Fin 4 → ℕ) a + 1) * S1x1x1024x256.size a ≤ S4x64x1024x256.size a := by
    intro w hw a
    fin_cases a
    · show (0 + 1) * 1 ≤ 4; omega
    · show (w.toNat + 1) * 1 ≤ 64; omega
    · show (0 + 1) * 1024 ≤ 1024; omega
    · show (0 + 1) * 256 ≤ 256; omega
  have k2 : ∀ w : BitVec 32, w.toNat < 64 → ∀ a : Fin 4, ((![(0#32).toNat, w.toNat, (0#32).toNat, (0#32).toNat] : Fin 4 → ℕ) a + 1) * S1x1x256x1024.size a ≤ S4x64x256x1024.size a := by
    intro w hw a
    fin_cases a
    · show (0 + 1) * 1 ≤ 4; omega
    · show (w.toNat + 1) * 1 ≤ 64; omega
    · show (0 + 1) * 256 ≤ 256; omega
    · show (0 + 1) * 1024 ≤ 1024; omega
  exact ⟨fun i => ⟨k1 _ (h _), .inl rfl⟩, fun i => ⟨k1 _ (h _), .inl rfl⟩, fun i => ⟨k2 _ (h _), .inl rfl⟩⟩

/-- The tables of the launch memory, admissible. -/
def tabs (h : InRange (m (((0 : Dev nD) : Thread nD τ).loc main_arg1))) : Tabs := ⟨pfOf m, ok_of_range m h⟩

theorem holds (h : InRange (m (((0 : Dev nD) : Thread nD τ).loc main_arg1))) : Holds (tabs m h) m :=
  ⟨fun c => by rw [Subsingleton.elim c 0]; rfl, fun c => by rw [Subsingleton.elim c 0]; rfl⟩

end Cert.Proof.Experts

end
-- ==== Proof.ExpertsRef.lean ====
module

public import proofs.«01_k».proof.Defs
public import proofs.«01_k».proof.Proof.Gen.ExpertsRefIdeal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.Proof.ExpertsRef

open Cert.ExpertsRefIdeal Cert.ExpertsRefIdeal.Read

/-! ## The mathematics: a gated two-layer expert on a row -/

/-- A row of 512 words as 1024 numbers: the words' high halves, then their low halves, each a bf16. -/
def unpacked (u : Fin 512 → BitVec 32) (k : Fin 1024) : EReal :=
  if h : k.val < 512 then Ideal.ofBits .f32 (u ⟨k.val, h⟩ &&& 0xFFFF0000#32) else Ideal.ofBits .f32 (u ⟨k.val - 512, by omega⟩ <<< 16)

/-- A row of 1024 through a projection to 256. -/
def proj (x : Fin 1024 → EReal) (w : Fin 1024 → Fin 256 → EReal) (h : Fin 256) : EReal := ∑ k : Fin 1024, x k * w k h

/-- The expert on a row: the gate's projection times its logistic, times the other projection, projected back. -/
def expert (x : Fin 1024 → EReal) (w1 w3 : Fin 1024 → Fin 256 → EReal) (w2 : Fin 256 → Fin 1024 → EReal) (j : Fin 1024) : EReal :=
  ∑ h : Fin 256, proj x w1 h * Ideal.logistic (proj x w1 h) * proj x w3 h * w2 h j

/-! ## The gather of a block of a stack, one block number per block -/

section Gather
variable {α : Type}

/-- Those dimension numbers. -/
abbrev blocksDims (E A B N : Nat)
    (wf : GatherDims.WF ⟨3, ![E, A, B]⟩ ⟨2, ![N, 1]⟩ ⟨3, ![N, A, B]⟩ [1, 2] [0] [] [0] [] 1 ![1, A, B]) :
    GatherDims ⟨3, ![E, A, B]⟩ ⟨2, ![N, 1]⟩ ⟨3, ![N, A, B]⟩ :=
  { offsetDims := [1, 2], collapsedSliceDims := [0], operandBatchingDims := [], startIndicesBatchingDims := [],
    startIndexMap := [0], indexVectorDim := 1, sliceSizes := ![1, A, B], wf := wf }

/-- Reading the stack `[E, A, B]` at the block numbers `[N, 1]`: result `(n, a, b)` is block `idx (n, 0)`, clamped, at `(a, b)`. -/
theorem gather_blocks {E A B N w : Nat} (hE : 0 < E)
    (wf : GatherDims.WF ⟨3, ![E, A, B]⟩ ⟨2, ![N, 1]⟩ ⟨3, ![N, A, B]⟩ [1, 2] [0] [] [0] [] 1 ![1, A, B])
    (x : (⟨3, ![E, A, B]⟩ : Shape).Idx → α) (idx : IVec ⟨2, ![N, 1]⟩ w) (n : Fin N) (a : Fin A) (b : Fin B) :
    Host.gather (blocksDims E A B N wf) x idx (ix3 n a b)
      = x (ix3 ⟨min (idx (ix2 n 0)).toInt.toNat (E - 1), by omega⟩ a b) := by
  unfold Host.gather
  congr 1
  funext q
  refine Fin.ext ?_
  show (blocksDims E A B N wf).start (ix3 n a b) idx q + (blocksDims E A B N wf).batchCoord (ix3 n a b) q
    + (blocksDims E A B N wf).offCoord (ix3 n a b) q = _
  rw [GatherDims.batchCoord_eq_zero _ _ _ List.not_mem_nil]
  have hq : q = 0 ∨ q = 1 ∨ q = 2 := by
    match q with
    | ⟨0, _⟩ => exact Or.inl rfl
    | ⟨1, _⟩ => exact Or.inr (Or.inl rfl)
    | ⟨2, _⟩ => exact Or.inr (Or.inr rfl)
  rcases hq with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (blocksDims E A B N wf).startIndexMap from List.mem_singleton.mpr rfl)]
    have hsi : (blocksDims E A B N wf).siIdx (ix3 n a b) ⟨List.idxOf (0 : Fin 3) (blocksDims E A B N wf).startIndexMap,
        List.idxOf_lt_length_iff.2 (List.mem_singleton.mpr rfl)⟩ = ix2 n 0 := by
      funext r; refine Fin.ext ?_
      match r with
      | ⟨0, _⟩ => rfl
      | ⟨1, _⟩ => rfl
    rw [hsi]
    rfl
  · unfold GatherDims.start
    rw [dif_neg (show ¬ (1 : Fin 3) ∈ (blocksDims E A B N wf).startIndexMap by show ¬ (1 : Fin 3) ∈ [(0 : Fin 3)]; decide)]
    simp only [Nat.zero_add]
    unfold GatherDims.offCoord
    rw [dif_pos ((GatherDims.mem_sKept _ _).mpr ⟨by show ¬ (1 : Fin 3) ∈ [(0 : Fin 3)]; decide, List.not_mem_nil⟩)]
    rfl
  · unfold GatherDims.start
    rw [dif_neg (show ¬ (2 : Fin 3) ∈ (blocksDims E A B N wf).startIndexMap by show ¬ (2 : Fin 3) ∈ [(0 : Fin 3)]; decide)]
    simp only [Nat.zero_add]
    unfold GatherDims.offCoord
    rw [dif_pos ((GatherDims.mem_sKept _ _).mpr ⟨by show ¬ (2 : Fin 3) ∈ [(0 : Fin 3)]; decide, List.not_mem_nil⟩)]
    rfl

end Gather

/-! ## The reference -/

/-- A block's expert. -/
def eOf (be : IVec S309 32) (hb : ∀ x, (be x).toNat < 64) (t : Fin 309) : Fin 64 := ⟨(be (ix1 t)).toNat, hb _⟩

/-- A number inside the range is left by the wrap of negative numbers. -/
theorem wrap_eq (v : BitVec 32) (h : v.toNat < 64) : Scalar.select (IntOp.cmpi .slt v 0#32) (IntOp.addi v 64#32) v = v := by
  have e : v.toInt = v.toNat := BitVec.toInt_eq_toNat_of_lt (by omega)
  have e0 : BitVec.slt v 0#32 = false := by
    rw [BitVec.slt, e]
    exact decide_eq_false (by show ¬ (v.toNat : Int) < 0; omega)
  have e1 : IntOp.cmpi .slt v 0#32 = 0#1 := by
    show BitVec.ofBool (BitVec.slt v 0#32) = 0#1
    rw [e0]; rfl
  rw [e1]
  rfl

/-- And by the clamp. -/
theorem clamp_eq (v : BitVec 32) (h : v.toNat < 64) : min v.toInt.toNat (64 - 1) = v.toNat := by
  have e : v.toInt = v.toNat := BitVec.toInt_eq_toNat_of_lt (by omega)
  rw [e]
  omega

variable (be : IVec S309 32) (hb : ∀ x, (be x).toNat < 64)
include hb

theorem idx9 (t : Fin 309) : (val_main_v15 (F := Ideal) be : IVec S309x1 32) (ix2 t 0) = be (ix1 t) := by
  pointwise [val_main_v15, val_main_v14, val_main_v13, val_main_v12, val_main_v11, val_main_v10, val_main_c_1, val_main_c_2]
  exact wrap_eq _ (hb _)

theorem block_at (t : Fin 309) (h : _) :
    (⟨min ((val_main_v15 (F := Ideal) be : IVec S309x1 32) (ix2 t 0)).toInt.toNat (64 - 1), h⟩ : Fin 64) = eOf be hb t :=
  Fin.ext (by show min _ _ = _; rw [idx9 be hb t]; exact clamp_eq _ (hb _))

theorem w1_at (x3) (t : Fin 309) (k : Fin 1024) (h : Fin 256) :
    (val_main_v16 (F := Ideal) be x3 : FVec Ideal S309x1024x256 .f32) (ix3 t k h) = x3 (ix4 0 (eOf be hb t) k h) := by
  unfold val_main_v16
  refine (gather_blocks (by decide) gather_S64x1024x256_S309x1_S309x1024x256_12_0_n_n_0_1_11024256.wf _ _ t k h).trans ?_
  rw [block_at be hb t]
  pointwise [val_main_v9, val_main_v8]

theorem w3_at (x4) (t : Fin 309) (k : Fin 1024) (h : Fin 256) :
    (val_main_v25 (F := Ideal) be x4 : FVec Ideal S309x1024x256 .f32) (ix3 t k h) = x4 (ix4 0 (eOf be hb t) k h) := by
  unfold val_main_v25
  refine (gather_blocks (by decide) gather_S64x1024x256_S309x1_S309x1024x256_12_0_n_n_0_1_11024256.wf _ _ t k h).trans ?_
  rw [show val_main_v24 (F := Ideal) be = val_main_v15 (F := Ideal) be from rfl, block_at be hb t]
  pointwise [val_main_v18, val_main_v17]

theorem w2_at (x5) (t : Fin 309) (h : Fin 256) (j : Fin 1024) :
    (val_main_v34 (F := Ideal) be x5 : FVec Ideal S309x256x1024 .f32) (ix3 t h j) = x5 (ix4 0 (eOf be hb t) h j) := by
  unfold val_main_v34
  refine (gather_blocks (by decide) gather_S64x256x1024_S309x1_S309x256x1024_12_0_n_n_0_1_12561024.wf _ _ t h j).trans ?_
  rw [show val_main_v33 (F := Ideal) be = val_main_v15 (F := Ideal) be from rfl, block_at be hb t]
  pointwise [val_main_v27, val_main_v26]

/-- A token's row of a block. -/
def rowOf (t : Fin 309) (i : Fin 512) : Fin 158208 := ⟨t.val * 512 + i.val, by omega⟩

omit hb in
theorem x_at (x0 : IVec S158208x512 32) (t : Fin 309) (i : Fin 512) (k : Fin 1024) :
    (val_main_v7 (F := Ideal) x0 : FVec Ideal S309x512x1024 .f32) (ix3 t i k) = unpacked (fun q => x0 (ix2 (rowOf t i) q)) k := by
  have e : (val_main_v7 (F := Ideal) x0 : FVec Ideal S309x512x1024 .f32) (ix3 t i k) = (val_main_v6 (F := Ideal) x0 : FVec Ideal S158208x1024 .f32) (ix2 (rowOf t i) k) := by
    pointwise [val_main_v7]
    rfl
  rw [e]
  pointwise [val_main_v6, val_main_v5, val_main_v4, val_main_v3, val_main_v2, val_main_v1, val_main_v0, val_main_c, val_main_c_0]
  rfl

theorem gate_at (x0 : IVec S158208x512 32) (x3 : FVec Ideal S4x64x1024x256 .f32) (t : Fin 309) (i : Fin 512) (h : Fin 256) :
    (val_main_v35 (F := Ideal) x0 be x3 : FVec Ideal S309x512x256 .f32) (ix3 t i h)
      = proj (unpacked fun q => x0 (ix2 (rowOf t i) q)) (fun k h => x3 (ix4 0 (eOf be hb t) k h)) h := by
  refine (val_main_v35_apply x0 be x3 (ix3 t i h)).trans (Finset.sum_congr rfl fun k _ => ?_)
  beta_reduce
  rw [← w1_at be hb x3 t k h, ← x_at x0 t i k]
  congr 2 <;> (funext a; match a with | ⟨0, _⟩ => rfl | ⟨1, _⟩ => rfl | ⟨2, _⟩ => rfl)

theorem up_at (x0 : IVec S158208x512 32) (x4 : FVec Ideal S4x64x1024x256 .f32) (t : Fin 309) (i : Fin 512) (h : Fin 256) :
    (val_main_v37 (F := Ideal) x0 be x4 : FVec Ideal S309x512x256 .f32) (ix3 t i h)
      = proj (unpacked fun q => x0 (ix2 (rowOf t i) q)) (fun k h => x4 (ix4 0 (eOf be hb t) k h)) h := by
  refine (val_main_v37_apply x0 be x4 (ix3 t i h)).trans (Finset.sum_congr rfl fun k _ => ?_)
  beta_reduce
  rw [← w3_at be hb x4 t k h, ← x_at x0 t i k]
  congr 2 <;> (funext a; match a with | ⟨0, _⟩ => rfl | ⟨1, _⟩ => rfl | ⟨2, _⟩ => rfl)

theorem gated_at (x0 : IVec S158208x512 32) (x3 x4 : FVec Ideal S4x64x1024x256 .f32) (t : Fin 309) (i : Fin 512) (h : Fin 256) :
    (val_main_v38 (F := Ideal) x0 be x3 x4 : FVec Ideal S309x512x256 .f32) (ix3 t i h)
      = proj (unpacked fun q => x0 (ix2 (rowOf t i) q)) (fun k h => x3 (ix4 0 (eOf be hb t) k h)) h
        * Ideal.logistic (proj (unpacked fun q => x0 (ix2 (rowOf t i) q)) (fun k h => x3 (ix4 0 (eOf be hb t) k h)) h)
        * proj (unpacked fun q => x0 (ix2 (rowOf t i) q)) (fun k h => x4 (ix4 0 (eOf be hb t) k h)) h := by
  rw [val_main_v38_apply, val_main_v36_apply, val_main_call0_v5_apply, val_main_call0_v4_apply, val_main_call0_cst_0_apply, val_main_call0_v3_apply,
    val_main_call0_v2_apply, val_main_call0_cst_apply, val_main_call0_v1_apply, val_main_call0_v0_apply, gate_at be hb, up_at be hb]
  generalize proj (unpacked fun q => x0 (ix2 (rowOf t i) q)) (fun k h => x3 (ix4 0 (eOf be hb t) k h)) h = a
  generalize proj (unpacked fun q => x0 (ix2 (rowOf t i) q)) (fun k h => x4 (ix4 0 (eOf be hb t) k h)) h = b
  have e1 : (FloatOps.ofBits .f32 0x3F800000#32 : Ideal .f32) = (1 : EReal) := by
    show Ideal.ofBits .f32 0x3F800000#32 = 1
    pointwise
  rw [e1]
  rfl

theorem back_at (x0 : IVec S158208x512 32) (x3 x4 : FVec Ideal S4x64x1024x256 .f32) (x5 : FVec Ideal S4x64x256x1024 .f32) (t : Fin 309) (i : Fin 512) (j : Fin 1024) :
    (val_main_v39 (F := Ideal) x0 be x3 x4 x5 : FVec Ideal S309x512x1024 .f32) (ix3 t i j)
      = expert (unpacked fun q => x0 (ix2 (rowOf t i) q)) (fun k h => x3 (ix4 0 (eOf be hb t) k h)) (fun k h => x4 (ix4 0 (eOf be hb t) k h)) (fun h j => x5 (ix4 0 (eOf be hb t) h j)) j := by
  refine (val_main_v39_apply x0 be x3 x4 x5 (ix3 t i j)).trans (Finset.sum_congr rfl fun h _ => ?_)
  beta_reduce
  rw [← w2_at be hb x5 t h j, ← gated_at be hb x0 x3 x4 t i h]
  congr 2 <;> (funext a; match a with | ⟨0, _⟩ => rfl | ⟨1, _⟩ => rfl | ⟨2, _⟩ => rfl)

/-- The reference at a token of a block: the block's expert where the block holds tokens, else zero. -/
theorem result_at (x0 : IVec S158208x512 32) (bv : IVec S309 32) (x3 x4 : FVec Ideal S4x64x1024x256 .f32) (x5 : FVec Ideal S4x64x256x1024 .f32) (t : Fin 309) (i : Fin 512) (j : Fin 1024) :
    (val_main_v45 (F := Ideal) x0 be bv x3 x4 x5 : FVec Ideal S158208x1024 .bf16) (ix2 (rowOf t i) j)
      = if IntOp.cmpi .sgt (bv (ix1 t)) 0#32 = 1#1 then
          expert (unpacked fun q => x0 (ix2 (rowOf t i) q)) (fun k h => x3 (ix4 0 (eOf be hb t) k h)) (fun k h => x4 (ix4 0 (eOf be hb t) k h)) (fun h j => x5 (ix4 0 (eOf be hb t) h j)) j
        else 0 := by
  rw [← back_at be hb]
  have e : (val_main_v44 (F := Ideal) x0 be bv x3 x4 x5 : FVec Ideal S158208x1024 .f32) (ix2 (rowOf t i) j)
      = val_main_v43 (F := Ideal) x0 be bv x3 x4 x5 (ix3 t i j) := by
    rw [val_main_v44_apply]
    congr 1
    funext a
    refine Fin.ext ?_
    match a with
    | ⟨0, _⟩ => show ((t.val * 512 + i.val) * 1024 + j.val) / 524288 = t.val; omega
    | ⟨1, _⟩ => show ((t.val * 512 + i.val) * 1024 + j.val) / 1024 % 512 = i.val; omega
    | ⟨2, _⟩ => show ((t.val * 512 + i.val) * 1024 + j.val) % 1024 = j.val; omega
  refine e.trans ?_
  rw [val_main_v43_apply]
  pointwise [val_main_call1_v1, val_main_call1_v2, val_main_call1_v0, val_main_cst, val_main_v42, val_main_v41, val_main_v40, val_main_c_7]
  have ez : (id (constant (F := Ideal) S_ FTy.f32 0#32) ix0 : EReal) = 0 := Ideal.ofBits_zero_f32
  by_cases h : IntOp.cmpi .sgt (bv (ix1 t)) 0#32 = 1#1
  · rw [if_pos h, h]
    rfl
  · rw [if_neg h]
    exact (if_neg h).trans ez

end Cert.Proof.ExpertsRef

end
-- ==== Proof.ExpertsValue.lean ====
module

public import proofs.«01_k».proof.Proof.ExpertsRun
public import proofs.«01_k».proof.Proof.ExpertsRef
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.Experts

open Cert.ExpertsIdeal Cert.ExpertsIdeal.Gen
open Cert.Proof.ExpertsRef (unpacked proj expert eOf rowOf)

/-! ## A point's result at an entry -/

theorem w1_pay (x : FVec Ideal S1x1x1024x256 .f32) (k : Fin 1024) (h : Fin 256) :
    (k0_pay1 (F := Ideal) x : FVec Ideal S1024x256 .bf16) (ix2 k h) = x (ix4 0 0 k h) := by
  pointwise [k0_pay1]

theorem w3_pay (x : FVec Ideal S1x1x1024x256 .f32) (k : Fin 1024) (h : Fin 256) :
    (k0_pay2 (F := Ideal) x : FVec Ideal S1024x256 .bf16) (ix2 k h) = x (ix4 0 0 k h) := by
  pointwise [k0_pay2]

theorem w2_pay (x : FVec Ideal S1x1x256x1024 .f32) (h : Fin 256) (j : Fin 1024) :
    (k0_pay3 (F := Ideal) x : FVec Ideal S256x1024 .bf16) (ix2 h j) = x (ix4 0 0 h j) := by
  pointwise [k0_pay3]

/-- The rows of words unpacked, as the body does it. -/
def rowsX (x : IVec S512x512 32) : FVec Ideal S512x1024 .bf16 :=
  concatenate S512x1024 1
    [⟨S512x512, truncf .bf16 (bitcastToFloat (F := Ideal) .f32 (andi x (broadcast S512x512 4294901760#32))) bitsLt_bf16_f32⟩,
     ⟨S512x512, truncf .bf16 (bitcastToFloat (F := Ideal) .f32 (shli x (broadcast S512x512 16#32))) bitsLt_bf16_f32⟩]
    concatenates_S512x512_S512x512_S512x1024_d1

theorem rowsX_at (x : IVec S512x512 32) (i : Fin 512) (k : Fin 1024) : rowsX x (ix2 i k) = unpacked (fun q => x (ix2 i q)) k := by
  pointwise [rowsX]
  rfl

/-- What the body does with the unpacked rows. -/
def expertRows (X : FVec Ideal S512x1024 .bf16) (w1 w3 : FVec Ideal S1024x256 .bf16) (w2 : FVec Ideal S256x1024 .bf16) : FVec Ideal S512x1024 .bf16 :=
  have zero : FVec Ideal S512x256 .f32 := constant S512x256 .f32 0x00000000#32
  have gate : FVec Ideal S512x256 .f32 := matmul dot_S512x1024_S1024x256_S512x256_1_0_0_1_n_n none X w1 zero
  have up : FVec Ideal S512x256 .f32 := matmul dot_S512x1024_S1024x256_S512x256_1_0_0_1_n_n none X w3 zero
  have gated : FVec Ideal S512x256 .bf16 := truncf .bf16 (mulf (mulf gate (logistic gate)) up) bitsLt_bf16_f32
  truncf .bf16 (matmul dot_S512x256_S256x1024_S512x1024_1_0_0_1_n_n none gated w2 (constant S512x1024 .f32 0x00000000#32) : FVec Ideal S512x1024 .f32) bitsLt_bf16_f32

theorem expertRows_at (X : FVec Ideal S512x1024 .bf16) (w1 w3 : FVec Ideal S1024x256 .bf16) (w2 : FVec Ideal S256x1024 .bf16) (i : Fin 512) (j : Fin 1024) :
    expertRows X w1 w3 w2 (ix2 i j) = expert (fun k => X (ix2 i k)) (fun k h => w1 (ix2 k h)) (fun k h => w3 (ix2 k h)) (fun h j => w2 (ix2 h j)) j := by
  pointwise [expertRows]
  rfl

theorem tokens_pay (x : IVec S512x512 32) (w1 w3 : FVec Ideal S1024x256 .bf16) (w2 : FVec Ideal S256x1024 .bf16) (i : Fin 512) (j : Fin 1024) :
    (k0_pay4 (F := Ideal) x w1 w3 w2 : FVec Ideal S512x1024 .bf16) (ix2 i j)
      = expert (unpacked fun q => x (ix2 i q)) (fun k h => w1 (ix2 k h)) (fun k h => w3 (ix2 k h)) (fun h j => w2 (ix2 h j)) j := by
  have e : k0_pay4 (F := Ideal) x w1 w3 w2 = expertRows (rowsX x) w1 w3 w2 := rfl
  rw [e, expertRows_at, show (fun k => rowsX x (ix2 i k)) = unpacked (fun q => x (ix2 i q)) from funext (rowsX_at x i)]

theorem none_pay (i : Fin 512) (j : Fin 1024) : (k0_pay5 (F := Ideal) : FVec Ideal S512x1024 .bf16) (ix2 i j) = 0 := by
  pointwise [k0_pay5]

theorem cond2_iff (v : BitVec 32) : k0_cond2 v = 1#1 ↔ IntOp.cmpi .sgt v 0#32 = 1#1 := by
  unfold k0_cond2
  simp only [Scalar.cmpi, Scalar.extui]
  generalize IntOp.cmpi .sgt v 0#32 = b
  revert b
  decide

variable (T : Tabs) (m : (ℓ : Loc nD τ sig) → Buf (Elt Ideal) ℓ) (ρ : Dev nD → PrngReg)

/-- A point's number, as a block's. -/
abbrev pt (t : Fin (cfgA T).N) : Fin 309 := ⟨t.val, t.isLt.trans_eq N_0⟩

/-- The word of a point. -/
theorem word_at (V : S309.Idx → Elt Ideal .i32) (t : Fin (cfgA T).N) (z : S1.Idx) :
    View.readAt (Elt Ideal) tbE.view (Rect.unit (s := S309) (k0_off1 (crd T t)) S1.size (k0_off1_inb (crd T t))).toLoadRect V z = V (ix1 (pt T t)) := by
  refine congrArg V ?_
  funext a
  obtain rfl : a = (0 : Fin 1) := Subsingleton.elim (α := Fin 1) _ _
  refine Fin.ext ?_
  have hz : (z 0).val = 0 := by have : (z 0).val < 1 := (z 0).isLt; omega
  show k0_off1 (crd T t) 0 + 1 * (z 0).val = t.val
  rw [off1_val, hz]
  exact crd_val T t

abbrev aX (c : Dev nD) : IVec S158208x512 32 := m ((c : Thread nD τ).loc main_arg0)
abbrev aW1 (c : Dev nD) : FVec Ideal S4x64x1024x256 .f32 := m ((c : Thread nD τ).loc main_arg3)
abbrev aW3 (c : Dev nD) : FVec Ideal S4x64x1024x256 .f32 := m ((c : Thread nD τ).loc main_arg4)
abbrev aW2 (c : Dev nD) : FVec Ideal S4x64x256x1024 .f32 := m ((c : Thread nD τ).loc main_arg5)

/-- A block of weights of given block numbers, at an entry. -/
theorem weights_at (A B : Nat) (W : (⟨4, ![4, 64, A, B]⟩ : Shape).Idx → EReal) (w : BitVec 32) (hw : w.toNat < 64)
    (ho : ∀ a, ((![(0#32).toNat, w.toNat, (0#32).toNat, (0#32).toNat] : Fin 4 → ℕ) a + 1) * (![1, 1, A, B] : Fin 4 → ℕ) a ≤ (⟨4, ![4, 64, A, B]⟩ : Shape).size a)
    (k : Fin A) (h : Fin B) :
    W ((Rect.block (s := ⟨4, ![4, 64, A, B]⟩) ![1, 1, A, B] ![(0#32).toNat, w.toNat, (0#32).toNat, (0#32).toNat] ho).emb (ix4 0 0 k h)) = W (ix4 0 ⟨w.toNat, hw⟩ k h) := by
  refine congrArg W ?_
  funext a
  refine Fin.ext ?_
  match a with
  | ⟨0, _⟩ => show 0 * 1 + 1 * 0 = 0; rfl
  | ⟨1, _⟩ => show w.toNat * 1 + 1 * 0 = w.toNat; omega
  | ⟨2, _⟩ => show 0 * A + 1 * k.val = k.val; omega
  | ⟨3, _⟩ => show 0 * B + 1 * h.val = h.val; omega

variable (hp : Holds T m) (hb : ∀ x, (tE T x : BitVec 32).toNat < 64)

/-- The expert's number a point reads is its block's. -/
theorem expert_val (t : Fin (cfgA T).N) : (wordE (tE T) (crd T t)).toNat = (eOf (tE T) hb (pt T t)).val := by
  show (wordE (tE T) (crd T t)).toNat = (tE T (ix1 (pt T t)) : BitVec 32).toNat
  rw [show wordE (tE T) (crd T t) = _ from word_at T (tE T) t _]

include hb in
theorem expert_lt (t : Fin (cfgA T).N) : (wordE (tE T) (crd T t)).toNat < 64 := (expert_val T hb t).trans_lt (eOf (tE T) hb (pt T t)).isLt

theorem b1_at (c : Dev nD) (t : Fin (cfgA T).N) (k : Fin 1024) (h : Fin 256) :
    (b1 T m ρ c t : FVec Ideal S1x1x1024x256 .f32) (ix4 0 0 k h) = aW1 m c (ix4 0 (eOf (tE T) hb (pt T t)) k h) := by
  refine (weights_at 1024 256 (aW1 m c) (wordE (tE T) (crd T t)) (expert_lt T hb t) (hinb0 T.1 T.2 (1 : Fin 5) (crd T t)) k h).trans ?_
  exact congrArg (fun z => aW1 m c (ix4 0 z k h)) (Fin.ext (expert_val T hb t))

theorem b3_at (c : Dev nD) (t : Fin (cfgA T).N) (k : Fin 1024) (h : Fin 256) :
    (b3 T m ρ c t : FVec Ideal S1x1x1024x256 .f32) (ix4 0 0 k h) = aW3 m c (ix4 0 (eOf (tE T) hb (pt T t)) k h) := by
  refine (weights_at 1024 256 (aW3 m c) (wordE (tE T) (crd T t)) (expert_lt T hb t) (hinb0 T.1 T.2 (2 : Fin 5) (crd T t)) k h).trans ?_
  exact congrArg (fun z => aW3 m c (ix4 0 z k h)) (Fin.ext (expert_val T hb t))

theorem b2_at (c : Dev nD) (t : Fin (cfgA T).N) (h : Fin 256) (j : Fin 1024) :
    (b2 T m ρ c t : FVec Ideal S1x1x256x1024 .f32) (ix4 0 0 h j) = aW2 m c (ix4 0 (eOf (tE T) hb (pt T t)) h j) := by
  refine (weights_at 256 1024 (aW2 m c) (wordE (tE T) (crd T t)) (expert_lt T hb t) (hinb0 T.1 T.2 (3 : Fin 5) (crd T t)) h j).trans ?_
  exact congrArg (fun z => aW2 m c (ix4 0 z h j)) (Fin.ext (expert_val T hb t))

/-- The block number of the tokens, and of the result. -/
theorem row_val (t : Fin (cfgA T).N) : (BitVec.ofNat 32 ((crd T t) 0).val).toNat = t.val := by
  have h : t.val < 309 := t.isLt.trans_eq N_0
  rw [crd_val, BitVec.toNat_ofNat, Nat.mod_eq_of_lt (by omega)]

/-- A block of rows of given block numbers, at an entry. -/
theorem rows_emb (n : ℕ) (hn : n < 309) (o : Fin 2 → ℕ) (e : o = ![n, 0]) (ho : ∀ a, (o a + 1) * (S512x1024.size : Fin 2 → ℕ) a ≤ S158208x1024.size a) (i : Fin 512) (k : Fin 1024) :
    (Rect.block (s := S158208x1024) S512x1024.size o ho).emb (ix2 i k) = ix2 (rowOf ⟨n, hn⟩ i) k := by
  subst e
  funext a
  refine Fin.ext ?_
  match a with
  | ⟨0, _⟩ => show n * 512 + 1 * i.val = n * 512 + i.val; omega
  | ⟨1, _⟩ => show 0 * 1024 + 1 * k.val = k.val; omega

/-- The same of the words' blocks. -/
theorem words_emb (n : ℕ) (hn : n < 309) (o : Fin 2 → ℕ) (e : o = ![n, 0]) (ho : ∀ a, (o a + 1) * (S512x512.size : Fin 2 → ℕ) a ≤ S158208x512.size a) (i : Fin 512) (k : Fin 512) :
    (Rect.block (s := S158208x512) S512x512.size o ho).emb (ix2 i k) = ix2 (rowOf ⟨n, hn⟩ i) k := by
  subst e
  funext a
  refine Fin.ext ?_
  match a with
  | ⟨0, _⟩ => show n * 512 + 1 * i.val = n * 512 + i.val; omega
  | ⟨1, _⟩ => show 0 * 512 + 1 * k.val = k.val; omega

theorem bx_at (c : Dev nD) (t : Fin (cfgA T).N) (i : Fin 512) (k : Fin 512) :
    (bx T m ρ c t : IVec S512x512 32) (ix2 i k) = aX m c (ix2 (rowOf (pt T t) i) k) :=
  congrArg (aX m c) (words_emb t.val (pt T t).isLt (cc0_transform_0 (crd T t)) (congrArg (fun n => ![n, 0]) (row_val T t)) (hinb0 T.1 T.2 (0 : Fin 5) (crd T t)) i k)

include hb in
/-- What a point leaves in the result's block: the block's expert where the block holds tokens, else zero. -/
theorem after_at (c : Dev nD) (t : Fin (cfgA T).N) (i : Fin 512) (j : Fin 1024) :
    (after T m ρ c t : FVec Ideal S512x1024 .bf16) (ix2 i j)
      = if IntOp.cmpi .sgt (tV T (ix1 (pt T t)) : BitVec 32) 0#32 = 1#1 then
          expert (unpacked fun q => aX m c (ix2 (rowOf (pt T t) i) q)) (fun k h => aW1 m c (ix4 0 (eOf (tE T) hb (pt T t)) k h)) (fun k h => aW3 m c (ix4 0 (eOf (tE T) hb (pt T t)) k h))
            (fun h j => aW2 m c (ix4 0 (eOf (tE T) hb (pt T t)) h j)) j
        else 0 := by
  unfold after outv
  rw [show wordV (tV T) (crd T t) = tV T (ix1 (pt T t)) from word_at T (tV T) t _]
  by_cases h : IntOp.cmpi .sgt (tV T (ix1 (pt T t)) : BitVec 32) 0#32 = 1#1
  · rw [if_pos h, if_pos ((cond2_iff _).mpr h), tokens_pay]
    simp only [w1_pay, w3_pay, w2_pay, b1_at T m ρ hb, b3_at T m ρ hb, b2_at T m ρ hb, bx_at T m ρ]
  · rw [if_neg h, if_neg (fun h' => h ((cond2_iff _).mp h')), none_pay]

theorem covers4 : ((cfgA T).win (4 : Fin 5)).Covers := by
  refine Pipeline.Window.covers_of_index_surj _ rfl (fun a => by match a with | ⟨0, _⟩ => exact (by decide : 0 < 512) | ⟨1, _⟩ => exact (by decide : 0 < 1024)) fun β => ?_
  have h0 : (β (0 : Fin 2)).val < 309 := (β (0 : Fin 2)).isLt.trans_eq (show (158208 + 512 - 1) / 512 = 309 by decide)
  have h1 : (β (1 : Fin 2)).val < 1 := (β (1 : Fin 2)).isLt.trans_eq (show (1024 + 1024 - 1) / 1024 = 1 by decide)
  refine ⟨⟨(β (0 : Fin 2)).val, h0.trans_eq N_0.symm⟩, fun a => ?_⟩
  match a with
  | ⟨0, _⟩ => exact row_val T _
  | ⟨1, _⟩ => show 0 = (β (1 : Fin 2)).val; omega

include hp hb in
open Cert.ExpertsRefIdeal.Read in
theorem final4 (c : Dev nD) : (dats T m ρ 0 c).arrAt (4 : Fin 5) (cfgA T).N
    = val_main_v45 (F := Ideal) (aX m c) (m ((c : Thread nD τ).loc main_arg1)) (m ((c : Thread nD τ).loc main_arg2)) (aW1 m c) (aW3 m c) (aW2 m c) := by
  rw [hp.1 c, hp.2 c]
  refine (dats T m ρ 0 c).arrAt_eq_of_covers (4 : Fin 5) _ (covers4 T) fun t hf y => ?_
  have key : ∀ y : S512x1024.Idx, after T m ρ c t y
      = (val_main_v45 (F := Ideal) (aX m c) (tE T) (tV T) (aW1 m c) (aW3 m c) (aW2 m c) : FVec Ideal S158208x1024 .bf16)
          ((Rect.block (s := S158208x1024) S512x1024.size (cc0_transform_4 (crd T t)) (hinb0 T.1 T.2 (4 : Fin 5) (crd T t))).emb y) := by
    intro y
    idx_vars y
    rw [rows_emb t.val (pt T t).isLt (cc0_transform_4 (crd T t)) (congrArg (fun n => ![n, 0]) (row_val T t))]
    exact (after_at T m ρ hb c t _ _).trans (ExpertsRef.result_at (tE T) hb _ _ _ _ _ _ _ _).symm
  exact key y

end Cert.Proof.Experts

end
-- ==== Proof.GqaSpec.lean ====
module

public import Idealize.ShloMosaic.Lib.IdealHost

/-!
# Grouped-query attention over the extended reals

The mathematics the two programs share, with no program in sight: the norm of a head, the rotary turn of a
head, and a softmax-weighted mean in two forms. The first form divides the weighted sum by the sum of the
weights; the second divides each weight first. They agree when every score is a real number.
-/

@[expose] public section

noncomputable section

namespace Cert.Proof.GqaSpec

open Idealize.ShloMosaic
open scoped BigOperators

/-- The extended real is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sum {ι : Type} (s : Finset ι) {f : ι → EReal} (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The sum of real numbers, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.div {x y : EReal} (hx : IsReal x) (hy : IsReal y) (h0 : y ≠ 0) : IsReal (Ideal.div x y) := by
  obtain ⟨a, rfl⟩ := hx; obtain ⟨b, rfl⟩ := hy
  rw [Ideal.div, if_neg h0]
  exact ⟨a * b⁻¹, by rw [EReal.coe_mul, EReal.coe_inv]⟩

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem IsReal.of_ne {x : EReal} (ht : x ≠ ⊤) (hb : x ≠ ⊥) : IsReal x :=
  ⟨x.toReal, (EReal.coe_toReal ht hb).symm⟩

/-! ## Constants -/

/-- The f32 pattern `0x42800000` is sixty-four. -/
theorem lit_64 : Ideal.ofBits .f32 0x42800000#32 = ((64 : ℝ) : EReal) := by
  simp [Ideal.ofBits, Ideal.ieee, -EReal.coe_mul]; norm_num

/-- The f32 pattern `0x3C800000` is one sixty-fourth. -/
theorem lit_64th : Ideal.ofBits .f32 0x3C800000#32 = ((1 / 64 : ℝ) : EReal) := by
  simp [Ideal.ofBits, Ideal.ieee, -EReal.coe_mul]; norm_num

/-- The bf16 pattern `0x3E00` is one eighth. -/
theorem lit_8th_bf16 : Ideal.ofBits .bf16 0x3E00#16 = ((1 / 8 : ℝ) : EReal) := by
  simp [Ideal.ofBits, Ideal.ieee, -EReal.coe_mul]; norm_num

/-- The f32 pattern `0x3E000000` is one eighth. -/
theorem lit_8th : Ideal.ofBits .f32 0x3E000000#32 = ((1 / 8 : ℝ) : EReal) := by
  simp [Ideal.ofBits, Ideal.ieee, -EReal.coe_mul]; norm_num

/-- The f32 pattern `0xBF800000` is minus one. -/
theorem lit_neg_one : Ideal.ofBits .f32 0xBF800000#32 = ((-1 : ℝ) : EReal) := by
  simp [Ideal.ofBits, Ideal.ieee, -EReal.coe_mul, -EReal.coe_neg]; norm_num

/-- The f32 pattern `0xFF800000` is the bottom. -/
theorem lit_bot : Ideal.ofBits .f32 0xFF800000#32 = ⊥ := by
  simp [Ideal.ofBits, Ideal.ieee]

/-- The norm's epsilon. -/
def eps : EReal := Ideal.ofBits .f32 0x358637BD#32

theorem eps_pos : ∃ r : ℝ, 0 < r ∧ eps = (r : EReal) := by
  refine ⟨_, ?_, by simp only [eps, Ideal.ofBits, Ideal.ieee]; rfl⟩
  simp

/-! ## The norm of a head and its rotary turn -/

/-- The root-mean-square norm of a head of 64 lanes, times the gain. -/
def norm (x g : Fin 64 → EReal) (d : Fin 64) : EReal :=
  x d * Ideal.rsqrt ((∑ e, x e * x e) * ((1 / 64 : ℝ) : EReal) + eps) * g d

/-- The lane's partner in its pair. -/
def mate (d : Fin 64) : Fin 64 :=
  if d.val % 2 = 0 then ⟨(d.val + 1) % 64, by omega⟩ else ⟨d.val - 1, by omega⟩

/-- The sine's sign at a lane: minus at even lanes. -/
def sgn (d : Fin 64) (s : EReal) : EReal := if d.val % 2 = 0 then -s else s

/-- The number of the pair a lane lies in. -/
def pairOf (d : Fin 64) : Fin 32 := ⟨d.val / 2, by omega⟩

/-- The rotary turn of a head by the angles with the given cosines and sines. -/
def rot (c s : Fin 32 → EReal) (y : Fin 64 → EReal) (d : Fin 64) : EReal :=
  y d * c (pairOf d) + y (mate d) * sgn d (s (pairOf d))

theorem rot_one (y : Fin 64 → EReal) (d : Fin 64) : rot (fun _ => 1) (fun _ => 0) y d = y d := by
  simp [rot, sgn]

theorem sq_nonneg (x : EReal) : 0 ≤ x * x := by
  induction x with
  | bot => exact le_top
  | top => exact le_top
  | coe r => rw [← EReal.coe_mul]; exact_mod_cast mul_self_nonneg r

theorem sq_top {x : EReal} (h : ¬ IsReal x) : x * x = ⊤ := by
  induction x with
  | bot => rfl
  | top => rfl
  | coe r => exact absurd ⟨r, rfl⟩ h

/-- A normed head is real at every lane as soon as the gain is: a head with an infinite lane norms to zero. -/
theorem norm_real (x g : Fin 64 → EReal) (d : Fin 64) (hg : IsReal (g d)) : IsReal (norm x g d) := by
  obtain ⟨ε, hε, he⟩ := eps_pos
  by_cases h : ∀ e, IsReal (x e)
  · choose r hr using h
    have hs : (∑ e, x e * x e) * ((1 / 64 : ℝ) : EReal) + eps = (((∑ e, r e * r e) * (1 / 64) + ε : ℝ) : EReal) := by
      rw [he, EReal.coe_add, EReal.coe_mul]
      congr 2
      rw [coe_sum]
      exact Finset.sum_congr rfl fun e _ => by rw [hr, EReal.coe_mul]
    have hp : 0 < (∑ e, r e * r e) * (1 / 64) + ε := by
      have : 0 ≤ ∑ e, r e * r e := Finset.sum_nonneg fun e _ => mul_self_nonneg _
      positivity
    have hq : IsReal (Ideal.rsqrt (((∑ e, r e * r e) * (1 / 64) + ε : ℝ) : EReal)) := by
      change IsReal (if _ < (0 : ℝ) then ⊥ else if _ = (0 : ℝ) then ⊤ else ((Real.sqrt _)⁻¹ : ℝ))
      rw [if_neg (not_lt.mpr hp.le), if_neg hp.ne']
      exact IsReal.coe _
    rw [norm, hs]
    exact ((IsReal.mul ⟨_, hr d⟩ hq)).mul hg
  · push Not at h
    obtain ⟨e, he'⟩ := h
    have hs : (∑ e, x e * x e) = ⊤ := by
      refine top_le_iff.mp ?_
      rw [← sq_top he']
      exact Finset.single_le_sum (f := fun e => x e * x e) (fun i _ => sq_nonneg _) (Finset.mem_univ e)
    have ht : (⊤ : EReal) * ((1 / 64 : ℝ) : EReal) + eps = ⊤ := by
      rw [he, EReal.top_mul_coe_of_pos (by norm_num)]; rfl
    rw [norm, hs, ht, show Ideal.rsqrt ⊤ = 0 from rfl, mul_zero, zero_mul]
    exact IsReal.zero

theorem rot_real (c s : Fin 32 → EReal) (y : Fin 64 → EReal) (d : Fin 64) (hc : ∀ p, IsReal (c p))
    (hs : ∀ p, IsReal (s p)) (hy : ∀ d, IsReal (y d)) : IsReal (rot c s y d) := by
  refine ((hy _).mul (hc _)).add ((hy _).mul ?_)
  unfold sgn
  split
  · exact (hs _).neg
  · exact hs _

/-! ## The softmax-weighted mean -/

/-- The largest score, from the bottom up. -/
def top {ι : Type} [Fintype ι] (s : ι → EReal) : EReal := Finset.fold max ⊥ s Finset.univ

/-- The weighted sum over the sum of the weights. -/
def attn {ι : Type} [Fintype ι] (s v : ι → EReal) : EReal :=
  Ideal.div (∑ i, Ideal.exp (s i - top s) * v i) (∑ i, Ideal.exp (s i - top s))

/-- The sum of the values, each times its normalised weight. -/
def attn' {ι : Type} [Fintype ι] (s v : ι → EReal) : EReal :=
  ∑ i, Ideal.div (Ideal.exp (s i - top s)) (∑ i, Ideal.exp (s i - top s)) * v i

theorem top_comp {ι κ : Type} [Fintype ι] [Fintype κ] (e : κ ≃ ι) (s : ι → EReal) : top (s ∘ e) = top s := by
  unfold top
  rw [← Finset.map_univ_equiv e, Finset.fold_map]
  rfl

/-- The mean does not depend on the order of the keys. -/
theorem attn'_comp {ι κ : Type} [Fintype ι] [Fintype κ] (e : κ ≃ ι) (s v : ι → EReal) :
    attn' (s ∘ e) (v ∘ e) = attn' s v := by
  unfold attn'
  rw [top_comp e s]
  have h : (∑ i, Ideal.exp ((s ∘ e) i - top s)) = ∑ i, Ideal.exp (s i - top s) :=
    Equiv.sum_comp e fun i => Ideal.exp (s i - top s)
  rw [h]
  exact Equiv.sum_comp e fun i => Ideal.div (Ideal.exp (s i - top s)) (∑ i, Ideal.exp (s i - top s)) * v i

theorem top_real {ι : Type} [Fintype ι] [Nonempty ι] (s : ι → EReal) (h : ∀ i, IsReal (s i)) : IsReal (top s) := by
  have hmem : ∀ t : Finset ι, Finset.fold max ⊥ s t = t.sup s := by
    intro t; rfl
  unfold top
  rw [hmem]
  obtain ⟨i, _, hi⟩ := Finset.exists_mem_eq_sup Finset.univ Finset.univ_nonempty s
  rw [hi]
  exact h i

theorem mul_sum_real {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

/-- With real scores the two forms of the mean agree, whatever the values. -/
theorem attn_eq {ι : Type} [Fintype ι] [Nonempty ι] (s v : ι → EReal) (h : ∀ i, IsReal (s i)) :
    attn s v = attn' s v := by
  obtain ⟨M, hM⟩ := top_real s h
  choose r hr using h
  have hw : ∀ i, Ideal.exp (s i - top s) = ((Real.exp (r i - M) : ℝ) : EReal) := fun i => by
    rw [hM, hr, ← EReal.coe_sub]; rfl
  have hd : (∑ i, Ideal.exp (s i - top s)) = ((∑ i, Real.exp (r i - M) : ℝ) : EReal) := by
    rw [coe_sum]; exact Finset.sum_congr rfl fun i _ => hw i
  have hp : 0 < ∑ i, Real.exp (r i - M) :=
    Finset.sum_pos (fun i _ => Real.exp_pos _) Finset.univ_nonempty
  have h0 : ((∑ i, Real.exp (r i - M) : ℝ) : EReal) ≠ 0 := by exact_mod_cast hp.ne'
  unfold attn attn'
  rw [hd, Ideal.div, if_neg h0, ← EReal.coe_inv, mul_sum_real _ _ _ (inv_nonneg.mpr hp.le)]
  refine Finset.sum_congr rfl fun i _ => ?_
  rw [Ideal.div, if_neg h0, ← EReal.coe_inv]
  ac_rfl

end Cert.Proof.GqaSpec

end
-- ==== Proof.GqaLanes.lean ====
module

public import proofs.«01_k».proof.Proof.GqaSpec
public import Idealize.ShloMosaic.Lib.Pointwise

/-!
# Two heads side by side in 128 lanes

The kernel works on rows of 128 lanes that hold two heads of 64 lanes each. Its lane masks and lane
rotations, read at one lane, give the norm and the rotary turn of the head the lane lies in.
-/

@[expose] public section

set_option maxRecDepth 16384

noncomputable section

namespace Cert.Proof.GqaLanes

open Idealize.ShloMosaic Cert.Proof.GqaSpec
open scoped BigOperators

/-- Lane `d` of half `h`. -/
def lane (h : Fin 2) (d : Fin 64) : Fin 128 := ⟨h.val * 64 + d.val, by omega⟩

/-- The mask of the lower half, at a lane. -/
def low (j : Fin 128) : BitVec 1 := IntOp.cmpi .slt (BitVec.ofNat 32 j.val) 64#32

/-- The mask of the even lanes, at a lane. -/
def par (j : Fin 128) : BitVec 1 :=
  IntOp.cmpi CmpIPredicate.eq
    (Scalar.select
      (IntOp.andi
        (IntOp.xori
          (IntOp.cmpi CmpIPredicate.slt
            (IntOp.remsi ArithUnit.vector (BitVec.ofNat 32 j.val)
              (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (IntOp.cmpi CmpIPredicate.ne
          (IntOp.remsi ArithUnit.vector (BitVec.ofNat 32 j.val)
            (Scalar.select (Scalar.cmpi CmpIPredicate.eq 2#32 0#32) 1#32 2#32)) 0#32))
      (IntOp.addi
        (IntOp.remsi ArithUnit.vector (BitVec.ofNat 32 j.val)
          (Scalar.select (Scalar.cmpi CmpIPredicate.eq 2#32 0#32) 1#32 2#32))
        (Scalar.select (Scalar.cmpi CmpIPredicate.eq 2#32 0#32) 1#32 2#32))
      (IntOp.remsi ArithUnit.vector (BitVec.ofNat 32 j.val)
        (Scalar.select (Scalar.cmpi CmpIPredicate.eq 2#32 0#32) 1#32 2#32)))
    0#32

theorem low_lane : ∀ (h : Fin 2) (d : Fin 64), low (lane h d) = if h = 0 then 1#1 else 0#1 := by
  decide +kernel

theorem par_lane : ∀ (h : Fin 2) (d : Fin 64), par (lane h d) = if d.val % 2 = 0 then 1#1 else 0#1 := by
  decide +kernel

theorem low_sel {α : Type} (h : Fin 2) (d : Fin 64) (a b : α) :
    Scalar.select (low (lane h d)) a b = if h = 0 then a else b := by
  rw [low_lane]; split <;> rfl

theorem par_sel {α : Type} (h : Fin 2) (d : Fin 64) (a b : α) :
    Scalar.select (par (lane h d)) a b = if d.val % 2 = 0 then a else b := by
  rw [par_lane]; split <;> rfl

/-- A sum over 128 lanes is the sum over the two halves. -/
theorem sum_lanes (f : Fin 128 → EReal) : ∑ l, f l = ∑ e, f (lane 0 e) + ∑ e, f (lane 1 e) := by
  rw [show (∑ l, f l) = ∑ l : Fin (64 + 64), f l from rfl, Fin.sum_univ_add]
  refine congrArg₂ (· + ·) (Finset.sum_congr rfl fun e _ => congrArg f (Fin.ext ?_))
    (Finset.sum_congr rfl fun e _ => congrArg f (Fin.ext ?_))
  · simp [lane]
  · simp [lane]; omega

theorem sum_low (f : Fin 128 → EReal) : ∑ l, Scalar.select (low l) (f l) 0 = ∑ e, f (lane 0 e) := by
  rw [sum_lanes]; simp [low_sel]

theorem sum_high (f : Fin 128 → EReal) : ∑ l, Scalar.select (low l) 0 (f l) = ∑ e, f (lane 1 e) := by
  rw [sum_lanes]; simp [low_sel]

/-- The sum over the lane's own half, selected by the mask. -/
theorem sum_half (f : Fin 128 → EReal) (h : Fin 2) (d : Fin 64) :
    Scalar.select (low (lane h d)) (∑ l, Scalar.select (low l) (f l) 0) (∑ l, Scalar.select (low l) 0 (f l))
      = ∑ e, f (lane h e) := by
  rw [low_sel, sum_low, sum_high]
  fin_cases h <;> rfl

/-- The mask of the upper half, at a lane, as the negation of the lower half's. -/
def high (j : Fin 128) : BitVec 1 := IntOp.xori (IntOp.xori (low j) 0#1) 1#1

theorem sum_high' (f : Fin 128 → EReal) : ∑ l, Scalar.select (high l) (f l) 0 = ∑ e, f (lane 1 e) := by
  rw [← sum_high]
  refine Finset.sum_congr rfl fun l _ => ?_
  have h : low l = 0#1 ∨ low l = 1#1 := by
    generalize low l = b
    revert b; decide
  rcases h with h | h <;> simp only [high, h] <;> rfl

/-- A lane of one tile as the kernel writes it: the attention of the half the lane lies in, from scores summed
over that half's lanes. -/
def cell {ι : Type} [Fintype ι] (Q : Fin 128 → EReal) (K V : ι → Fin 128 → EReal) (j : Fin 128) : EReal :=
  Scalar.select (low j)
    (attn (fun i => ∑ l, Scalar.select (low l) (Q l * K i l) 0) (fun i => V i j))
    (attn (fun i => ∑ l, Scalar.select (high l) (Q l * K i l) 0) (fun i => V i j))

theorem cell_lane {ι : Type} [Fintype ι] (Q : Fin 128 → EReal) (K V : ι → Fin 128 → EReal) (h : Fin 2) (d : Fin 64) :
    cell Q K V (lane h d) = attn (fun i => ∑ e, Q (lane h e) * K i (lane h e)) (fun i => V i (lane h d)) := by
  rw [cell, low_sel]
  simp only [sum_low, sum_high']
  fin_cases h <;> rfl

/-- The norm of a row of two heads, as the kernel writes it. -/
def rms128 (x g : Fin 128 → EReal) (j : Fin 128) : EReal :=
  x j * Ideal.rsqrt (Scalar.select (low j) (∑ l, Scalar.select (low l) (x l * x l) 0)
    (∑ l, Scalar.select (low l) 0 (x l * x l)) * Ideal.ofBits FTy.f32 1015021568#32
      + Ideal.ofBits FTy.f32 897988541#32) * g j

theorem rms128_lane (x g : Fin 128 → EReal) (h : Fin 2) (d : Fin 64) :
    rms128 x g (lane h d) = norm (fun e => x (lane h e)) (fun e => g (lane h e)) d := by
  rw [rms128, sum_half (fun l => x l * x l), lit_64th]
  rfl

/-- The rotary turn of a normed row of two heads, as the kernel writes it. -/
def turn128 (x g cs sn : Fin 128 → EReal) (j : Fin 128) : EReal :=
  rms128 x g j * cs j
    + Scalar.select (par j) (rms128 x g ⟨(j.val + 128 - 127) % 128, by omega⟩)
        (rms128 x g ⟨(j.val + 128 - 1) % 128, by omega⟩) * sn j

theorem turn128_lane (x g cs sn : Fin 128 → EReal) (c s : Fin 32 → EReal) (h : Fin 2)
    (hc : ∀ d, cs (lane h d) = c (pairOf d)) (hs : ∀ d, sn (lane h d) = sgn d (s (pairOf d))) (d : Fin 64) :
    turn128 x g cs sn (lane h d) = rot c s (norm (fun e => x (lane h e)) (fun e => g (lane h e))) d := by
  rw [turn128, par_sel, rms128_lane, hc, hs, rot]
  congr 2
  rw [← rms128_lane, mate]
  split
  · refine congrArg _ (Fin.ext ?_)
    simp only [lane]; omega
  · refine congrArg _ (Fin.ext ?_)
    simp only [lane]; omega

end Cert.Proof.GqaLanes

end
-- ==== Proof.GqaRow.lean ====
module

public import proofs.«01_k».proof.Proof.GqaLanes
public import proofs.«01_k».proof.Proof.Gen.GqaIdeal.Value
public import Idealize.ShloMosaic.Lib.Pointwise

/-!
# The attention kernel's pieces, read at one lane

Keys after norm and rotary turn, the two copies the scratch holds, the queries, and one tile of the output.
-/

@[expose] public section

set_option maxRecDepth 16384

noncomputable section

namespace Cert.Proof.GqaRow

open Idealize.ShloMosaic Idealize.SL.Sem Cert.GqaIdeal Cert.GqaIdeal.Gen
open Cert.Proof.GqaSpec Cert.Proof.GqaLanes
open scoped BigOperators

/-- The queries of one tile: normed, turned, and times an eighth. -/
def qvec (x : FVec Ideal S1x256x128 .f32) (g : FVec Ideal S1x128 .f32) (cs sn : FVec Ideal S256x128 .f32) :
    FVec Ideal S256x128 .bf16 :=
  k0_pay68 (k0_pay65 x g) (k0_pay66 cs) sn

theorem qvec_at (x : FVec Ideal S1x256x128 .f32) (g : FVec Ideal S1x128 .f32) (cs sn : FVec Ideal S256x128 .f32)
    (r : Fin 256) (j : Fin 128) :
    (qvec x g cs sn : FVec Ideal S256x128 .bf16) (ix2 r j)
      = turn128 (fun l => x (ix3 0 r l)) (fun l => g (ix2 0 l)) (fun l => cs (ix2 r l)) (fun l => sn (ix2 r l)) j
        * Ideal.ofBits FTy.bf16 15872#16 := by
  pointwise [qvec, k0_pay68, k0_pay65, k0_pay66]
  rfl

/-- The keys of the whole sequence: normed and turned. -/
def kvec (x : FVec Ideal S1x2304x128 .f32) (g : FVec Ideal S1x128 .f32) (cs sn : FVec Ideal S2304x128 .f32) :
    FVec Ideal S2304x128 .f32 :=
  k0_pay10 (k0_pay7 x g) (k0_pay8 cs) (k0_pay9 sn) (iota .tc S1x128 32 [1] iota_S1x128_d1_w32) 2#32

theorem kvec_at (x : FVec Ideal S1x2304x128 .f32) (g : FVec Ideal S1x128 .f32) (cs sn : FVec Ideal S2304x128 .f32)
    (r : Fin 2304) (j : Fin 128) :
    (kvec x g cs sn : FVec Ideal S2304x128 .f32) (ix2 r j)
      = turn128 (fun l => x (ix3 0 r l)) (fun l => g (ix2 0 l)) (fun l => cs (ix2 r l)) (fun l => sn (ix2 r l)) j := by
  pointwise [kvec, k0_pay10, k0_pay7, k0_pay8, k0_pay9]
  rfl

theorem xor_xor : ∀ b : BitVec 1, IntOp.xori (IntOp.xori b 1#1) 1#1 = b := by decide

/-- The queries with the upper half's lanes set to zero, from 2304 keys' tile and from 256 keys' tile. -/
def qlow (x : FVec Ideal S1x256x128 .f32) (g : FVec Ideal S1x128 .f32) (cs sn : FVec Ideal S256x128 .f32) :
    FVec Ideal S256x128 .bf16 :=
  k0_pay69 (k0_pay65 x g) (k0_pay66 cs) sn

theorem qlow_at (x : FVec Ideal S1x256x128 .f32) (g : FVec Ideal S1x128 .f32) (cs sn : FVec Ideal S256x128 .f32)
    (r : Fin 256) (j : Fin 128) :
    (qlow x g cs sn : FVec Ideal S256x128 .bf16) (ix2 r j)
      = Scalar.select (low j) ((qvec x g cs sn : FVec Ideal S256x128 .bf16) (ix2 r j)) 0 := by
  have h : ∀ y : FVec Ideal S256x128 .bf16, (select (broadcastTo S256x128 (shapeCast S1x128
      (xori (xori k0_pay67 (broadcastTo S1x128 (broadcast S1x128 1#1) broadcasts_S1x128_S1x128))
        (constantI S1x128 1 1#1)) shapeCasts_S1x128_S1x128) broadcasts_S1x128_S256x128) y
      (broadcast S256x128 (Scalar.ofBits .bf16 0x0000#16)) : FVec Ideal S256x128 .bf16) (ix2 r j)
      = Scalar.select (low j) (y (ix2 r j)) 0 := by
    intro y
    pointwise [k0_pay67]
    rw [← xor_xor (low j)]
    rfl
  exact h (qvec x g cs sn)

/-- One tile of the output, from 2304 keys. -/
def tileB (x : FVec Ideal S1x256x128 .f32) (g : FVec Ideal S1x128 .f32) (cs sn : FVec Ideal S256x128 .f32)
    (K V : FVec Ideal S1x2304x128 .bf16) : FVec Ideal S1x256x128 .bf16 :=
  k0_pay71 (k0_pay70 (k0_pay63 K) (k0_pay64 V) k0_pay67 (qvec x g cs sn) (qlow x g cs sn)
    (constant S256x2304 FTy.f32 0#32))

/-- One tile of the output, from 256 keys. -/
def tileA (x : FVec Ideal S1x256x128 .f32) (g : FVec Ideal S1x128 .f32) (cs sn : FVec Ideal S256x128 .f32)
    (K V : FVec Ideal S1x256x128 .bf16) : FVec Ideal S1x256x128 .bf16 :=
  k0_pay24 (k0_pay23 (k0_pay16 K) (k0_pay17 V) k0_pay20 (qvec x g cs sn) (qlow x g cs sn)
    (constant S256x256 FTy.f32 0#32))

theorem sel_mul (b : BitVec 1) (q k : EReal) : Scalar.select b q 0 * k = Scalar.select b (q * k) 0 := by
  unfold Scalar.select
  split
  · rfl
  · exact zero_mul k

/-! ## The four tiles are one function -/

theorem tileA3 (x : FVec Ideal S1x256x128 .f32) (g : FVec Ideal S1x128 .f32) (cs sn : FVec Ideal S256x128 .f32)
    (K V : FVec Ideal S1x256x128 .bf16) :
    k0_pay5 (k0_pay49 V) k0_pay57 (k0_pay59 (k0_pay48 K) (k0_pay49 V) (k0_pay56 (k0_pay50 x) g k0_pay53 (k0_pay54 x) (k0_pay55 x) cs sn) k0_pay57) (k0_pay60 (k0_pay48 K) (k0_pay56 (k0_pay50 x) g k0_pay53 (k0_pay54 x) (k0_pay55 x) cs sn) k0_pay57) (k0_pay61 (k0_pay48 K) (k0_pay56 (k0_pay50 x) g k0_pay53 (k0_pay54 x) (k0_pay55 x) cs sn) k0_pay57) k0_pay62
      = tileA x g cs sn K V := rfl

theorem tileA2 (x : FVec Ideal S1x256x128 .f32) (g : FVec Ideal S1x128 .f32) (cs sn : FVec Ideal S256x128 .f32)
    (K V : FVec Ideal S1x256x128 .bf16) :
    k0_pay47 k0_pay40 (k0_pay43 (k0_pay36 K) (k0_pay37 V) k0_pay40 (k0_pay41 (k0_pay38 x) g (k0_pay39 x) (FloatOps.ofBits FTy.f32 897988541#32) cs sn) k0_pay42) (k0_pay45 (k0_pay36 K) k0_pay40 (k0_pay41 (k0_pay38 x) g (k0_pay39 x) (FloatOps.ofBits FTy.f32 897988541#32) cs sn)) (k0_pay46 (k0_pay36 K) (k0_pay37 V) k0_pay40 (k0_pay41 (k0_pay38 x) g (k0_pay39 x) (FloatOps.ofBits FTy.f32 897988541#32) cs sn)) (FloatOps.ofBits FTy.f32 0#32)
      = tileA x g cs sn K V := rfl

theorem tileA1 (x : FVec Ideal S1x256x128 .f32) (g : FVec Ideal S1x128 .f32) (cs sn : FVec Ideal S256x128 .f32)
    (K V : FVec Ideal S1x256x128 .bf16) :
    k0_pay35 (k0_pay32 (k0_pay25 K) (k0_pay26 V) (k0_pay30 (k0_pay27 x) (k0_pay28 g) cs sn) k0_pay31 (FloatOps.ofBits FTy.bf16 0#16)) (k0_pay33 (k0_pay25 K) (k0_pay26 V) k0_pay29 (k0_pay30 (k0_pay27 x) (k0_pay28 g) cs sn)) (k0_pay34 k0_pay29)
      = tileA x g cs sn K V := rfl

theorem tileA0 (x : FVec Ideal S1x256x128 .f32) (g : FVec Ideal S1x128 .f32) (cs sn : FVec Ideal S256x128 .f32)
    (K V : FVec Ideal S1x256x128 .bf16) :
    k0_pay24 (k0_pay23 (k0_pay16 K) (k0_pay17 V) k0_pay20 (k0_pay21 (k0_pay18 x g) (k0_pay19 cs) sn) (k0_pay22 (k0_pay18 x g) (k0_pay19 cs) sn) (constant S256x256 FTy.f32 0#32))
      = tileA x g cs sn K V := rfl

theorem tileB3 (x : FVec Ideal S1x256x128 .f32) (g : FVec Ideal S1x128 .f32) (cs sn : FVec Ideal S256x128 .f32)
    (K V : FVec Ideal S1x2304x128 .bf16) :
    k0_pay6 (k0_pay96 V) k0_pay104 (k0_pay106 (k0_pay95 K) (k0_pay96 V) (k0_pay103 (k0_pay97 x) g k0_pay100 (k0_pay101 x) (k0_pay102 x) cs sn) k0_pay104) (k0_pay107 (k0_pay95 K) (k0_pay103 (k0_pay97 x) g k0_pay100 (k0_pay101 x) (k0_pay102 x) cs sn) k0_pay104) (k0_pay108 (k0_pay95 K) (k0_pay103 (k0_pay97 x) g k0_pay100 (k0_pay101 x) (k0_pay102 x) cs sn) k0_pay104) k0_pay109
      = tileB x g cs sn K V := rfl

theorem tileB2 (x : FVec Ideal S1x256x128 .f32) (g : FVec Ideal S1x128 .f32) (cs sn : FVec Ideal S256x128 .f32)
    (K V : FVec Ideal S1x2304x128 .bf16) :
    k0_pay94 k0_pay87 (k0_pay90 (k0_pay83 K) (k0_pay84 V) k0_pay87 (k0_pay88 (k0_pay85 x) g (k0_pay86 x) (FloatOps.ofBits FTy.f32 897988541#32) cs sn) k0_pay89) (k0_pay92 (k0_pay83 K) k0_pay87 (k0_pay88 (k0_pay85 x) g (k0_pay86 x) (FloatOps.ofBits FTy.f32 897988541#32) cs sn)) (k0_pay93 (k0_pay83 K) (k0_pay84 V) k0_pay87 (k0_pay88 (k0_pay85 x) g (k0_pay86 x) (FloatOps.ofBits FTy.f32 897988541#32) cs sn)) (FloatOps.ofBits FTy.f32 0#32)
      = tileB x g cs sn K V := rfl

theorem tileB1 (x : FVec Ideal S1x256x128 .f32) (g : FVec Ideal S1x128 .f32) (cs sn : FVec Ideal S256x128 .f32)
    (K V : FVec Ideal S1x2304x128 .bf16) :
    k0_pay82 (k0_pay79 (k0_pay72 K) (k0_pay73 V) (k0_pay77 (k0_pay74 x) (k0_pay75 g) cs sn) k0_pay78 (FloatOps.ofBits FTy.bf16 0#16)) (k0_pay80 (k0_pay72 K) (k0_pay73 V) k0_pay76 (k0_pay77 (k0_pay74 x) (k0_pay75 g) cs sn)) (k0_pay81 k0_pay76)
      = tileB x g cs sn K V := rfl

theorem tileB0 (x : FVec Ideal S1x256x128 .f32) (g : FVec Ideal S1x128 .f32) (cs sn : FVec Ideal S256x128 .f32)
    (K V : FVec Ideal S1x2304x128 .bf16) :
    k0_pay71 (k0_pay70 (k0_pay63 K) (k0_pay64 V) k0_pay67 (k0_pay68 (k0_pay65 x g) (k0_pay66 cs) sn) (k0_pay69 (k0_pay65 x g) (k0_pay66 cs) sn) (constant S256x2304 FTy.f32 0#32))
      = tileB x g cs sn K V := rfl

theorem tileB_at (x : FVec Ideal S1x256x128 .f32) (g : FVec Ideal S1x128 .f32) (cs sn : FVec Ideal S256x128 .f32)
    (K V : FVec Ideal S1x2304x128 .bf16) (r : Fin 256) (j : Fin 128) :
    (tileB x g cs sn K V : FVec Ideal S1x256x128 .bf16) (ix3 0 r j)
      = cell (fun l => (qvec x g cs sn : FVec Ideal S256x128 .bf16) (ix2 r l)) (fun (i : Fin 2304) l => K (ix3 0 i l))
          (fun i l => V (ix3 0 i l)) j := by
  have h : ∀ Q Q' : FVec Ideal S256x128 .bf16, (∀ l, Q' (ix2 r l) = Scalar.select (low l) (Q (ix2 r l)) 0) →
      ((k0_pay71 (k0_pay70 (k0_pay63 K) (k0_pay64 V) k0_pay67 Q Q' (constant S256x2304 FTy.f32 0#32)) :
        FVec Ideal S1x256x128 .bf16) (ix3 0 r j) : EReal)
        = cell (fun l => Q (ix2 r l)) (fun (i : Fin 2304) l => K (ix3 0 i l)) (fun i l => V (ix3 0 i l)) j := by
    intro Q Q' hq
    pointwise [k0_pay71, k0_pay70, k0_pay63, k0_pay64, k0_pay67]
    simp only [hq, sel_mul]
    rw [lit_bot]
    rfl
  exact h _ _ (qlow_at x g cs sn r)

theorem tileA_at (x : FVec Ideal S1x256x128 .f32) (g : FVec Ideal S1x128 .f32) (cs sn : FVec Ideal S256x128 .f32)
    (K V : FVec Ideal S1x256x128 .bf16) (r : Fin 256) (j : Fin 128) :
    (tileA x g cs sn K V : FVec Ideal S1x256x128 .bf16) (ix3 0 r j)
      = cell (fun l => (qvec x g cs sn : FVec Ideal S256x128 .bf16) (ix2 r l)) (fun (i : Fin 256) l => K (ix3 0 i l))
          (fun i l => V (ix3 0 i l)) j := by
  have h : ∀ Q Q' : FVec Ideal S256x128 .bf16, (∀ l, Q' (ix2 r l) = Scalar.select (low l) (Q (ix2 r l)) 0) →
      ((k0_pay24 (k0_pay23 (k0_pay16 K) (k0_pay17 V) k0_pay20 Q Q' (constant S256x256 FTy.f32 0#32)) :
        FVec Ideal S1x256x128 .bf16) (ix3 0 r j) : EReal)
        = cell (fun l => Q (ix2 r l)) (fun (i : Fin 256) l => K (ix3 0 i l)) (fun i l => V (ix3 0 i l)) j := by
    intro Q Q' hq
    pointwise [k0_pay24, k0_pay23, k0_pay16, k0_pay17, k0_pay20]
    simp only [hq, sel_mul]
    rw [lit_bot]
    rfl
  exact h _ _ (qlow_at x g cs sn r)

/-- The two copies of the keys: the lower head in both halves, and the upper head in both halves. -/
def kcopy (h : Fin 2) (x : FVec Ideal S1x2304x128 .f32) (g : FVec Ideal S1x128 .f32)
    (cs sn : FVec Ideal S2304x128 .f32) : FVec Ideal S1x2304x128 .bf16 :=
  if h = 0 then
    k0_pay14 (k0_pay7 x g) (k0_pay8 cs) (k0_pay9 sn) (iota .tc S1x128 32 [1] iota_S1x128_d1_w32) 2#32
  else
    k0_pay1 (k0_pay15 (k0_pay7 x g) (k0_pay8 cs) (k0_pay9 sn) (iota .tc S1x128 32 [1] iota_S1x128_d1_w32) 2#32)

/-- The two copies of the values. -/
def vcopy (h : Fin 2) (x : FVec Ideal S1x2304x128 .f32) : FVec Ideal S1x2304x128 .bf16 :=
  if h = 0 then k0_pay3 (k0_pay11 x) k0_pay12 else k0_pay4 (k0_pay11 x) k0_pay12

theorem pay14_at (x : FVec Ideal S1x2304x128 .f32) (g : FVec Ideal S1x128 .f32)
    (cs sn : FVec Ideal S2304x128 .f32) (r : Fin 2304) (j : Fin 128) :
    (k0_pay14 (F := Ideal) (k0_pay7 x g) (k0_pay8 cs) (k0_pay9 sn) (iota .tc S1x128 32 [1] iota_S1x128_d1_w32) 2#32 :
        FVec Ideal S1x2304x128 .bf16) (ix3 0 r j)
      = Scalar.select (low j) ((kvec x g cs sn : FVec Ideal S2304x128 .f32) (ix2 r j))
          ((kvec x g cs sn : FVec Ideal S2304x128 .f32) (ix2 r ⟨(j.val + 128 - 64) % 128, by omega⟩)) := by
  have h : ∀ y : FVec Ideal S2304x128 .f32, (shapeCast S1x2304x128 (truncf .bf16 (select
      (broadcastTo S2304x128 (shapeCast S1x128 k0_pay12 shapeCasts_S1x128_S1x128) broadcasts_S1x128_S2304x128)
      y (dynamicRotate 1 64#32 none y rotates_S2304x128_d1)) bitsLt_bf16_f32) shapeCasts_S2304x128_S1x2304x128 :
        FVec Ideal S1x2304x128 .bf16) (ix3 0 r j)
      = Scalar.select (low j) (y (ix2 r j)) (y (ix2 r ⟨(j.val + 128 - 64) % 128, by omega⟩)) := by
    intro y
    pointwise [k0_pay12]
    rfl
  exact h (kvec x g cs sn)

theorem pay15_at (x : FVec Ideal S1x2304x128 .f32) (g : FVec Ideal S1x128 .f32)
    (cs sn : FVec Ideal S2304x128 .f32) (r : Fin 2304) (j : Fin 128) :
    (k0_pay1 (F := Ideal) (k0_pay15 (k0_pay7 x g) (k0_pay8 cs) (k0_pay9 sn)
        (iota .tc S1x128 32 [1] iota_S1x128_d1_w32) 2#32) : FVec Ideal S1x2304x128 .bf16) (ix3 0 r j)
      = Scalar.select (low j)
          ((kvec x g cs sn : FVec Ideal S2304x128 .f32) (ix2 r ⟨(j.val + 128 - 64) % 128, by omega⟩))
          ((kvec x g cs sn : FVec Ideal S2304x128 .f32) (ix2 r j)) := by
  have h : ∀ y : FVec Ideal S2304x128 .f32, (shapeCast S1x2304x128 (truncf .bf16 (select
      (broadcastTo S2304x128 (shapeCast S1x128 k0_pay12 shapeCasts_S1x128_S1x128) broadcasts_S1x128_S2304x128)
      (dynamicRotate 1 64#32 none y rotates_S2304x128_d1) y) bitsLt_bf16_f32) shapeCasts_S2304x128_S1x2304x128 :
        FVec Ideal S1x2304x128 .bf16) (ix3 0 r j)
      = Scalar.select (low j) (y (ix2 r ⟨(j.val + 128 - 64) % 128, by omega⟩)) (y (ix2 r j)) := by
    intro y
    pointwise [k0_pay12]
    rfl
  exact h (kvec x g cs sn)

theorem pay3_at (x : FVec Ideal S1x2304x128 .f32) (r : Fin 2304) (j : Fin 128) :
    (k0_pay3 (F := Ideal) (k0_pay11 x) k0_pay12 : FVec Ideal S1x2304x128 .bf16) (ix3 0 r j)
      = Scalar.select (low j) (x (ix3 0 r j)) (x (ix3 0 r ⟨(j.val + 128 - 64) % 128, by omega⟩)) := by
  pointwise [k0_pay3, k0_pay2, k0_pay11, k0_pay12]
  rfl

theorem pay4_at (x : FVec Ideal S1x2304x128 .f32) (r : Fin 2304) (j : Fin 128) :
    (k0_pay4 (F := Ideal) (k0_pay11 x) k0_pay12 : FVec Ideal S1x2304x128 .bf16) (ix3 0 r j)
      = Scalar.select (low j) (x (ix3 0 r ⟨(j.val + 128 - 64) % 128, by omega⟩)) (x (ix3 0 r j)) := by
  pointwise [k0_pay4, k0_pay2, k0_pay11, k0_pay12]
  rfl

theorem lane_swap (h : Fin 2) (d : Fin 64) :
    (⟨((lane h d).val + 128 - 64) % 128, by omega⟩ : Fin 128) = lane (1 - h) d := by
  fin_cases h <;> exact Fin.ext (by simp [lane]; try omega)

/-- A copy holds the same head in both halves. -/
theorem kcopy_at (a : Fin 2) (x : FVec Ideal S1x2304x128 .f32) (g : FVec Ideal S1x128 .f32)
    (cs sn : FVec Ideal S2304x128 .f32) (r : Fin 2304) (h : Fin 2) (d : Fin 64) :
    (kcopy a x g cs sn : FVec Ideal S1x2304x128 .bf16) (ix3 0 r (lane h d))
      = (kvec x g cs sn : FVec Ideal S2304x128 .f32) (ix2 r (lane a d)) := by
  unfold kcopy
  split
  · rw [pay14_at, lane_swap, low_sel]
    subst a
    fin_cases h <;> rfl
  · rw [pay15_at, lane_swap, low_sel]
    have ha : a = 1 := by omega
    subst ha
    fin_cases h <;> rfl

theorem vcopy_at (a : Fin 2) (x : FVec Ideal S1x2304x128 .f32) (r : Fin 2304) (h : Fin 2) (d : Fin 64) :
    (vcopy a x : FVec Ideal S1x2304x128 .bf16) (ix3 0 r (lane h d)) = x (ix3 0 r (lane a d)) := by
  unfold vcopy
  split
  · rw [pay3_at, lane_swap, low_sel]
    subst a
    fin_cases h <;> rfl
  · rw [pay4_at, lane_swap, low_sel]
    have ha : a = 1 := by omega
    subst ha
    fin_cases h <;> rfl

end Cert.Proof.GqaRow

end
-- ==== Proof.GqaValue.lean ====
module

public import proofs.«01_k».proof.Proof.GqaRow
public import proofs.«01_k».proof.Proof.Gen.GqaIdeal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.GqaValue

open Cert.GqaIdeal Cert.GqaIdeal.Gen Cert.Proof.GqaRow Cert.Proof.GqaSpec Cert.Proof.GqaLanes

variable (m : (ℓ : Loc nD τ sig) → Buf (Elt Ideal) ℓ)

/-! ## What the scratch holds -/

/-- The gain's row for the keys. -/
abbrev gk (c : Dev nD) (t : Fin cfg0.N) : FVec Ideal S1x128 .f32 :=
  View.ld (iblk m c 7 t) (Rect.unit ![1, 0] ![1, 128] inb_S2x128_S1x128_1_0)

/-- The copy of the keys for the key head `a`, made from the blocks of point `t`. -/
abbrev kc (c : Dev nD) (t : Fin cfg0.N) (a : Fin 2) : FVec Ideal S1x2304x128 .bf16 :=
  kcopy a (iblk m c 1 t) (gk m c t) (iblk m c 5 t) (iblk m c 6 t)

/-- The copy of the values for the key head `a`, made from the blocks of point `t`. -/
abbrev vc (c : Dev nD) (t : Fin cfg0.N) (a : Fin 2) : FVec Ideal S1x2304x128 .bf16 :=
  vcopy a (iblk m c 2 t)

theorem ix_eta {a b : ℕ} (x : (⟨3, ![1, a, b]⟩ : Shape).Idx) : x = ix3 0 (x 1) (x 2) := by
  funext k
  match k with
  | ⟨0, _⟩ => exact Subsingleton.elim (α := Fin 1) _ _
  | ⟨1, _⟩ => rfl
  | ⟨2, _⟩ => rfl

/-- What the scratch of the keys holds after the first point of a batch. -/
abbrev S0 (c : Dev nD) (t : Fin cfg0.N) : FVec Ideal S2x2304x128 .bf16 := fun y => kc m c t (y 0) (ix3 0 (y 1) (y 2))

/-- What the scratch of the values holds after the first point of a batch. -/
abbrev S1 (c : Dev nD) (t : Fin cfg0.N) : FVec Ideal S2x2304x128 .bf16 := fun y => vc m c t (y 0) (ix3 0 (y 1) (y 2))

theorem canon0 (c : Dev nD) (t : Fin cfg0.N) :
    (View.canon (Val := Elt Ideal) (e := .bf16) [⟨Rect.unit ![1, 0, 0] ![1, 2304, 128] inb_S2x2304x128_S1x2304x128_1_0_0,
        k0_pay1 (k0_pay15 (k0_pay7 (iblk m c 1 t) (gk m c t)) (k0_pay8 (iblk m c 5 t)) (k0_pay9 (iblk m c 6 t))
          (iota Kind.tc S1x128 32 [1] iota_S1x128_d1_w32) 2#32)⟩,
      ⟨Rect.unit ![0, 0, 0] ![1, 2304, 128] inb_S2x2304x128_S1x2304x128_0_0_0,
        k0_pay14 (k0_pay7 (iblk m c 1 t) (gk m c t)) (k0_pay8 (iblk m c 5 t)) (k0_pay9 (iblk m c 6 t))
          (iota Kind.tc S1x128 32 [1] iota_S1x128_d1_w32) 2#32⟩] : FVec Ideal S2x2304x128 .bf16) = S0 m c t := by
  funext y
  canon_tiles x h
  · obtain ⟨r, l, rfl⟩ : ∃ (r : Fin 2304) (l : Fin 128), x = (ix3 0 r l : S1x2304x128.Idx) := ⟨x 1, x 2, ix_eta x⟩
    have e0 : y 0 = (1 : Fin 2) := Fin.ext (by show (y 0).val = 1; omega)
    have e1 : y 1 = r := Fin.ext h1
    have e2 : y 2 = l := Fin.ext h2
    rw [S0, e0, e1, e2]
    rfl
  · obtain ⟨r, l, rfl⟩ : ∃ (r : Fin 2304) (l : Fin 128), x = (ix3 0 r l : S1x2304x128.Idx) := ⟨x 1, x 2, ix_eta x⟩
    have e0 : y 0 = (0 : Fin 2) := Fin.ext (by show (y 0).val = 0; omega)
    have e1 : y 1 = r := Fin.ext h1
    have e2 : y 2 = l := Fin.ext h2
    rw [S0, e0, e1, e2]
    rfl

theorem canon1 (c : Dev nD) (t : Fin cfg0.N) :
    (View.canon (Val := Elt Ideal) (e := .bf16) [⟨Rect.unit ![1, 0, 0] ![1, 2304, 128] inb_S2x2304x128_S1x2304x128_1_0_0,
        k0_pay4 (k0_pay11 (iblk m c 2 t)) k0_pay12⟩,
      ⟨Rect.unit ![0, 0, 0] ![1, 2304, 128] inb_S2x2304x128_S1x2304x128_0_0_0,
        k0_pay3 (k0_pay11 (iblk m c 2 t)) k0_pay12⟩] : FVec Ideal S2x2304x128 .bf16) = S1 m c t := by
  funext y
  canon_tiles x h
  · obtain ⟨r, l, rfl⟩ : ∃ (r : Fin 2304) (l : Fin 128), x = (ix3 0 r l : S1x2304x128.Idx) := ⟨x 1, x 2, ix_eta x⟩
    have e0 : y 0 = (1 : Fin 2) := Fin.ext (by show (y 0).val = 1; omega)
    have e1 : y 1 = r := Fin.ext h1
    have e2 : y 2 = l := Fin.ext h2
    rw [S1, e0, e1, e2]
    rfl
  · obtain ⟨r, l, rfl⟩ : ∃ (r : Fin 2304) (l : Fin 128), x = (ix3 0 r l : S1x2304x128.Idx) := ⟨x 1, x 2, ix_eta x⟩
    have e0 : y 0 = (0 : Fin 2) := Fin.ext (by show (y 0).val = 0; omega)
    have e1 : y 1 = r := Fin.ext h1
    have e2 : y 2 = l := Fin.ext h2
    rw [S1, e0, e1, e2]
    rfl

/-- The first point of a batch leaves both copies of the keys in the scratch. -/
theorem s0_A (c : Dev nD) (t : Fin cfg0.N) (h0 : t.val % 9 = 0) : (outsAt0 m c t.val t.isLt).2.1 = S0 m c t := by
  rw [outsAt0_A m c t h0 h0 (by omega)]
  dsimp only
  frame_out
  exact canon0 m c t

/-- The first point of a batch leaves both copies of the values in the scratch. -/
theorem s1_A (c : Dev nD) (t : Fin cfg0.N) (h0 : t.val % 9 = 0) : (outsAt0 m c t.val t.isLt).2.2 = S1 m c t := by
  rw [outsAt0_A m c t h0 h0 (by omega)]
  dsimp only
  frame_out
  exact canon1 m c t

/-- The other points leave the keys as they are. -/
theorem s0_B (c : Dev nD) (t : Fin cfg0.N) (h0 : ¬ t.val % 9 = 0) :
    (outsAt0 m c t.val t.isLt).2.1 = (outsAt0 m c (t.val - 1) (by omega)).2.1 := by
  rw [outsAt0_B m c t h0 h0 (by omega)]
  rfl

/-- The other points leave the values as they are. -/
theorem s1_B (c : Dev nD) (t : Fin cfg0.N) (h0 : ¬ t.val % 9 = 0) :
    (outsAt0 m c t.val t.isLt).2.2 = (outsAt0 m c (t.val - 1) (by omega)).2.2 := by
  rw [outsAt0_B m c t h0 h0 (by omega)]
  rfl

/-- The first point of the batch the point lies in. -/
abbrev first (t : Fin cfg0.N) : Fin cfg0.N := ⟨9 * (t.val / 9), by omega⟩

theorem s0_eq (c : Dev nD) (t : Fin cfg0.N) : (outsAt0 m c t.val t.isLt).2.1 = S0 m c (first t) :=
  Pipeline.eq_of_write_hold (fun n h => (outsAt0 m c n h).2.1) 9 (S0 m c) (fun t h => s0_A m c t h)
    (fun t h => s0_B m c t h) t

theorem s1_eq (c : Dev nD) (t : Fin cfg0.N) : (outsAt0 m c t.val t.isLt).2.2 = S1 m c (first t) :=
  Pipeline.eq_of_write_hold (fun n h => (outsAt0 m c n h).2.2) 9 (S1 m c) (fun t h => s1_A m c t h)
    (fun t h => s1_B m c t h) t

/-- Before a later point of a batch the scratch holds what the first point left. -/
theorem s0_prev (c : Dev nD) (t : Fin cfg0.N) (h0 : ¬ t.val % 9 = 0) :
    (outsAt0 m c (t.val - 1) (by omega)).2.1 = S0 m c (first t) := (s0_B m c t h0).symm.trans (s0_eq m c t)

theorem s1_prev (c : Dev nD) (t : Fin cfg0.N) (h0 : ¬ t.val % 9 = 0) :
    (outsAt0 m c (t.val - 1) (by omega)).2.2 = S1 m c (first t) := (s1_B m c t h0).symm.trans (s1_eq m c t)

/-! ## The output of one point -/

/-- Lane `l` of tile `T`. -/
abbrev col (T : Fin 4) (l : Fin 128) : Fin 512 := ⟨T.val * 128 + l.val, by omega⟩

/-- The key head of a tile. -/
abbrev grp (T : Fin 4) : Fin 2 := ⟨T.val / 2, by omega⟩

/-- The query row of tile `T`: normed, turned, and times an eighth. -/
abbrev qrow (c : Dev nD) (t : Fin cfg0.N) (T : Fin 4) (r : Fin 256) (l : Fin 128) : EReal :=
  turn128 (fun l => (X0_0 m c t : FVec Ideal S1x256x512 .f32) (ix3 0 r (col T l))) (fun l => (iblk m c 7 t : FVec Ideal S2x128 .f32) (ix2 0 l))
    (fun l => (iblk m c 3 t : FVec Ideal S256x128 .f32) (ix2 r l))
    (fun l => (iblk m c 4 t : FVec Ideal S256x128 .f32) (ix2 r l)) l * Ideal.ofBits FTy.bf16 15872#16

/-- A tile of the output at a point past the context. -/
def outB (c : Dev nD) (t : Fin cfg0.N) (T : Fin 4) (r : Fin 256) (l : Fin 128) : EReal :=
  cell (qrow m c t T r) (fun (i : Fin 2304) l => kc m c (first t) (grp T) (ix3 0 i l))
    (fun i l => vc m c (first t) (grp T) (ix3 0 i l)) l

/-- A tile of the output at a context point: only the first 256 keys are seen. -/
def outA (c : Dev nD) (t : Fin cfg0.N) (T : Fin 4) (r : Fin 256) (l : Fin 128) : EReal :=
  cell (qrow m c t T r) (fun (i : Fin 256) l => kc m c t (grp T) (ix3 0 ⟨i.val, by omega⟩ l))
    (fun i l => vc m c t (grp T) (ix3 0 ⟨i.val, by omega⟩ l)) l

theorem ix_lane (T : Fin 4) (r : Fin 256) (l : Fin 128) (n : Fin 512) (h : n.val = T.val * 128 + l.val) :
    (ix3 0 r n : S1x256x512.Idx) = ix3 0 r (col T l) := congrArg (ix3 0 r) (Fin.ext h)

theorem outB_of (c : Dev nD) (t : Fin cfg0.N) (T : Fin 4) (r : Fin 256) (l : Fin 128) (g : Fin 2) (hg : g = grp T) (f : Fin 128 → S1x256x512.Idx)
    (hf : ∀ l, f l = ix3 0 r (col T l)) :
    cell (fun l => turn128 (fun l => (X0_0 m c t : FVec Ideal S1x256x512 .f32) (f l)) (fun l => (iblk m c 7 t : FVec Ideal S2x128 .f32) (ix2 0 l))
            (fun l => (iblk m c 3 t : FVec Ideal S256x128 .f32) (ix2 r l)) (fun l => (iblk m c 4 t : FVec Ideal S256x128 .f32) (ix2 r l)) l *
          Ideal.ofBits FTy.bf16 15872#16)
      (fun (i : Fin 2304) l => S0 m c (first t) (ix3 g i l)) (fun i l => S1 m c (first t) (ix3 g i l)) l = outB m c t T r l := by
  subst hg
  obtain rfl : f = fun l => ix3 0 r (col T l) := funext hf
  rfl

theorem outA_of (c : Dev nD) (t : Fin cfg0.N) (T : Fin 4) (r : Fin 256) (l : Fin 128) (K0 : FVec Ideal S2x2304x128 .bf16) (hK : K0 = S0 m c t) (g : Fin 2) (hg : g = grp T) (f : Fin 128 → S1x256x512.Idx)
    (hf : ∀ l, f l = ix3 0 r (col T l)) :
    cell (fun l => turn128 (fun l => (X0_0 m c t : FVec Ideal S1x256x512 .f32) (f l)) (fun l => (iblk m c 7 t : FVec Ideal S2x128 .f32) (ix2 0 l))
            (fun l => (iblk m c 3 t : FVec Ideal S256x128 .f32) (ix2 r l)) (fun l => (iblk m c 4 t : FVec Ideal S256x128 .f32) (ix2 r l)) l *
          Ideal.ofBits FTy.bf16 15872#16)
      (fun (i : Fin 256) l => K0 (ix3 g ⟨i.val, by omega⟩ l)) (fun i l => S1 m c t (ix3 g ⟨i.val, by omega⟩ l)) l
      = outA m c t T r l := by
  subst hg
  subst hK
  obtain rfl : f = fun l => ix3 0 r (col T l) := funext hf
  rfl

theorem o_B (c : Dev nD) (t : Fin cfg0.N) (h0 : ¬ t.val % 9 = 0) (y : S1x256x512.Idx) :
    (outsAt0 m c t.val t.isLt).1 y
      = outB m c t ⟨(y 2).val / 128, by have := (y 2).isLt; simp at this; omega⟩ (y 1) ⟨(y 2).val % 128, by omega⟩ := by
  have k0 := s0_prev m c t h0
  have k1 := s1_prev m c t h0
  rw [outsAt0_B m c t h0 h0 (by omega)]
  dsimp only
  frame_out
  simp only [read_unread_whole, k0, k1]
  canon_tiles x h
  · obtain ⟨r, l, rfl⟩ : ∃ (r : Fin 256) (l : Fin 128), x = (ix3 0 r l : S1x256x128.Idx) := ⟨x 1, x 2, ix_eta x⟩
    have h2' : (y 2).val = 384 + l.val := h2
    rw [show (⟨(y 2).val / 128, by omega⟩ : Fin 4) = 3 from Fin.ext (by show (y 2).val / 128 = 3; omega),
      show (⟨(y 2).val % 128, by omega⟩ : Fin 128) = l from Fin.ext (by show (y 2).val % 128 = l.val; omega),
      show y 1 = r from Fin.ext h1, tileB3, tileB_at]
    simp only [qvec_at]
    pointwise []
    exact outB_of m c t 3 r l 1 (by decide) (fun l => ix3 0 r ⟨384 + l.val, by omega⟩) (fun l => congrArg (ix3 0 r) (Fin.ext (by show 384 + l.val = 3 * 128 + l.val; omega)))
  · obtain ⟨r, l, rfl⟩ : ∃ (r : Fin 256) (l : Fin 128), x = (ix3 0 r l : S1x256x128.Idx) := ⟨x 1, x 2, ix_eta x⟩
    have h2' : (y 2).val = 256 + l.val := h2
    rw [show (⟨(y 2).val / 128, by omega⟩ : Fin 4) = 2 from Fin.ext (by show (y 2).val / 128 = 2; omega),
      show (⟨(y 2).val % 128, by omega⟩ : Fin 128) = l from Fin.ext (by show (y 2).val % 128 = l.val; omega),
      show y 1 = r from Fin.ext h1, tileB2, tileB_at]
    simp only [qvec_at]
    pointwise []
    exact outB_of m c t 2 r l 1 (by decide) (fun l => ix3 0 r ⟨256 + l.val, by omega⟩) (fun l => congrArg (ix3 0 r) (Fin.ext (by show 256 + l.val = 2 * 128 + l.val; omega)))
  · obtain ⟨r, l, rfl⟩ : ∃ (r : Fin 256) (l : Fin 128), x = (ix3 0 r l : S1x256x128.Idx) := ⟨x 1, x 2, ix_eta x⟩
    have h2' : (y 2).val = 128 + l.val := h2
    rw [show (⟨(y 2).val / 128, by omega⟩ : Fin 4) = 1 from Fin.ext (by show (y 2).val / 128 = 1; omega),
      show (⟨(y 2).val % 128, by omega⟩ : Fin 128) = l from Fin.ext (by show (y 2).val % 128 = l.val; omega),
      show y 1 = r from Fin.ext h1, tileB1, tileB_at]
    simp only [qvec_at]
    pointwise []
    exact outB_of m c t 1 r l 0 (by decide) (fun l => ix3 0 r ⟨128 + l.val, by omega⟩) (fun l => congrArg (ix3 0 r) (Fin.ext (by show 128 + l.val = 1 * 128 + l.val; omega)))
  · obtain ⟨r, l, rfl⟩ : ∃ (r : Fin 256) (l : Fin 128), x = (ix3 0 r l : S1x256x128.Idx) := ⟨x 1, x 2, ix_eta x⟩
    have h2' : (y 2).val = l.val := h2
    rw [show (⟨(y 2).val / 128, by omega⟩ : Fin 4) = 0 from Fin.ext (by show (y 2).val / 128 = 0; omega),
      show (⟨(y 2).val % 128, by omega⟩ : Fin 128) = l from Fin.ext (by show (y 2).val % 128 = l.val; omega),
      show y 1 = r from Fin.ext h1, tileB0, tileB_at]
    simp only [qvec_at]
    pointwise []
    exact outB_of m c t 0 r l 0 (by decide) (fun l => ix3 0 r ⟨l.val, by omega⟩) (fun l => congrArg (ix3 0 r) (Fin.ext (by show l.val = 0 * 128 + l.val; omega)))
theorem o_A (c : Dev nD) (t : Fin cfg0.N) (h0 : t.val % 9 = 0) (y : S1x256x512.Idx) :
    (outsAt0 m c t.val t.isLt).1 y
      = outA m c t ⟨(y 2).val / 128, by have := (y 2).isLt; simp at this; omega⟩ (y 1) ⟨(y 2).val % 128, by omega⟩ := by
  rw [outsAt0_A m c t h0 h0 (by omega)]
  dsimp only
  frame_out
  simp only [View.readCov_eq_canon', canon1]
  canon_tiles x h
  · obtain ⟨r, l, rfl⟩ : ∃ (r : Fin 256) (l : Fin 128), x = (ix3 0 r l : S1x256x128.Idx) := ⟨x 1, x 2, ix_eta x⟩
    have h2' : (y 2).val = 384 + l.val := h2
    rw [show (⟨(y 2).val / 128, by omega⟩ : Fin 4) = 3 from Fin.ext (by show (y 2).val / 128 = 3; omega),
      show (⟨(y 2).val % 128, by omega⟩ : Fin 128) = l from Fin.ext (by show (y 2).val % 128 = l.val; omega),
      show y 1 = r from Fin.ext h1, tileA3, tileA_at]
    simp only [qvec_at]
    pointwise []
    exact outA_of m c t 3 r l _ (canon0 m c t) 1 (by decide) (fun l => ix3 0 r ⟨384 + l.val, by omega⟩) (fun l => congrArg (ix3 0 r) (Fin.ext (by show 384 + l.val = 3 * 128 + l.val; omega)))
  · obtain ⟨r, l, rfl⟩ : ∃ (r : Fin 256) (l : Fin 128), x = (ix3 0 r l : S1x256x128.Idx) := ⟨x 1, x 2, ix_eta x⟩
    have h2' : (y 2).val = 256 + l.val := h2
    rw [show (⟨(y 2).val / 128, by omega⟩ : Fin 4) = 2 from Fin.ext (by show (y 2).val / 128 = 2; omega),
      show (⟨(y 2).val % 128, by omega⟩ : Fin 128) = l from Fin.ext (by show (y 2).val % 128 = l.val; omega),
      show y 1 = r from Fin.ext h1, tileA2, tileA_at]
    simp only [qvec_at]
    pointwise []
    exact outA_of m c t 2 r l _ (canon0 m c t) 1 (by decide) (fun l => ix3 0 r ⟨256 + l.val, by omega⟩) (fun l => congrArg (ix3 0 r) (Fin.ext (by show 256 + l.val = 2 * 128 + l.val; omega)))
  · obtain ⟨r, l, rfl⟩ : ∃ (r : Fin 256) (l : Fin 128), x = (ix3 0 r l : S1x256x128.Idx) := ⟨x 1, x 2, ix_eta x⟩
    have h2' : (y 2).val = 128 + l.val := h2
    rw [show (⟨(y 2).val / 128, by omega⟩ : Fin 4) = 1 from Fin.ext (by show (y 2).val / 128 = 1; omega),
      show (⟨(y 2).val % 128, by omega⟩ : Fin 128) = l from Fin.ext (by show (y 2).val % 128 = l.val; omega),
      show y 1 = r from Fin.ext h1, tileA1, tileA_at]
    simp only [qvec_at]
    pointwise []
    exact outA_of m c t 1 r l _ (canon0 m c t) 0 (by decide) (fun l => ix3 0 r ⟨128 + l.val, by omega⟩) (fun l => congrArg (ix3 0 r) (Fin.ext (by show 128 + l.val = 1 * 128 + l.val; omega)))
  · obtain ⟨r, l, rfl⟩ : ∃ (r : Fin 256) (l : Fin 128), x = (ix3 0 r l : S1x256x128.Idx) := ⟨x 1, x 2, ix_eta x⟩
    have h2' : (y 2).val = l.val := h2
    rw [show (⟨(y 2).val / 128, by omega⟩ : Fin 4) = 0 from Fin.ext (by show (y 2).val / 128 = 0; omega),
      show (⟨(y 2).val % 128, by omega⟩ : Fin 128) = l from Fin.ext (by show (y 2).val % 128 = l.val; omega),
      show y 1 = r from Fin.ext h1, tileA0, tileA_at]
    simp only [qvec_at]
    pointwise []
    exact outA_of m c t 0 r l _ (canon0 m c t) 0 (by decide) (fun l => ix3 0 r ⟨l.val, by omega⟩) (fun l => congrArg (ix3 0 r) (Fin.ext (by show l.val = 0 * 128 + l.val; omega)))
end Cert.Proof.GqaValue
end
-- ==== Proof.GqaBlocks.lean ====
module

public import proofs.«01_k».proof.Proof.GqaValue

@[expose] public section

set_option maxRecDepth 16384

noncomputable section

open Idealize.ShloMosaic Idealize.ShloMosaic.TcCoe Idealize.SL.Sem
open Idealize.ShloMosaic.Pipeline (Dat)

namespace Cert.Proof.GqaValue

open Cert.GqaIdeal Cert.GqaIdeal.Gen Cert.Proof.GqaRow Cert.Proof.GqaSpec Cert.Proof.GqaLanes

variable (m : (ℓ : Loc nD τ sig) → Buf (Elt Ideal) ℓ)

theorem idx_val : ∀ t : Fin cfg0.N, win0_0.index t = ![t.val / 9, t.val % 9, 0]
    ∧ win0_1.index t = ![t.val / 9, 0, 4] ∧ win0_2.index t = ![t.val / 9, 0, 5]
    ∧ win0_3.index t = ![t.val % 9, 0] ∧ win0_4.index t = ![t.val % 9, 0]
    ∧ win0_5.index t = ![0, 0] ∧ win0_6.index t = ![0, 0] ∧ win0_7.index t = ![0, 0]
    ∧ win0_8.index t = ![t.val / 9, t.val % 9, 0] ∧ t.val / 9 < 8 :=
  (by decide +kernel : ∀ t : Fin grid0.N, _)

/-- The batch entry a point works on. -/
abbrev bt (t : Fin cfg0.N) : Fin 8 := ⟨t.val / 9, (idx_val t).2.2.2.2.2.2.2.2.2⟩

/-- The sequence row of a point's row. -/
abbrev rw_ (t : Fin cfg0.N) (r : Fin 256) : Fin 2304 := ⟨t.val % 9 * 256 + r.val, by omega⟩

abbrev aP (c : Dev nD) : FVec Ideal S8x2304x768 .f32 := m ((c : Thread nD τ).loc main_arg0)
abbrev aG (c : Dev nD) : FVec Ideal S2x64 .f32 := m ((c : Thread nD τ).loc main_arg1)

theorem blk0 (c : Dev nD) (t : Fin cfg0.N) (r : Fin 256) (n : Fin 512) :
    (X0_0 m c t : FVec Ideal S1x256x512 .f32) (ix3 0 r n) = aP m c (ix3 (bt t) (rw_ t r) ⟨n.val, by omega⟩) := by
  unfold X0_0 Pipeline.Window.fill
  rw [dif_pos (moved0_0 t _)]
  blk_ext [iblk, idx_val t]

theorem blk1 (c : Dev nD) (t : Fin cfg0.N) (r : Fin 2304) (n : Fin 128) :
    (iblk m c 1 t : FVec Ideal S1x2304x128 .f32) (ix3 0 r n) = aP m c (ix3 (bt t) r ⟨512 + n.val, by omega⟩) := by
  blk_ext [iblk, idx_val t]

theorem blk2 (c : Dev nD) (t : Fin cfg0.N) (r : Fin 2304) (n : Fin 128) :
    (iblk m c 2 t : FVec Ideal S1x2304x128 .f32) (ix3 0 r n) = aP m c (ix3 (bt t) r ⟨640 + n.val, by omega⟩) := by
  blk_ext [iblk, idx_val t]

theorem blk3 (c : Dev nD) (t : Fin cfg0.N) (r : Fin 256) (n : Fin 128) :
    (iblk m c 3 t : FVec Ideal S256x128 .f32) (ix2 r n) = (V m c main_v36 : FVec Ideal S2304x128 .f32) (ix2 (rw_ t r) n) := by
  blk_ext [iblk, idx_val t]

theorem blk4 (c : Dev nD) (t : Fin cfg0.N) (r : Fin 256) (n : Fin 128) :
    (iblk m c 4 t : FVec Ideal S256x128 .f32) (ix2 r n) = (V m c main_v47 : FVec Ideal S2304x128 .f32) (ix2 (rw_ t r) n) := by
  blk_ext [iblk, idx_val t]

theorem blk5 (c : Dev nD) (t : Fin cfg0.N) (r : Fin 2304) (n : Fin 128) :
    (iblk m c 5 t : FVec Ideal S2304x128 .f32) (ix2 r n) = (V m c main_v36 : FVec Ideal S2304x128 .f32) (ix2 r n) := by
  blk_ext [iblk, idx_val t]

theorem blk6 (c : Dev nD) (t : Fin cfg0.N) (r : Fin 2304) (n : Fin 128) :
    (iblk m c 6 t : FVec Ideal S2304x128 .f32) (ix2 r n) = (V m c main_v47 : FVec Ideal S2304x128 .f32) (ix2 r n) := by
  blk_ext [iblk, idx_val t]

theorem blk7 (c : Dev nD) (t : Fin cfg0.N) (e : Fin 2) (n : Fin 128) :
    (iblk m c 7 t : FVec Ideal S2x128 .f32) (ix2 e n) = (V m c main_v50 : FVec Ideal S2x128 .f32) (ix2 e n) := by
  blk_ext [iblk, idx_val t]

end Cert.Proof.GqaValue

end
-- ==== Proof.GqaTables.lean ====
module

public import proofs.«01_k».proof.Proof.GqaBlocks
public import proofs.«01_k».proof.Proof.Gen.GqaRefIdeal.Read

@[expose] public section

set_option maxRecDepth 16384

noncomputable section

open Idealize.ShloMosaic Idealize.ShloMosaic.TcCoe Idealize.SL.Sem
open Idealize.ShloMosaic.Pipeline (Dat)

namespace Cert.Proof.GqaValue

open Cert.GqaIdeal Cert.GqaIdeal.Gen Cert.Proof.GqaRow Cert.Proof.GqaSpec Cert.Proof.GqaLanes

variable (m : (ℓ : Loc nD τ sig) → Buf (Elt Ideal) ℓ)

/-- The cosine of the rope, by sequence row: the context's rows are not turned. -/
def cosRow (i : Fin 2304) (p : Fin 32) : EReal :=
  if h : i.val < 256 then 1 else (Cert.GqaRefIdeal.Read.val_main_v100 (F := Ideal) : FVec Ideal S2048x32 .f32) (ix2 ⟨i.val - 256, by omega⟩ p)

def sinRow (i : Fin 2304) (p : Fin 32) : EReal :=
  if h : i.val < 256 then 0 else (Cert.GqaRefIdeal.Read.val_main_v101 (F := Ideal) : FVec Ideal S2048x32 .f32) (ix2 ⟨i.val - 256, by omega⟩ p)

theorem lit_one : Ideal.ofBits .f32 0x3F800000#32 = 1 := by
  pointwise []

theorem lit_zero : Ideal.ofBits .f32 0x00000000#32 = 0 := by
  pointwise []

theorem gain_read (c : Dev nD) (e h : Fin 2) (d : Fin 64) :
    (V m c main_v50 : FVec Ideal S2x128 .f32) (ix2 e (lane h d)) = aG m c (ix2 e d) := by
  simp only [V, hostOps0, hostOps0_1, hostOps0_2, hostOps0_3, hostOps0_4, List.flatten_cons, List.flatten_nil, List.append_nil, List.cons_append, List.nil_append]
  after_reads_at
  exact congrArg (fun z => aG m c (ix2 e z)) (Fin.ext (by show (h.val * 64 + d.val) % 64 = d.val; omega))

/-- A table of the rope spread over the lanes: each entry twice, and all of it once per head of a lane block. -/
def spread (x : FVec Ideal S2304x32 .f32) : FVec Ideal S2304x128 .f32 :=
  shapeCast _ (broadcastInDim S1x2304x2x64 ![0, 1, 2, 3] bcast_S1x2304x1x64_S1x2304x2x64_0_1_2_3
    (shapeCast S1x2304x1x64 (shapeCast S2304x64 (broadcastInDim S2304x32x2 ![0, 1] bcast_S2304x32_S2304x32x2_0_1 x)
      shapeCasts_S2304x32x2_S2304x64) shapeCasts_S2304x64_S1x2304x1x64)) shapeCasts_S1x2304x2x64_S2304x128

theorem spread_at (x : FVec Ideal S2304x32 .f32) (i : Fin 2304) (h : Fin 2) (d : Fin 64) :
    (spread x : FVec Ideal S2304x128 .f32) (ix2 i (lane h d)) = x (ix2 i (pairOf d)) := by
  pointwise [spread]
  exact congrArg (fun z => x (ix2 i z)) (Fin.ext (by show (h.val * 64 + d.val) % 64 / 2 = d.val / 2; omega))

/-- A table of the rope with rows of `z` for the context put before it. -/
def withCtx (z : BitVec 32) (x : FVec Ideal S2048x32 .f32) : FVec Ideal S2304x32 .f32 :=
  concatenate S2304x32 0 [⟨S256x32, broadcastInDim S256x32 ![] bcast_S_S256x32 (constant (F := Ideal) S_ .f32 z)⟩, ⟨S2048x32, x⟩]
    concatenates_S256x32_S2048x32_S2304x32_d0

theorem withCtx_at (z : BitVec 32) (x : FVec Ideal S2048x32 .f32) (i : Fin 2304) (p : Fin 32) :
    (withCtx z x : FVec Ideal S2304x32 .f32) (ix2 i p)
      = if h : i.val < 256 then Ideal.ofBits .f32 z else x (ix2 ⟨i.val - 256, by omega⟩ p) := by
  pointwise [withCtx]

set_option maxHeartbeats 1000000 in
theorem cos_host (c : Dev nD) : (V m c main_v36 : FVec Ideal S2304x128 .f32)
    = spread (withCtx 0x3F800000#32 (Cert.GqaRefIdeal.Read.val_main_v100 (F := Ideal))) := by
  simp only [V, hostOps0, hostOps0_1, hostOps0_2, hostOps0_3, hostOps0_4, List.flatten_cons, List.flatten_nil, List.append_nil, List.cons_append, List.nil_append]
  after_reads_simp
  refine congrArg (fun z => spread (withCtx 0x3F800000#32 z)) (?_ : (_ : FVec Ideal S2048x32 .f32) = _)
  after_reads_simp
  refine congrArg (Host.cos : FVec Ideal S2048x32 .f32 → FVec Ideal S2048x32 .f32) ?_
  refine congrArg₂ (fun a b => (concatenate S2048x32 1 [⟨S2048x16, a⟩, ⟨S2048x16, b⟩] concatenates_S2048x16_S2048x16_S2048x32_d1 : FVec Ideal S2048x32 .f32)) ?_ ?_
  · after_reads_simp
    simp -implicitDefEqProofs only [StableHlo.TRef.toBuf, StableHlo.TRef.ofBuf, cast_cast, cast_eq]
    rfl
  · after_reads_simp
    simp -implicitDefEqProofs only [StableHlo.TRef.toBuf, StableHlo.TRef.ofBuf, cast_cast, cast_eq]
    rfl

/-- The signs of the lanes: minus one at the even ones. -/
def signs : FVec Ideal S2304x128 .f32 :=
  broadcastInDim S2304x128 ![0, 1] bcast_S1x128_S2304x128_0_1 (broadcastInDim S1x128 ![1] bcast_S128_S1x128_1
    (shapeCast S128 (broadcastInDim S64x2 ![0, 1] bcast_S1x2_S64x2_0_1
      (shapeCast S1x2 (fun i => Ideal.ofBits .f32 (lit0 (S2.rowMajor i)) : FVec Ideal S2 .f32) shapeCasts_S2_S1x2)) shapeCasts_S64x2_S128))

theorem lit0_row : ∀ k : Fin 2, lit0 (S2.rowMajor (ix1 k)) = if k.val = 0 then 0xBF800000#32 else 0x3F800000#32 := by decide

theorem signs_at (i : Fin 2304) (h : Fin 2) (d : Fin 64) :
    (signs : FVec Ideal S2304x128 .f32) (ix2 i (lane h d)) = if d.val % 2 = 0 then ((-1 : ℝ) : EReal) else 1 := by
  pointwise [signs]
  rw [show (⟨(lane h d).val % 2, by omega⟩ : Fin 2) = ⟨d.val % 2, by omega⟩ from
    Fin.ext (by show (h.val * 64 + d.val) % 2 = d.val % 2; omega)]
  rcases Nat.mod_two_eq_zero_or_one d.val with e | e
  · simp only [e, ↓reduceIte]
    rw [(lit0_row ⟨0, by omega⟩).trans (if_pos rfl), lit_neg_one]
  · simp only [e, one_ne_zero, ↓reduceIte]
    rw [(lit0_row ⟨1, by omega⟩).trans (if_neg Nat.one_ne_zero), lit_one]

set_option maxHeartbeats 1000000 in
theorem sin_host (c : Dev nD) : (V m c main_v47 : FVec Ideal S2304x128 .f32)
    = mulf (spread (withCtx 0x00000000#32 (Cert.GqaRefIdeal.Read.val_main_v101 (F := Ideal)))) signs := by
  simp only [V, hostOps0, hostOps0_1, hostOps0_2, hostOps0_3, hostOps0_4, List.flatten_cons, List.flatten_nil, List.append_nil, List.cons_append, List.nil_append]
  after_reads_simp
  refine congrArg (fun z => (mulf (spread (withCtx 0x00000000#32 z)) signs : FVec Ideal S2304x128 .f32)) (?_ : (_ : FVec Ideal S2048x32 .f32) = _)
  after_reads_simp
  refine congrArg (Host.sin : FVec Ideal S2048x32 .f32 → FVec Ideal S2048x32 .f32) ?_
  refine congrArg₂ (fun a b => (concatenate S2048x32 1 [⟨S2048x16, a⟩, ⟨S2048x16, b⟩] concatenates_S2048x16_S2048x16_S2048x32_d1 : FVec Ideal S2048x32 .f32)) ?_ ?_
  · after_reads_simp
    simp -implicitDefEqProofs only [StableHlo.TRef.toBuf, StableHlo.TRef.ofBuf, cast_cast, cast_eq]
    rfl
  · after_reads_simp
    simp -implicitDefEqProofs only [StableHlo.TRef.toBuf, StableHlo.TRef.ofBuf, cast_cast, cast_eq]
    rfl

theorem cos_read (c : Dev nD) (i : Fin 2304) (h : Fin 2) (d : Fin 64) :
    (V m c main_v36 : FVec Ideal S2304x128 .f32) (ix2 i (lane h d)) = cosRow i (pairOf d) := by
  rw [cos_host, spread_at, withCtx_at, cosRow, lit_one]

theorem sin_read (c : Dev nD) (i : Fin 2304) (h : Fin 2) (d : Fin 64) :
    (V m c main_v47 : FVec Ideal S2304x128 .f32) (ix2 i (lane h d)) = sgn d (sinRow i (pairOf d)) := by
  rw [sin_host]
  show spread _ (ix2 i (lane h d)) * signs (ix2 i (lane h d)) = _
  rw [spread_at, withCtx_at, signs_at, sinRow, lit_zero, sgn]
  by_cases e : d.val % 2 = 0
  · simp only [e, ↓reduceIte]
    rw [EReal.coe_neg, EReal.coe_one, mul_comm, EReal.neg_mul, one_mul]
  · simp only [e, ↓reduceIte, mul_one]

end Cert.Proof.GqaValue

end
-- ==== Proof.GqaKernel.lean ====
module

public import proofs.«01_k».proof.Proof.GqaTables

@[expose] public section

set_option maxRecDepth 16384

noncomputable section

open Idealize.ShloMosaic Idealize.ShloMosaic.TcCoe Idealize.SL.Sem
open Idealize.ShloMosaic.Pipeline (Dat)

namespace Cert.Proof.GqaValue

open Cert.GqaIdeal Cert.GqaIdeal.Gen Cert.Proof.GqaRow Cert.Proof.GqaSpec Cert.Proof.GqaLanes

variable (m : (ℓ : Loc nD τ sig) → Buf (Elt Ideal) ℓ)

/-! ## The attention both sides compute -/

variable (pb : FVec Ideal S8x2304x768 .f32) (g : FVec Ideal S2x64 .f32)

/-- A query head at a sequence row: normed and turned. -/
def qh (b : Fin 8) (i : Fin 2304) (n : Fin 8) (e : Fin 64) : EReal :=
  rot (cosRow i) (sinRow i) (norm (fun e => pb (ix3 b i ⟨n.val * 64 + e.val, by omega⟩)) (fun e => g (ix2 0 e))) e

/-- A key head at a sequence row: normed and turned. -/
def kh (b : Fin 8) (i : Fin 2304) (a : Fin 2) (e : Fin 64) : EReal :=
  rot (cosRow i) (sinRow i) (norm (fun e => pb (ix3 b i ⟨512 + (a.val * 64 + e.val), by omega⟩)) (fun e => g (ix2 1 e))) e

/-- A value head at a sequence row. -/
def vh (b : Fin 8) (i : Fin 2304) (a : Fin 2) (e : Fin 64) : EReal :=
  pb (ix3 b i ⟨640 + (a.val * 64 + e.val), by omega⟩)

/-- The key head a query head reads. -/
abbrev kvOf (n : Fin 8) : Fin 2 := ⟨n.val / 4, by omega⟩

/-- The scaled score of a query row against a key row. -/
def score (b : Fin 8) (i : Fin 2304) (n : Fin 8) (j : Fin 2304) : EReal :=
  ∑ e, qh pb g b i n e * ((1 / 8 : ℝ) : EReal) * kh pb g b j (kvOf n) e

/-- The context's row number `j` in the sequence. -/
abbrev ctx (j : Fin 256) : Fin 2304 := ⟨j.val, by omega⟩

/-- The attention: a context row sees the context only, a latent row sees the whole sequence. -/
def outAt (b : Fin 8) (i : Fin 2304) (n : Fin 8) (d : Fin 64) : EReal :=
  if i.val < 256 then attn (fun j : Fin 256 => score pb g b i n (ctx j)) (fun j => vh pb b (ctx j) (kvOf n) d)
  else attn (fun j => score pb g b i n j) (fun j => vh pb b j (kvOf n) d)

/-! ## What a point computes, over the arguments -/

/-- The query head of the half `h` of tile `T`. -/
abbrev hd (T : Fin 4) (h : Fin 2) : Fin 8 := ⟨T.val * 2 + h.val, by omega⟩

theorem gk_at (c : Dev nD) (t : Fin cfg0.N) (l : Fin 128) :
    (gk m c t : FVec Ideal S1x128 .f32) (ix2 0 l) = (iblk m c 7 t : FVec Ideal S2x128 .f32) (ix2 1 l) := by
  pointwise [gk]

theorem gain_lane (c : Dev nD) (t : Fin cfg0.N) (k h : Fin 2) (e : Fin 64) :
    (iblk m c 7 t : FVec Ideal S2x128 .f32) (ix2 k (lane h e)) = aG m c (ix2 k e) := (blk7 m c t k _).trans (gain_read m c k h e)

theorem cosq_lane (c : Dev nD) (t : Fin cfg0.N) (r : Fin 256) (h : Fin 2) (d : Fin 64) :
    (iblk m c 3 t : FVec Ideal S256x128 .f32) (ix2 r (lane h d)) = cosRow (rw_ t r) (pairOf d) :=
  (blk3 m c t r (lane h d)).trans (cos_read m c (rw_ t r) h d)

theorem sinq_lane (c : Dev nD) (t : Fin cfg0.N) (r : Fin 256) (h : Fin 2) (d : Fin 64) :
    (iblk m c 4 t : FVec Ideal S256x128 .f32) (ix2 r (lane h d)) = sgn d (sinRow (rw_ t r) (pairOf d)) :=
  (blk4 m c t r (lane h d)).trans (sin_read m c (rw_ t r) h d)

theorem cosk_lane (c : Dev nD) (t : Fin cfg0.N) (j : Fin 2304) (h : Fin 2) (d : Fin 64) :
    (iblk m c 5 t : FVec Ideal S2304x128 .f32) (ix2 j (lane h d)) = cosRow j (pairOf d) :=
  (blk5 m c t j (lane h d)).trans (cos_read m c j h d)

theorem sink_lane (c : Dev nD) (t : Fin cfg0.N) (j : Fin 2304) (h : Fin 2) (d : Fin 64) :
    (iblk m c 6 t : FVec Ideal S2304x128 .f32) (ix2 j (lane h d)) = sgn d (sinRow j (pairOf d)) :=
  (blk6 m c t j (lane h d)).trans (sin_read m c j h d)

theorem qrow_lane (c : Dev nD) (t : Fin cfg0.N) (T : Fin 4) (r : Fin 256) (h : Fin 2) (e : Fin 64) :
    qrow m c t T r (lane h e) = qh (aP m c) (aG m c) (bt t) (rw_ t r) (hd T h) e * ((1 / 8 : ℝ) : EReal) := by
  have hx : (fun e => (X0_0 m c t : FVec Ideal S1x256x512 .f32) (ix3 0 r (col T (lane h e))))
      = fun e : Fin 64 => aP m c (ix3 (bt t) (rw_ t r) ⟨(hd T h).val * 64 + e.val, by omega⟩) := funext fun e =>
    (blk0 m c t r _).trans (congrArg (fun z => aP m c (ix3 (bt t) (rw_ t r) z))
      (Fin.ext (by show T.val * 128 + (h.val * 64 + e.val) = (T.val * 2 + h.val) * 64 + e.val; omega)))
  have hg : (fun e => (iblk m c 7 t : FVec Ideal S2x128 .f32) (ix2 0 (lane h e))) = fun e => aG m c (ix2 0 e) :=
    funext fun e => gain_lane m c t 0 h e
  have key := turn128_lane (fun l => (X0_0 m c t : FVec Ideal S1x256x512 .f32) (ix3 0 r (col T l)))
    (fun l => (iblk m c 7 t : FVec Ideal S2x128 .f32) (ix2 0 l)) (fun l => (iblk m c 3 t : FVec Ideal S256x128 .f32) (ix2 r l))
    (fun l => (iblk m c 4 t : FVec Ideal S256x128 .f32) (ix2 r l)) (cosRow (rw_ t r)) (sinRow (rw_ t r)) h
    (cosq_lane m c t r h) (sinq_lane m c t r h) e
  rw [hx, hg] at key
  rw [qrow, lit_8th_bf16, qh, ← key]

theorem kc_lane (c : Dev nD) (t : Fin cfg0.N) (a : Fin 2) (j : Fin 2304) (h : Fin 2) (e : Fin 64) :
    kc m c t a (ix3 0 j (lane h e)) = kh (aP m c) (aG m c) (bt t) j a e := by
  have hx : (fun e => (iblk m c 1 t : FVec Ideal S1x2304x128 .f32) (ix3 0 j (lane a e)))
      = fun e : Fin 64 => aP m c (ix3 (bt t) j ⟨512 + (a.val * 64 + e.val), by omega⟩) := funext fun e => blk1 m c t j _
  have hg : (fun e => (gk m c t : FVec Ideal S1x128 .f32) (ix2 0 (lane a e))) = fun e => aG m c (ix2 1 e) :=
    funext fun e => (gk_at m c t _).trans (gain_lane m c t 1 a e)
  have key := turn128_lane (fun l => (iblk m c 1 t : FVec Ideal S1x2304x128 .f32) (ix3 0 j l))
    (fun l => (gk m c t : FVec Ideal S1x128 .f32) (ix2 0 l)) (fun l => (iblk m c 5 t : FVec Ideal S2304x128 .f32) (ix2 j l))
    (fun l => (iblk m c 6 t : FVec Ideal S2304x128 .f32) (ix2 j l)) (cosRow j) (sinRow j) a
    (cosk_lane m c t j a) (sink_lane m c t j a) e
  rw [hx, hg] at key
  refine (kcopy_at a (iblk m c 1 t) (gk m c t) (iblk m c 5 t) (iblk m c 6 t) j h e).trans
    ((kvec_at (iblk m c 1 t) (gk m c t) (iblk m c 5 t) (iblk m c 6 t) j (lane a e)).trans ?_)
  rw [kh, ← key]

theorem vc_lane (c : Dev nD) (t : Fin cfg0.N) (a : Fin 2) (j : Fin 2304) (h : Fin 2) (e : Fin 64) :
    vc m c t a (ix3 0 j (lane h e)) = vh (aP m c) (bt t) j a e := by
  exact (vcopy_at a (iblk m c 2 t) j h e).trans (blk2 m c t j (lane a e))

theorem grp_hd (T : Fin 4) (h : Fin 2) : grp T = kvOf (hd T h) :=
  Fin.ext (by show T.val / 2 = (T.val * 2 + h.val) / 4; omega)

theorem bt_first (t : Fin cfg0.N) : bt (first t) = bt t :=
  Fin.ext (by show 9 * (t.val / 9) / 9 = t.val / 9; omega)

theorem outA_lane (c : Dev nD) (t : Fin cfg0.N) (h0 : t.val % 9 = 0) (T : Fin 4) (r : Fin 256) (h : Fin 2) (d : Fin 64) :
    outA m c t T r (lane h d) = outAt (aP m c) (aG m c) (bt t) (rw_ t r) (hd T h) d := by
  rw [outA, cell_lane, outAt, if_pos (by show t.val % 9 * 256 + r.val < 256; omega)]
  simp only [qrow_lane, kc_lane, vc_lane, ← grp_hd T h, score]

theorem outB_lane (c : Dev nD) (t : Fin cfg0.N) (h0 : ¬ t.val % 9 = 0) (T : Fin 4) (r : Fin 256) (h : Fin 2) (d : Fin 64) :
    outB m c t T r (lane h d) = outAt (aP m c) (aG m c) (bt t) (rw_ t r) (hd T h) d := by
  rw [outB, cell_lane, outAt, if_neg (by show ¬ t.val % 9 * 256 + r.val < 256; omega)]
  simp only [qrow_lane, kc_lane, vc_lane, ← grp_hd T h, bt_first, score]

/-- The output array after the run. -/
def outArr : FVec Ideal S8x2304x512 .bf16 := fun y =>
  outAt pb g (y 0) (y 1) ⟨(y 2).val / 64, by have := (y 2).isLt; simp at this; omega⟩ ⟨(y 2).val % 64, by omega⟩

theorem final8 (c : Dev nD) : (dats m 0 c).arrAt 8 (cfgs 0).N = outArr (aP m c) (aG m c) := by
  refine (dats m 0 c).arrAt_eq_of_covers 8 _ (by decide +kernel) fun t hf y => ?_
  blk_simp
  rw [after0_8]
  idx_vars y
  obtain rfl : y0 = 0 := Subsingleton.elim _ _
  have he : ((View.whole main_v51).slice (win0_8.rect t)).emb (ix3 0 y1 y2) = ix3 (bt t) (rw_ t y1) y2 := by
    blk_ext [idx_val t]
  rw [he]
  obtain ⟨T, h, d, rfl⟩ : ∃ (T : Fin 4) (h : Fin 2) (d : Fin 64), y2 = col T (lane h d) :=
    ⟨⟨y2.val / 128, by omega⟩, ⟨y2.val % 128 / 64, by omega⟩, ⟨y2.val % 64, by omega⟩, Fin.ext (by simp only [col, lane]; omega)⟩
  have e1 : ∀ hh, (⟨(col T (lane h d)).val / 128, hh⟩ : Fin 4) = T := fun hh => Fin.ext (by simp only [col, lane]; omega)
  have e2 : ∀ hh, (⟨(col T (lane h d)).val % 128, hh⟩ : Fin 128) = lane h d := fun hh => Fin.ext (by simp only [col, lane]; omega)
  have e3 : outArr (aP m c) (aG m c) (ix3 (bt t) (rw_ t y1) (col T (lane h d))) = outAt (aP m c) (aG m c) (bt t) (rw_ t y1) (hd T h) d :=
    congrArg₂ (outAt (aP m c) (aG m c) (bt t) (rw_ t y1)) (Fin.ext (by show (T.val * 128 + (h.val * 64 + d.val)) / 64 = T.val * 2 + h.val; omega))
      (Fin.ext (by show (T.val * 128 + (h.val * 64 + d.val)) % 64 = d.val; omega))
  rw [e3]
  by_cases h0 : t.val % 9 = 0
  · refine (o_A m c t h0 _).trans (Eq.trans ?_ (outA_lane m c t h0 T y1 h d))
    exact congrArg₂ (fun a b => outA m c t a y1 b) (e1 _) (e2 _)
  · refine (o_B m c t h0 _).trans (Eq.trans ?_ (outB_lane m c t h0 T y1 h d))
    exact congrArg₂ (fun a b => outB m c t a y1 b) (e1 _) (e2 _)

end Cert.Proof.GqaValue

end
-- ==== Proof.GqaRef.lean ====
module

public import proofs.«01_k».proof.Proof.GqaKernel

@[expose] public section

set_option maxRecDepth 16384

noncomputable section

open Idealize.ShloMosaic Idealize.ShloMosaic.TcCoe Idealize.SL.Sem

namespace Cert.Proof.GqaRef

open Cert.GqaRefIdeal Cert.GqaRefIdeal.Read Cert.Proof.GqaSpec Cert.Proof.GqaValue

/-!
# The reference's attention, read at an index

The reference's queries, keys and values are those of the kernel's side; its scores are the same sums with the scale
taken last; and it lists the latent keys before the context's, where the kernel's sequence has them after.
-/

/-- Dividing by sixty-four is multiplying by a sixty-fourth. -/
theorem div_64 (x : EReal) : Ideal.div x (Ideal.ofBits .f32 0x42800000#32) = x * ((1 / 64 : ℝ) : EReal) := by
  rw [lit_64]
  show (if ((64 : ℝ) : EReal) = 0 then _ else x * ((64 : ℝ) : EReal)⁻¹) = _
  rw [if_neg (by exact_mod_cast (by norm_num : (64 : ℝ) ≠ 0)), ← EReal.coe_inv]
  norm_num

variable (x0 : FVec Ideal S8x2304x768 .f32) (x1 : FVec Ideal S2x64 .f32)

/-- The context's normed queries. -/
theorem q_c (b : Fin 8) (i : Fin 256) (n : Fin 8) (d : Fin 64) :
    (val_main_v19 (F := Ideal) x0 x1 : FVec Ideal S8x256x8x64 .f32) (ix4 b i n d)
      = norm (fun e => x0 (ix3 b ⟨i.val, by omega⟩ ⟨n.val * 64 + e.val, by omega⟩)) (fun e => x1 (ix2 0 e)) d := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v1, val_main_v0, val_main_cst, val_main_cst_0, val_main_cst_1, val_main_cst_2, val_main_cst_3, val_main_cst_4, val_main_cst_5, val_main_cst_6, val_main_cst_7, val_main_cst_8, val_main_cst_9, val_main_cst_10]
  simp only [div_64]
  rfl

/-- The context's normed keys. -/
theorem k_c (b : Fin 8) (i : Fin 256) (n : Fin 2) (d : Fin 64) :
    (val_main_v35 (F := Ideal) x0 x1 : FVec Ideal S8x256x2x64 .f32) (ix4 b i n d)
      = norm (fun e => x0 (ix3 b ⟨i.val, by omega⟩ ⟨512 + (n.val * 64 + e.val), by omega⟩)) (fun e => x1 (ix2 1 e)) d := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v2, val_main_v0, val_main_cst, val_main_cst_0, val_main_cst_1, val_main_cst_2, val_main_cst_3, val_main_cst_4, val_main_cst_5, val_main_cst_6, val_main_cst_7, val_main_cst_8, val_main_cst_9, val_main_cst_10]
  simp only [div_64]
  rfl

/-- The latent rows' normed queries. -/
theorem q_l (b : Fin 8) (i : Fin 2048) (n : Fin 8) (d : Fin 64) :
    (val_main_v56 (F := Ideal) x0 x1 : FVec Ideal S8x2048x8x64 .f32) (ix4 b i n d)
      = norm (fun e => x0 (ix3 b ⟨256 + i.val, by omega⟩ ⟨n.val * 64 + e.val, by omega⟩)) (fun e => x1 (ix2 0 e)) d := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_v38, val_main_v37, val_main_cst, val_main_cst_0, val_main_cst_1, val_main_cst_2, val_main_cst_3, val_main_cst_4, val_main_cst_5, val_main_cst_6, val_main_cst_7, val_main_cst_8, val_main_cst_9, val_main_cst_10]
  simp only [div_64]
  rfl

/-- The latent rows' normed keys. -/
theorem k_l (b : Fin 8) (i : Fin 2048) (n : Fin 2) (d : Fin 64) :
    (val_main_v72 (F := Ideal) x0 x1 : FVec Ideal S8x2048x2x64 .f32) (ix4 b i n d)
      = norm (fun e => x0 (ix3 b ⟨256 + i.val, by omega⟩ ⟨512 + (n.val * 64 + e.val), by omega⟩)) (fun e => x1 (ix2 1 e)) d := by
  pointwise [val_main_v72, val_main_v71, val_main_v70, val_main_v69, val_main_v68, val_main_v67, val_main_v66, val_main_v65, val_main_v64, val_main_v63, val_main_v62, val_main_v61, val_main_v60, val_main_v59, val_main_v58, val_main_v57, val_main_v39, val_main_v37, val_main_cst, val_main_cst_0, val_main_cst_1, val_main_cst_2, val_main_cst_3, val_main_cst_4, val_main_cst_5, val_main_cst_6, val_main_cst_7, val_main_cst_8, val_main_cst_9, val_main_cst_10]
  simp only [div_64]
  rfl

/-- The latent row number `i` in the sequence. -/
abbrev up (i : Fin 2048) : Fin 2304 := ⟨256 + i.val, by omega⟩

theorem cos_up (i : Fin 2048) (p : Fin 32) : (val_main_v100 (F := Ideal) : FVec Ideal S2048x32 .f32) (ix2 i p) = cosRow (up i) p := by
  rw [cosRow, dif_neg (by show ¬ 256 + i.val < 256; omega)]
  exact congrArg (fun z => (val_main_v100 (F := Ideal) : FVec Ideal S2048x32 .f32) (ix2 z p)) (Fin.ext (by show i.val = 256 + i.val - 256; omega))

theorem sin_up (i : Fin 2048) (p : Fin 32) : (val_main_v101 (F := Ideal) : FVec Ideal S2048x32 .f32) (ix2 i p) = sinRow (up i) p := by
  rw [sinRow, dif_neg (by show ¬ 256 + i.val < 256; omega)]
  exact congrArg (fun z => (val_main_v101 (F := Ideal) : FVec Ideal S2048x32 .f32) (ix2 z p)) (Fin.ext (by show i.val = 256 + i.val - 256; omega))

/-- The turn at an even lane, as the reference writes it. -/
theorem rot_even (c s : Fin 32 → EReal) (y : Fin 64 → EReal) (d : Fin 64) (h0 : d.val / 2 * 2 < 64) (h1 : d.val / 2 * 2 + 1 < 64)
    (h2 : d.val / 2 < 32) (h : d.val % 2 < 1) :
    y ⟨d.val / 2 * 2, h0⟩ * c ⟨d.val / 2, h2⟩ - y ⟨d.val / 2 * 2 + 1, h1⟩ * s ⟨d.val / 2, h2⟩ = rot c s y d := by
  rw [rot, mate, sgn, pairOf, if_pos (by omega), if_pos (by omega), mul_neg, ← sub_eq_add_neg]
  have e0 : (⟨d.val / 2 * 2, h0⟩ : Fin 64) = d := Fin.ext (by show d.val / 2 * 2 = d.val; omega)
  have e1 : (⟨d.val / 2 * 2 + 1, h1⟩ : Fin 64) = ⟨(d.val + 1) % 64, by omega⟩ := Fin.ext (by show d.val / 2 * 2 + 1 = (d.val + 1) % 64; omega)
  rw [e0, e1]

/-- The turn at an odd lane. -/
theorem rot_odd (c s : Fin 32 → EReal) (y : Fin 64 → EReal) (d : Fin 64) (h0 : d.val / 2 * 2 < 64) (h1 : d.val / 2 * 2 + 1 < 64)
    (h2 : d.val / 2 < 32) (h : ¬ d.val % 2 < 1) :
    y ⟨d.val / 2 * 2, h0⟩ * s ⟨d.val / 2, h2⟩ + y ⟨d.val / 2 * 2 + 1, h1⟩ * c ⟨d.val / 2, h2⟩ = rot c s y d := by
  rw [rot, mate, sgn, pairOf, if_neg (by omega), if_neg (by omega), add_comm]
  have e0 : (⟨d.val / 2 * 2, h0⟩ : Fin 64) = ⟨d.val - 1, by omega⟩ := Fin.ext (by show d.val / 2 * 2 = d.val - 1; omega)
  have e1 : (⟨d.val / 2 * 2 + 1, h1⟩ : Fin 64) = d := Fin.ext (by show d.val / 2 * 2 + 1 = d.val; omega)
  rw [e0, e1]

/-- The reference's latent queries. -/
theorem q_rot (b : Fin 8) (i : Fin 2048) (n : Fin 8) (d : Fin 64) :
    (val_main_v126 (F := Ideal) x0 x1 : FVec Ideal S8x2048x8x64 .f32) (ix4 b i n d) = qh x0 x1 b (up i) n d := by
  pointwise [val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102]
  simp only [cos_up, sin_up, q_l]
  split
  · next h => exact rot_even (cosRow (up i)) (sinRow (up i)) (norm (fun e => x0 (ix3 b (up i) ⟨n.val * 64 + e.val, by omega⟩)) (fun e => x1 (ix2 0 e))) d _ _ _ h
  · next h => exact rot_odd (cosRow (up i)) (sinRow (up i)) (norm (fun e => x0 (ix3 b (up i) ⟨n.val * 64 + e.val, by omega⟩)) (fun e => x1 (ix2 0 e))) d _ _ _ h

/-- The reference's latent keys. -/
theorem k_rot (b : Fin 8) (i : Fin 2048) (n : Fin 2) (d : Fin 64) :
    (val_main_v151 (F := Ideal) x0 x1 : FVec Ideal S8x2048x2x64 .f32) (ix4 b i n d) = kh x0 x1 b (up i) n d := by
  pointwise [val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v108, val_main_v107]
  simp only [cos_up, sin_up, k_l]
  split
  · next h => exact rot_even (cosRow (up i)) (sinRow (up i)) (norm (fun e => x0 (ix3 b (up i) ⟨512 + (n.val * 64 + e.val), by omega⟩)) (fun e => x1 (ix2 1 e))) d _ _ _ h
  · next h => exact rot_odd (cosRow (up i)) (sinRow (up i)) (norm (fun e => x0 (ix3 b (up i) ⟨512 + (n.val * 64 + e.val), by omega⟩)) (fun e => x1 (ix2 1 e))) d _ _ _ h

theorem cos_ctx (i : Fin 256) : cosRow (ctx i) = fun _ => 1 := funext fun p => by rw [cosRow, dif_pos i.isLt]
theorem sin_ctx (i : Fin 256) : sinRow (ctx i) = fun _ => 0 := funext fun p => by rw [sinRow, dif_pos i.isLt]

theorem q_ctx (b : Fin 8) (i : Fin 256) (n : Fin 8) (d : Fin 64) :
    (val_main_v19 (F := Ideal) x0 x1 : FVec Ideal S8x256x8x64 .f32) (ix4 b i n d) = qh x0 x1 b (ctx i) n d := by
  rw [qh, cos_ctx, sin_ctx, rot_one]
  exact q_c x0 x1 b i n d

theorem k_ctx (b : Fin 8) (i : Fin 256) (n : Fin 2) (d : Fin 64) :
    (val_main_v35 (F := Ideal) x0 x1 : FVec Ideal S8x256x2x64 .f32) (ix4 b i n d) = kh x0 x1 b (ctx i) n d := by
  rw [kh, cos_ctx, sin_ctx, rot_one]
  exact k_c x0 x1 b i n d

/-- The place in the sequence of the reference's key number `j`: its latent keys come first. -/
def place : Fin 2304 ≃ Fin 2304 where
  toFun j := ⟨(j.val + 256) % 2304, by omega⟩
  invFun j := ⟨(j.val + 2048) % 2304, by omega⟩
  left_inv j := Fin.ext (by show ((j.val + 256) % 2304 + 2048) % 2304 = j.val; omega)
  right_inv j := Fin.ext (by show ((j.val + 2048) % 2304 + 256) % 2304 = j.val; omega)

theorem place_lat (j : Fin 2304) (h : j.val < 2048) : place j = up ⟨j.val, h⟩ :=
  Fin.ext (by show (j.val + 256) % 2304 = 256 + j.val; omega)

theorem place_ctx (j : Fin 2304) (h : ¬ j.val < 2048) : place j = ctx ⟨j.val - 2048, by omega⟩ :=
  Fin.ext (by show (j.val + 256) % 2304 = j.val - 2048; omega)

/-- The scale taken after the sum, the key before the query. -/
theorem scale_last (q k : Fin 64 → EReal) :
    (∑ e, k e * q e) * ((1 / 8 : ℝ) : EReal) = ∑ e, q e * ((1 / 8 : ℝ) : EReal) * k e := by
  rw [mul_sum_real _ _ _ (by norm_num)]
  refine Finset.sum_congr rfl fun e _ => ?_
  ac_rfl

theorem kv_head (a : Fin 2) (h : Fin 4) (hh : a.val * 4 + h.val < 8) : kvOf ⟨a.val * 4 + h.val, hh⟩ = a :=
  Fin.ext (by show (a.val * 4 + h.val) / 4 = a.val; omega)

/-- The reference's scores of the latent rows. -/
theorem s_lat (b : Fin 8) (a : Fin 2) (h : Fin 4) (i : Fin 2048) (j : Fin 2304) :
    (val_main_v158 (F := Ideal) x0 x1 : FVec Ideal S8x2x4x2048x2304 .f32) (ix5 b a h i j)
      = score x0 x1 b (up i) ⟨a.val * 4 + h.val, by omega⟩ (place j) := by
  pointwise [val_main_v158, val_main_v157, val_main_v156, val_main_v155, val_main_v154, val_main_v153, val_main_v152, val_main_cst_16]
  simp only [lit_8th, q_rot, k_rot, k_ctx]
  rw [scale_last, score, kv_head]
  refine Finset.sum_congr rfl fun e _ => congrArg _ ?_
  split
  · next hj => rw [place_lat j hj]
  · next hj => rw [place_ctx j hj]

/-- The reference's scores of the context's rows. -/
theorem s_ctx (b : Fin 8) (a : Fin 2) (h : Fin 4) (i : Fin 256) (j : Fin 256) :
    (val_main_v177 (F := Ideal) x0 x1 : FVec Ideal S8x2x4x256x256 .f32) (ix5 b a h i j)
      = score x0 x1 b (ctx i) ⟨a.val * 4 + h.val, by omega⟩ (ctx j) := by
  pointwise [val_main_v177, val_main_v176, val_main_v175, val_main_v174, val_main_v173, val_main_cst_20]
  simp only [lit_8th, q_ctx, k_ctx]
  rw [scale_last, score, kv_head]

/-- The values in the reference's order of the keys. -/
theorem v_lat (b : Fin 8) (j : Fin 2304) (a : Fin 2) (d : Fin 64) :
    (val_main_v153 (F := Ideal) x0 : FVec Ideal S8x2304x2x64 .f32) (ix4 b j a d) = vh x0 b (place j) a d := by
  pointwise [val_main_v153, val_main_v73, val_main_v36, val_main_v37, val_main_v40, val_main_v3, val_main_v0]
  split
  · next hj => rw [place_lat j hj]; rfl
  · next hj => rw [place_ctx j hj]; rfl

theorem v_ctx (b : Fin 8) (j : Fin 256) (a : Fin 2) (d : Fin 64) :
    (val_main_v36 (F := Ideal) x0 : FVec Ideal S8x256x2x64 .f32) (ix4 b j a d) = vh x0 b (ctx j) a d := by
  pointwise [val_main_v36, val_main_v3, val_main_v0]
  rfl

end Cert.Proof.GqaRef

end
-- ==== Proof.GqaSoft.lean ====
module

public import proofs.«01_k».proof.Proof.GqaTables

@[expose] public section

set_option maxRecDepth 16384

noncomputable section

open Idealize.ShloMosaic Idealize.ShloMosaic.TcCoe Idealize.SL.Sem

namespace Cert.Proof.GqaRef

open Cert.GqaRefIdeal Cert.GqaRefIdeal.Read Cert.Proof.GqaSpec Cert.Proof.GqaValue

variable (x0 : FVec Ideal S8x2304x768 .f32) (x1 : FVec Ideal S2x64 .f32)

/-- The largest of a rank-five array's entries along its last axis. -/
theorem max_last {n0 n1 n2 n3 n4 : Nat} {u : Shape} (y : FVec Ideal ⟨5, ![n0, n1, n2, n3, n4]⟩ .f32)
    (h : (⟨5, ![n0, n1, n2, n3, n4]⟩ : Shape).ReducesTo [4] ⟨4, ![n0, n1, n2, n3]⟩) (hu : 0 < u.numel)
    (b : Fin n0) (a : Fin n1) (g : Fin n2) (i : Fin n3) :
    Host.reduce (FloatOps.maximumf : Ideal .f32 → Ideal .f32 → Ideal .f32) y (constant (F := Ideal) u .f32 0xFF800000#32) h hu (ix4 b a g i)
      = top (fun j : Fin n4 => y (ix5 b a g i j)) := by
  rw [Host.reduce_eq_fold]
  refine (Finset.fold_filter_eq_fold_of_fiber (ι := (⟨5, ![n0, n1, n2, n3, n4]⟩ : Shape).Idx) (κ := Fin n4) (α := EReal) max _
    (fun k => ix5 b a g i k) (fun _ _ e => congrFun e 4) (fun x => ⟨fun e => ⟨x 4, ?_⟩, ?_⟩) _ _).trans ?_
  · funext k
    apply Fin.ext
    match k with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext b
    apply Fin.ext
    match b with
    | ⟨0, _⟩ => rfl
    | ⟨1, _⟩ => rfl
    | ⟨2, _⟩ => rfl
    | ⟨3, _⟩ => rfl
  · rw [top, ← lit_bot]
    rfl

theorem max_bot_word (z : Ideal .f32) : FloatOps.maximumf (FloatOps.ofBits .f32 0xFF800000#32) z = z :=
  (congrArg (fun w : EReal => max w z) lit_bot).trans (max_eq_right bot_le)

theorem ix_eta5 {n0 n1 n2 n3 n4 : Nat} (y : (⟨5, ![n0, n1, n2, n3, n4]⟩ : Shape).Idx) : y = ix5 (y 0) (y 1) (y 2) (y 3) (y 4) := by
  funext k
  match k with | ⟨0, _⟩ => rfl | ⟨1, _⟩ => rfl | ⟨2, _⟩ => rfl | ⟨3, _⟩ => rfl | ⟨4, _⟩ => rfl

/-- The latent rows: the largest score of a row. -/
theorem max_lat (b : Fin 8) (a : Fin 2) (h : Fin 4) (i : Fin 2048) :
    (val_main_v159 (F := Ideal) x0 x1 : FVec Ideal S8x2x4x2048 .f32) (ix4 b a h i)
      = top (fun j : Fin 2304 => (val_main_v158 (F := Ideal) x0 x1 : FVec Ideal S8x2x4x2048x2304 .f32) (ix5 b a h i j)) := by
  unfold val_main_v159 val_main_cst_17
  exact max_last _ _ _ b a h i

theorem top_lat (b : Fin 8) (a : Fin 2) (h : Fin 4) (i : Fin 2048) :
    (val_main_v161 (F := Ideal) x0 x1 : FVec Ideal S8x2x4x2048 .f32) (ix4 b a h i)
      = top (fun j : Fin 2304 => (val_main_v158 (F := Ideal) x0 x1 : FVec Ideal S8x2x4x2048x2304 .f32) (ix5 b a h i j)) := by
  rw [val_main_v161_apply, max_lat, val_main_v160_apply, val_main_cst_18_apply]
  exact max_bot_word _

/-- The latent rows: the weights before their sum divides them. -/
theorem exp_lat (b : Fin 8) (a : Fin 2) (h : Fin 4) (i : Fin 2048) (j : Fin 2304) :
    (val_main_v165 (F := Ideal) x0 x1 : FVec Ideal S8x2x4x2048x2304 .f32) (ix5 b a h i j)
      = Ideal.exp ((val_main_v158 (F := Ideal) x0 x1 : FVec Ideal S8x2x4x2048x2304 .f32) (ix5 b a h i j) - top (fun j : Fin 2304 => (val_main_v158 (F := Ideal) x0 x1 : FVec Ideal S8x2x4x2048x2304 .f32) (ix5 b a h i j))) := by
  pointwise [val_main_v165, val_main_v164, val_main_v163, val_main_v162]
  exact congrArg (fun z => Ideal.exp ((val_main_v158 (F := Ideal) x0 x1 : FVec Ideal S8x2x4x2048x2304 .f32) (ix5 b a h i j) - z)) (top_lat x0 x1 b a h i)

/-- The latent rows: the sum of a row's weights. -/
theorem sum_lat (b : Fin 8) (a : Fin 2) (h : Fin 4) (i : Fin 2048) :
    (val_main_v166 (F := Ideal) x0 x1 : FVec Ideal S8x2x4x2048 .f32) (ix4 b a h i)
      = ∑ j : Fin 2304, Ideal.exp ((val_main_v158 (F := Ideal) x0 x1 : FVec Ideal S8x2x4x2048x2304 .f32) (ix5 b a h i j) - top (fun j : Fin 2304 => (val_main_v158 (F := Ideal) x0 x1 : FVec Ideal S8x2x4x2048x2304 .f32) (ix5 b a h i j))) := by
  refine (val_main_v166_apply x0 x1 (ix4 b a h i)).trans ?_
  rw [show (val_main_cst_19 (F := Ideal)) (Shape.Idx.first Gen.h_S_) = (0 : EReal) from lit_zero, zero_add]
  exact Finset.sum_congr rfl fun j _ => (congrArg _ (ix_eta5 _)).trans (exp_lat x0 x1 b a h i j)

theorem weight_lat (b : Fin 8) (a : Fin 2) (h : Fin 4) (i : Fin 2048) (j : Fin 2304) :
    (val_main_v169 (F := Ideal) x0 x1 : FVec Ideal S8x2x4x2048x2304 .f32) (ix5 b a h i j)
      = Ideal.div (Ideal.exp ((val_main_v158 (F := Ideal) x0 x1 : FVec Ideal S8x2x4x2048x2304 .f32) (ix5 b a h i j) - top (fun j : Fin 2304 => (val_main_v158 (F := Ideal) x0 x1 : FVec Ideal S8x2x4x2048x2304 .f32) (ix5 b a h i j))))
          (∑ j : Fin 2304, Ideal.exp ((val_main_v158 (F := Ideal) x0 x1 : FVec Ideal S8x2x4x2048x2304 .f32) (ix5 b a h i j) - top (fun j : Fin 2304 => (val_main_v158 (F := Ideal) x0 x1 : FVec Ideal S8x2x4x2048x2304 .f32) (ix5 b a h i j)))) := by
  pointwise [val_main_v169, val_main_v168, val_main_v167]
  exact congrArg₂ Ideal.div (exp_lat x0 x1 b a h i j) (sum_lat x0 x1 b a h i)

/-- The latent rows: the mean of the values. -/
theorem mean_lat (b : Fin 8) (i : Fin 2048) (c : Fin 512) :
    (val_main_v172 (F := Ideal) x0 x1 : FVec Ideal S8x2048x512 .f32) (ix3 b i c)
      = attn' (fun j : Fin 2304 => (val_main_v158 (F := Ideal) x0 x1 : FVec Ideal S8x2x4x2048x2304 .f32) (ix5 b ⟨c.val / 256, by omega⟩ ⟨c.val / 64 % 4, by omega⟩ i j))
          (fun j => (val_main_v153 (F := Ideal) x0 : FVec Ideal S8x2304x2x64 .f32) (ix4 b j ⟨c.val / 256, by omega⟩ ⟨c.val % 64, by omega⟩)) := by
  pointwise [val_main_v172, val_main_v171, val_main_v170]
  exact Finset.sum_congr rfl fun j _ => (mul_comm _ _).trans
    (congrArg (fun z => z * (val_main_v153 (F := Ideal) x0 : FVec Ideal S8x2304x2x64 .f32) (ix4 b j ⟨c.val / 256, by omega⟩ ⟨c.val % 64, by omega⟩)) (weight_lat x0 x1 b _ _ i j))

/-- The context's rows: the largest score of a row. -/
theorem max_ctx (b : Fin 8) (a : Fin 2) (h : Fin 4) (i : Fin 256) :
    (val_main_v178 (F := Ideal) x0 x1 : FVec Ideal S8x2x4x256 .f32) (ix4 b a h i)
      = top (fun j : Fin 256 => (val_main_v177 (F := Ideal) x0 x1 : FVec Ideal S8x2x4x256x256 .f32) (ix5 b a h i j)) := by
  unfold val_main_v178 val_main_cst_21
  exact max_last _ _ _ b a h i

theorem top_ctx (b : Fin 8) (a : Fin 2) (h : Fin 4) (i : Fin 256) :
    (val_main_v180 (F := Ideal) x0 x1 : FVec Ideal S8x2x4x256 .f32) (ix4 b a h i)
      = top (fun j : Fin 256 => (val_main_v177 (F := Ideal) x0 x1 : FVec Ideal S8x2x4x256x256 .f32) (ix5 b a h i j)) := by
  rw [val_main_v180_apply, max_ctx, val_main_v179_apply, val_main_cst_22_apply]
  exact max_bot_word _

/-- The context's rows: the weights before their sum divides them. -/
theorem exp_ctx (b : Fin 8) (a : Fin 2) (h : Fin 4) (i : Fin 256) (j : Fin 256) :
    (val_main_v184 (F := Ideal) x0 x1 : FVec Ideal S8x2x4x256x256 .f32) (ix5 b a h i j)
      = Ideal.exp ((val_main_v177 (F := Ideal) x0 x1 : FVec Ideal S8x2x4x256x256 .f32) (ix5 b a h i j) - top (fun j : Fin 256 => (val_main_v177 (F := Ideal) x0 x1 : FVec Ideal S8x2x4x256x256 .f32) (ix5 b a h i j))) := by
  pointwise [val_main_v184, val_main_v183, val_main_v182, val_main_v181]
  exact congrArg (fun z => Ideal.exp ((val_main_v177 (F := Ideal) x0 x1 : FVec Ideal S8x2x4x256x256 .f32) (ix5 b a h i j) - z)) (top_ctx x0 x1 b a h i)

/-- The context's rows: the sum of a row's weights. -/
theorem sum_ctx (b : Fin 8) (a : Fin 2) (h : Fin 4) (i : Fin 256) :
    (val_main_v185 (F := Ideal) x0 x1 : FVec Ideal S8x2x4x256 .f32) (ix4 b a h i)
      = ∑ j : Fin 256, Ideal.exp ((val_main_v177 (F := Ideal) x0 x1 : FVec Ideal S8x2x4x256x256 .f32) (ix5 b a h i j) - top (fun j : Fin 256 => (val_main_v177 (F := Ideal) x0 x1 : FVec Ideal S8x2x4x256x256 .f32) (ix5 b a h i j))) := by
  refine (val_main_v185_apply x0 x1 (ix4 b a h i)).trans ?_
  rw [show (val_main_cst_23 (F := Ideal)) (Shape.Idx.first Gen.h_S_) = (0 : EReal) from lit_zero, zero_add]
  exact Finset.sum_congr rfl fun j _ => (congrArg _ (ix_eta5 _)).trans (exp_ctx x0 x1 b a h i j)

theorem weight_ctx (b : Fin 8) (a : Fin 2) (h : Fin 4) (i : Fin 256) (j : Fin 256) :
    (val_main_v188 (F := Ideal) x0 x1 : FVec Ideal S8x2x4x256x256 .f32) (ix5 b a h i j)
      = Ideal.div (Ideal.exp ((val_main_v177 (F := Ideal) x0 x1 : FVec Ideal S8x2x4x256x256 .f32) (ix5 b a h i j) - top (fun j : Fin 256 => (val_main_v177 (F := Ideal) x0 x1 : FVec Ideal S8x2x4x256x256 .f32) (ix5 b a h i j))))
          (∑ j : Fin 256, Ideal.exp ((val_main_v177 (F := Ideal) x0 x1 : FVec Ideal S8x2x4x256x256 .f32) (ix5 b a h i j) - top (fun j : Fin 256 => (val_main_v177 (F := Ideal) x0 x1 : FVec Ideal S8x2x4x256x256 .f32) (ix5 b a h i j)))) := by
  pointwise [val_main_v188, val_main_v187, val_main_v186]
  exact congrArg₂ Ideal.div (exp_ctx x0 x1 b a h i j) (sum_ctx x0 x1 b a h i)

/-- The context's rows: the mean of the values. -/
theorem mean_ctx (b : Fin 8) (i : Fin 256) (c : Fin 512) :
    (val_main_v191 (F := Ideal) x0 x1 : FVec Ideal S8x256x512 .f32) (ix3 b i c)
      = attn' (fun j : Fin 256 => (val_main_v177 (F := Ideal) x0 x1 : FVec Ideal S8x2x4x256x256 .f32) (ix5 b ⟨c.val / 256, by omega⟩ ⟨c.val / 64 % 4, by omega⟩ i j))
          (fun j => (val_main_v36 (F := Ideal) x0 : FVec Ideal S8x256x2x64 .f32) (ix4 b j ⟨c.val / 256, by omega⟩ ⟨c.val % 64, by omega⟩)) := by
  pointwise [val_main_v191, val_main_v190, val_main_v189]
  exact Finset.sum_congr rfl fun j _ => (mul_comm _ _).trans
    (congrArg (fun z => z * (val_main_v36 (F := Ideal) x0 : FVec Ideal S8x256x2x64 .f32) (ix4 b j ⟨c.val / 256, by omega⟩ ⟨c.val % 64, by omega⟩)) (weight_ctx x0 x1 b _ _ i j))

end Cert.Proof.GqaRef

end
-- ==== Proof.GqaResult.lean ====
module

public import proofs.«01_k».proof.Proof.GqaRef
public import proofs.«01_k».proof.Proof.GqaSoft

@[expose] public section

set_option maxRecDepth 16384

noncomputable section

open Idealize.ShloMosaic Idealize.ShloMosaic.TcCoe Idealize.SL.Sem

namespace Cert.Proof.GqaRef

open Cert.GqaRefIdeal Cert.GqaRefIdeal.Read Cert.Proof.GqaSpec Cert.Proof.GqaValue

variable (x0 : FVec Ideal S8x2304x768 .f32) (x1 : FVec Ideal S2x64 .f32)

theorem head_of (c : Fin 512) (hh : c.val / 256 * 4 + c.val / 64 % 4 < 8) :
    (⟨c.val / 256 * 4 + c.val / 64 % 4, hh⟩ : Fin 8) = ⟨c.val / 64, by omega⟩ :=
  Fin.ext (by show c.val / 256 * 4 + c.val / 64 % 4 = c.val / 64; omega)

theorem kv_of (c : Fin 512) : kvOf ⟨c.val / 64, by omega⟩ = ⟨c.val / 256, by omega⟩ :=
  Fin.ext (by show c.val / 64 / 4 = c.val / 256; omega)

/-- The reference's result: the attention with each weight divided first. With real scores it is the kernel's. -/
theorem result_at (hs : ∀ b i n j, IsReal (score x0 x1 b i n j)) :
    (val_main_v193 (F := Ideal) x0 x1 : FVec Ideal S8x2304x512 .bf16) = outArr x0 x1 := by
  funext y
  obtain ⟨b, i, c, rfl⟩ : ∃ b i c, y = (ix3 b i c : S8x2304x512.Idx) := ⟨y 0, y 1, y 2, by
    funext k; match k with | ⟨0, _⟩ => rfl | ⟨1, _⟩ => rfl | ⟨2, _⟩ => rfl⟩
  show _ = outAt x0 x1 b i ⟨c.val / 64, by omega⟩ ⟨c.val % 64, by omega⟩
  rw [outAt]
  pointwise [val_main_v193, val_main_v192]
  by_cases h : i.val < 256
  · rw [dif_pos h, if_pos h, attn_eq _ _ fun j => hs _ _ _ _, mean_ctx]
    simp only [s_ctx, v_ctx, head_of, kv_of]
  · rw [dif_neg h, if_neg h, attn_eq _ _ fun j => hs _ _ _ _, mean_lat]
    simp only [s_lat, v_lat, head_of, kv_of]
    have hi : up ⟨i.val - 256, by omega⟩ = i := Fin.ext (by show 256 + (i.val - 256) = i.val; omega)
    rw [hi]
    exact attn'_comp place (fun j => score x0 x1 b i ⟨c.val / 64, by omega⟩ j) (fun j => vh x0 b j ⟨c.val / 256, by omega⟩ ⟨c.val % 64, by omega⟩)

end Cert.Proof.GqaRef

end
-- ==== Proof.GqaReal.lean ====
module

public import proofs.«01_k».proof.Proof.GqaResult
public import proofs.«01_k».proof.Pre_real_gain
public import Idealize.ShloMosaic.Lib.ReduceAll

@[expose] public section

set_option maxRecDepth 16384

noncomputable section

open Idealize.ShloMosaic Idealize.ShloMosaic.TcCoe Idealize.SL.Sem

/-!
# The scores are real numbers

The angles are sums, products and powers of real constants, so the rotary tables are real; a normed head is real as
soon as the gain is; so with a real gain every score is a real number, whatever the projections hold.
-/

namespace Cert.Proof.GqaRef

open Cert.GqaRefIdeal Cert.GqaRefIdeal.Read Cert.Proof.GqaSpec Cert.Proof.GqaValue

theorem cos_real {x : EReal} (h : IsReal x) : IsReal (Ideal.cos x) := by
  obtain ⟨r, rfl⟩ := h; exact ⟨Real.cos r, rfl⟩

theorem sin_real {x : EReal} (h : IsReal x) : IsReal (Ideal.sin x) := by
  obtain ⟨r, rfl⟩ := h; exact ⟨Real.sin r, rfl⟩

theorem pow_real {x y : EReal} (hx : IsReal x) (hy : IsReal y) : IsReal (Ideal.pow x y) := by
  obtain ⟨r, rfl⟩ := hx; obtain ⟨s, rfl⟩ := hy; exact ⟨Real.rpow r s, rfl⟩

theorem int_real {w : Nat} (b : BitVec w) : IsReal (FloatOps.sitofp .f32 b : Ideal .f32) := ⟨(b.toInt : ℝ), rfl⟩

theorem lit_2 : Ideal.ofBits .f32 0x40000000#32 = ((2 : ℝ) : EReal) := by
  simp [Ideal.ofBits, Ideal.ieee, -EReal.coe_mul]; norm_num

theorem lit_32 : Ideal.ofBits .f32 0x42000000#32 = ((32 : ℝ) : EReal) := by
  simp [Ideal.ofBits, Ideal.ieee, -EReal.coe_mul]; norm_num

theorem lit_10000 : Ideal.ofBits .f32 0x461C4000#32 = ((10000 : ℝ) : EReal) := by
  simp [Ideal.ofBits, Ideal.ieee, -EReal.coe_mul]; norm_num

/-- The frequency of a pair is real. -/
theorem freq_real (k : BitVec 32) : IsReal (Ideal.pow (Ideal.ofBits .f32 0x461C4000#32)
    (Ideal.div (-(Ideal.ofBits .f32 0x40000000#32 * (FloatOps.sitofp .f32 k : Ideal .f32)))
      (Ideal.ofBits .f32 0x42000000#32))) := by
  rw [lit_10000, lit_2, lit_32]
  refine pow_real (IsReal.coe _) ?_
  refine IsReal.div (IsReal.neg (IsReal.mul (IsReal.coe _) (int_real k))) (IsReal.coe _) ?_
  exact_mod_cast (by norm_num : (32 : ℝ) ≠ 0)

/-- Every angle is real. -/
theorem angle_real (i : Fin 2048) (p : Fin 32) : IsReal ((val_main_v99 (F := Ideal) : FVec Ideal S2048x32 .f32) (ix2 i p)) := by
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_cst_12, val_main_cst_13, val_main_cst_14, val_main_cst_15]
  split
  · exact IsReal.mul (int_real _) (freq_real _)
  · exact IsReal.mul (int_real _) (freq_real _)

theorem cosRow_real (i : Fin 2304) (p : Fin 32) : IsReal (cosRow i p) := by
  rw [cosRow]
  split
  · exact IsReal.one
  · exact cos_real (angle_real _ _)

theorem sinRow_real (i : Fin 2304) (p : Fin 32) : IsReal (sinRow i p) := by
  rw [sinRow]
  split
  · exact IsReal.zero
  · exact sin_real (angle_real _ _)

variable (x0 : FVec Ideal S8x2304x768 .f32) (x1 : FVec Ideal S2x64 .f32)

/-- With a real gain every score is a real number. -/
theorem score_real (hg : ∀ k e, IsReal (x1 (ix2 k e))) (b : Fin 8) (i : Fin 2304) (n : Fin 8) (j : Fin 2304) :
    IsReal (score x0 x1 b i n j) := by
  refine IsReal.sum _ fun e _ => IsReal.mul (IsReal.mul ?_ (IsReal.coe _)) ?_
  · exact rot_real _ _ _ _ (cosRow_real i) (sinRow_real i) fun d => norm_real _ _ _ (hg 0 d)
  · exact rot_real _ _ _ _ (cosRow_real j) (sinRow_real j) fun d => norm_real _ _ _ (hg 1 d)

theorem lit_inf : Ideal.ofBits .f32 0x7F800000#32 = ⊤ := by
  simp [Ideal.ofBits, Ideal.ieee]

/-- What the precondition says: the gain is real at every lane. -/
theorem gain_real [Cert.Pre_real_gain.Facts] (h : Cert.Pre_real_gain.fn (F := Ideal) x0 x1 = fun _ => 1#1) (k : Fin 2) (e : Fin 64) :
    IsReal (x1 (ix2 k e)) := by
  have h1 := congrFun h ix0
  simp only [Cert.Pre_real_gain.fn] at h1
  have h2 := Host.reduce_andi_all _ _ _ _ _ h1 (ix2 k e)
  revert h2
  pointwise []
  rw [lit_inf]
  intro h2
  have h3 : (max (x1 (ix2 k e)) (-(x1 (ix2 k e))) : EReal) < ⊤ := by
    by_contra hc
    rw [show (decide ((FloatOps.absf (x1 (ix2 k e)) : EReal) < ⊤)) = false from decide_eq_false hc] at h2
    exact absurd h2 (by decide)
  refine IsReal.of_ne (fun ht => ?_) (fun hb => ?_)
  · rw [ht] at h3; exact absurd h3 (by simp)
  · rw [hb] at h3; exact absurd h3 (by simp)

end Cert.Proof.GqaRef

end
-- ==== Proof.lean ====
module

public import proofs.«01_k».proof.Defs
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import proofs.«01_k».proof.Proof.Gen.GqaRefIdeal.Read
public import proofs.«01_k».proof.Proof.Gen.InAtt
public import proofs.«01_k».proof.Proof.Gen.InAtt.Skeleton
public import proofs.«01_k».proof.Proof.Gen.InAtt.Launch
public import proofs.«01_k».proof.Proof.Gen.InAtt.Points
public import proofs.«01_k».proof.Proof.Gen.InAtt.Frame
public import proofs.«01_k».proof.Proof.Gen.InAttIdeal
public import proofs.«01_k».proof.Proof.Gen.InAttIdeal.Skeleton
public import proofs.«01_k».proof.Proof.Gen.InAttIdeal.Launch
public import proofs.«01_k».proof.Proof.Gen.InAttIdeal.Points
public import proofs.«01_k».proof.Proof.Gen.InAttIdeal.Frame
public import proofs.«01_k».proof.Proof.Gen.InAttRefIdeal
public import proofs.«01_k».proof.Proof.Gen.InAttIdeal.Value
public import proofs.«01_k».proof.Proof.Gen.InAttRefIdeal.Run
public import proofs.«01_k».proof.Proof.Gen.InAttRefIdeal.Read
public import proofs.«01_k».proof.Proof.Gen.Pre_real_gain
public import proofs.«01_k».proof.Proof.Gen.InRec
public import proofs.«01_k».proof.Proof.Gen.InRec.Skeleton
public import proofs.«01_k».proof.Proof.Gen.InRec.Launch
public import proofs.«01_k».proof.Proof.Gen.InRec.Points
public import proofs.«01_k».proof.Proof.Gen.InRec.Frame
public import proofs.«01_k».proof.Proof.Gen.InRecIdeal
public import proofs.«01_k».proof.Proof.Gen.InRecIdeal.Skeleton
public import proofs.«01_k».proof.Proof.Gen.InRecIdeal.Launch
public import proofs.«01_k».proof.Proof.Gen.InRecIdeal.Points
public import proofs.«01_k».proof.Proof.Gen.InRecIdeal.Frame
public import proofs.«01_k».proof.Proof.Gen.InRecIdeal.Value
public import proofs.«01_k».proof.Proof.Gen.InRecRefIdeal
public import proofs.«01_k».proof.Proof.Gen.InRecRefIdeal.Run
public import proofs.«01_k».proof.Proof.Gen.InRecRefIdeal.Read
public import proofs.«01_k».proof.Proof.Gen.OutMix
public import proofs.«01_k».proof.Proof.Gen.OutMix.Skeleton
public import proofs.«01_k».proof.Proof.Gen.OutMix.Launch
public import proofs.«01_k».proof.Proof.Gen.OutMix.Points
public import proofs.«01_k».proof.Proof.Gen.OutMix.Frame
public import proofs.«01_k».proof.Proof.Gen.OutMixIdeal
public import proofs.«01_k».proof.Proof.Gen.OutMixIdeal.Skeleton
public import proofs.«01_k».proof.Proof.Gen.OutMixIdeal.Launch
public import proofs.«01_k».proof.Proof.Gen.OutMixIdeal.Points
public import proofs.«01_k».proof.Proof.Gen.OutMixIdeal.Frame
public import proofs.«01_k».proof.Proof.OutMixRun
public import proofs.«01_k».proof.Proof.Gen.OutMixRefIdeal
public import proofs.«01_k».proof.Proof.Gen.OutMixRefIdeal.Run
public import proofs.«01_k».proof.Proof.Gen.OutMixRefIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_in_range
public import proofs.«01_k».proof.Proof.InAttValue
public import proofs.«01_k».proof.Proof.InRecValue
public import proofs.«01_k».proof.Proof.OutMixValue
public import proofs.«01_k».proof.Proof.ExpertsBitsRun
public import proofs.«01_k».proof.Proof.ExpertsRange
public import proofs.«01_k».proof.Proof.ExpertsValue
public import proofs.«01_k».proof.Proof.GqaReal
public import Idealize.ShloMosaic.Lib.Claim
public import Idealize.ShloMosaic.Adequacy
public import Idealize.ShloMosaic.Init

@[expose] public section

noncomputable section

namespace Cert.Proof

open Idealize.ShloMosaic Idealize.SL.Sem Cert.InAtt

/-- The reference of the attention's input projection runs to its end, its arguments unchanged and its semaphores at zero. -/
theorem inAttRef_frame : Cert.quiescent_InAttRefIdeal := fun m ρ _ => by
  refine θ_run_and ?_ ?_
  · run_from Cert.InAttRefIdeal.Value.run m ρ
  · exact (θ_run _ _ _).mono (fun r _ => sem_eq_zero_of_no_sems (by decide) r.2) (Cert.InAttRefIdeal.Value.run m ρ)

/-- The attention's input projection computes what its reference computes. -/
theorem inAtt_value : Cert.algebraic_InAttIdeal_InAttRefIdeal := by
  pair_intro
  · run_from Cert.InAttIdeal.Value.run_blocks m g
  · run_from Cert.InAttRefIdeal.Value.run m' g'
    · rw [InAtt.final3 m c, Cert.InAttRefIdeal.Read.val_main_v24_eq, (hagree c).2.2.2.2]
    · rw [InAtt.final4 m c, Cert.InAttRefIdeal.Read.val_main_v25_eq, (hagree c).2.2.2.2]

/-- The reference of the attention runs to its end, its arguments unchanged and its semaphores at zero. -/
theorem gqaRef_frame : Cert.quiescent_GqaRefIdeal := fun m ρ _ => by
  refine θ_run_and ?_ ?_
  · run_from Cert.GqaRefIdeal.Value.run m ρ
  · exact (θ_run _ _ _).mono (fun r _ => sem_eq_zero_of_no_sems (by decide) r.2) (Cert.GqaRefIdeal.Value.run m ρ)

/-- The attention computes what its reference computes, when the gain is real. -/
theorem gqa_value : Cert.algebraic_GqaIdeal_GqaRefIdeal_pre_real_gain (hPre_real_gain := Cert.Pre_real_gain.Gen.facts) := by
  pair_intro
  · run_from Cert.GqaIdeal.Value.run_blocks m g
  · run_from Cert.GqaRefIdeal.Value.run m' g'
    · rw [GqaValue.final8 m c, Cert.GqaRefIdeal.Read.val_main_v193_eq,
        show StableHlo.launchContents m' c (Proc.tc.devRef Cert.GqaRefIdeal.main_arg0) = GqaValue.aP m c from (hagree c).1,
        show StableHlo.launchContents m' c (Proc.tc.devRef Cert.GqaRefIdeal.main_arg1) = GqaValue.aG m c from (hagree c).2]
      exact GqaRef.result_at _ _ (GqaRef.score_real _ _ (GqaRef.gain_real _ _ (hpre c)))

/-- The reference of the recurrent layers' input projection runs to its end, its arguments unchanged and its semaphores at zero. -/
theorem inRecRef_frame : Cert.quiescent_InRecRefIdeal := fun m ρ _ => by
  refine θ_run_and ?_ ?_
  · run_from Cert.InRecRefIdeal.Value.run m ρ
  · exact (θ_run _ _ _).mono (fun r _ => sem_eq_zero_of_no_sems (by decide) r.2) (Cert.InRecRefIdeal.Value.run m ρ)

/-- The recurrent layers' input projection computes what its reference computes. -/
theorem inRec_value : Cert.algebraic_InRecIdeal_InRecRefIdeal := by
  pair_intro
  · run_from Cert.InRecIdeal.Value.run_blocks m g
  · run_from Cert.InRecRefIdeal.Value.run m' g'
    · rw [InRec.final3 m c, Cert.InRecRefIdeal.Read.val_main_v25_eq, (hagree c).2.2.2.2]
    · rw [InRec.final4 m c, Cert.InRecRefIdeal.Read.val_main_v26_eq, (hagree c).2.2.2.2]
    · rw [InRec.final5 m c, Cert.InRecRefIdeal.Read.val_main_v24_eq, (hagree c).2.2.2.2]

/-- The reference of the output projection runs to its end, its arguments unchanged and its semaphores at zero. -/
theorem outMixRef_frame : Cert.quiescent_OutMixRefIdeal := fun m ρ _ => by
  refine θ_run_and ?_ ?_
  · run_from Cert.OutMixRefIdeal.Value.run m ρ
  · exact (θ_run _ _ _).mono (fun r _ => sem_eq_zero_of_no_sems (by decide) r.2) (Cert.OutMixRefIdeal.Value.run m ρ)

/-- The output projection computes what its reference computes. -/
theorem outMix_value : Cert.algebraic_OutMixIdeal_OutMixRefIdeal := by
  pair_intro
  · run_from OutMix.run_blocks m g
  · run_from Cert.OutMixRefIdeal.Value.run m' g'
    · obtain ⟨h0, h1, h2, h3, h4, h5, h6, h7⟩ := hagree c
      rw [OutMix.final5 m c, Cert.OutMixRefIdeal.Read.val_main_v87_eq, h0, h1, h2, h3, h4, h5, h6, h7]
    · obtain ⟨h0, h1, h2, h3, h4, h5, h6, h7⟩ := hagree c
      rw [OutMix.final6 m c, Cert.OutMixRefIdeal.Read.val_main_v88_eq, h0, h1, h2, h3, h4, h5, h6, h7]

/-- The experts' kernel runs to its end, its arguments unchanged and its semaphores at zero, when each block's expert is one of the sixty-four. -/
theorem experts_frame : Cert.quiescent_Experts (hPre_in_range := Cert.Pre_in_range.Gen.facts) := fun m ρ h => by
  have hr : ExpertsBits.InRange (m (((0 : Dev Cert.Experts.nD).tc : Thread Cert.Experts.nD Cert.Experts.τ).loc Cert.Experts.main_arg1)) :=
    ExpertsRange.range_of_pre _ _ _ _ _ _ (h 0)
  exact (θ_run _ _ _).mono (fun r h => ⟨fun c => (h.1 c).2, h.2⟩) (ExpertsBits.run_full (ExpertsBits.tabs m hr) m ρ (ExpertsBits.holds m hr))

/-- And so does its idealization. -/
theorem expertsIdeal_frame : Cert.quiescent_ExpertsIdeal (hPre_in_range := Cert.Pre_in_range.Gen.facts) := fun m ρ h => by
  have hr : Experts.InRange (m (((0 : Dev Cert.ExpertsIdeal.nD).tc : Thread Cert.ExpertsIdeal.nD Cert.ExpertsIdeal.τ).loc Cert.ExpertsIdeal.main_arg1)) :=
    ExpertsRange.range_of_pre _ _ _ _ _ _ (h 0)
  exact (θ_run _ _ _).mono (fun r h => ⟨fun c => (h.1 c).2, h.2⟩) (Experts.run_full (Experts.tabs m hr) m ρ (Experts.holds m hr))

/-- The reference of the experts runs to its end, its arguments unchanged and its semaphores at zero. -/
theorem expertsRef_frame : Cert.quiescent_ExpertsRefIdeal := fun m ρ _ => by
  refine θ_run_and ?_ ?_
  · run_from Cert.ExpertsRefIdeal.Value.run m ρ
  · exact (θ_run _ _ _).mono (fun r _ => sem_eq_zero_of_no_sems (by decide) r.2) (Cert.ExpertsRefIdeal.Value.run m ρ)

/-- The experts' kernel computes what its reference computes, when each block's expert is one of the sixty-four. -/
theorem experts_value : Cert.algebraic_ExpertsIdeal_ExpertsRefIdeal (hPre_in_range := Cert.Pre_in_range.Gen.facts) := by
  intro m g m' g' hpre hagree
  have hr : Experts.InRange (m (((0 : Dev Cert.ExpertsIdeal.nD).tc : Thread Cert.ExpertsIdeal.nD Cert.ExpertsIdeal.τ).loc Cert.ExpertsIdeal.main_arg1)) :=
    ExpertsRange.range_of_pre _ _ _ _ _ _ (hpre 0)
  refine ⟨fun c => Cert.ExpertsRefIdeal.Read.val_main_v45 (F := Ideal) (Experts.aX m c) (m ((c.tc : Thread Cert.ExpertsIdeal.nD Cert.ExpertsIdeal.τ).loc Cert.ExpertsIdeal.main_arg1))
    (m ((c.tc : Thread Cert.ExpertsIdeal.nD Cert.ExpertsIdeal.τ).loc Cert.ExpertsIdeal.main_arg2)) (Experts.aW1 m c) (Experts.aW3 m c) (Experts.aW2 m c), ?_, ?_⟩
  · refine (θ_run _ _ _).mono (fun r h c => ?_) (Experts.run_full (Experts.tabs m hr) m g (Experts.holds m hr))
    exact ⟨(h.1 c).1.trans (Experts.final4 (Experts.tabs m hr) m g (Experts.holds m hr) hr c), (h.1 c).2⟩
  · refine (θ_run _ _ _).mono (fun r h c => ?_) (Cert.ExpertsRefIdeal.Value.run m' g')
    obtain ⟨h0, h1, h2, h3, h4, h5⟩ := hagree c
    refine ⟨(h c).1.trans ?_, (h c).2⟩
    refine (Cert.ExpertsRefIdeal.Read.val_main_v45_eq m' c).trans ?_
    rw [h0, h1, h2, h3, h4, h5]

theorem claim : Cert.Claim := ⟨Cert.Gqa.Gen.facts, Cert.GqaIdeal.Gen.facts, Cert.GqaRefIdeal.Gen.facts,
  Cert.InAtt.Gen.facts, Cert.InAttIdeal.Gen.facts, Cert.InAttRefIdeal.Gen.facts,
  Cert.InRec.Gen.facts, Cert.InRecIdeal.Gen.facts, Cert.InRecRefIdeal.Gen.facts,
  Cert.OutMix.Gen.facts, Cert.OutMixIdeal.Gen.facts, Cert.OutMixRefIdeal.Gen.facts,
  Cert.Experts.Gen.facts, Cert.ExpertsIdeal.Gen.facts, Cert.ExpertsRefIdeal.Gen.facts, Cert.Pre_real_gain.Gen.facts, Cert.Pre_in_range.Gen.facts,
  fun m ρ _ => Cert.Gqa.Gen.frame m ρ, fun m ρ _ => Cert.GqaIdeal.Gen.frame m ρ, fun m ρ _ => Cert.GqaIdeal.Gen.frame m ρ,
  gqaRef_frame, fun m ρ _ => gqaRef_frame m ρ trivial,
  fun m ρ _ => Cert.InAtt.Gen.frame m ρ, fun m ρ _ => Cert.InAttIdeal.Gen.frame m ρ, inAttRef_frame,
  fun m ρ _ => Cert.InRec.Gen.frame m ρ, fun m ρ _ => Cert.InRecIdeal.Gen.frame m ρ, inRecRef_frame,
  fun m ρ _ => Cert.OutMix.Gen.frame m ρ, fun m ρ _ => Cert.OutMixIdeal.Gen.frame m ρ, outMixRef_frame,
  experts_frame, expertsIdeal_frame, expertsRef_frame, fun m ρ _ => expertsRef_frame m ρ trivial,
  trivial, gqa_value, trivial, inAtt_value, trivial, inRec_value, trivial, outMix_value, trivial, experts_value⟩

end Cert.Proof

end
